-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores [hPre_finite_scores : Cert.Pre_finite_scores.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores [hPre_finite_scores : Cert.Pre_finite_scores.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Kernel2 [hPre_experts_in_range : Cert.Pre_experts_in_range.Facts] (m : (ℓ : Loc Cert.Kernel2.nD Cert.Kernel2.τ Cert.Kernel2.sig) → Buf (Elt Bits) ℓ) : Prop :=
  ∀ c : Dev Cert.Kernel2.nD,
    (Cert.Pre_experts_in_range.fn (F := Bits) (m ((c.tc : Thread Cert.Kernel2.nD Cert.Kernel2.τ).loc Cert.Kernel2.main_arg0)) (m ((c.tc : Thread Cert.Kernel2.nD Cert.Kernel2.τ).loc Cert.Kernel2.main_arg1)) (m ((c.tc : Thread Cert.Kernel2.nD Cert.Kernel2.τ).loc Cert.Kernel2.main_arg2)) (m ((c.tc : Thread Cert.Kernel2.nD Cert.Kernel2.τ).loc Cert.Kernel2.main_arg3)) (m ((c.tc : Thread Cert.Kernel2.nD Cert.Kernel2.τ).loc Cert.Kernel2.main_arg4)) (m ((c.tc : Thread Cert.Kernel2.nD Cert.Kernel2.τ).loc Cert.Kernel2.main_arg5)) (m ((c.tc : Thread Cert.Kernel2.nD Cert.Kernel2.τ).loc Cert.Kernel2.main_arg6))) = (fun _ => 1#1)

def Pre_Kernel2Ideal [hPre_experts_in_range : Cert.Pre_experts_in_range.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_experts_in_range.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_experts_in_range [hPre_experts_in_range : Cert.Pre_experts_in_range.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_experts_in_range.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite_scores [hKernelIdeal : Cert.KernelIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite_scores [hReferenceIdeal : Cert.ReferenceIdeal.Facts] [hPre_finite_scores : Cert.Pre_finite_scores.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] [hPre_experts_in_range : Cert.Pre_experts_in_range.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6))
      ∧ r.2.sem = fun _ => 0)

def quiescent_Kernel2Ideal [hKernel2Ideal : Cert.Kernel2Ideal.Facts] [hPre_experts_in_range : Cert.Pre_experts_in_range.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6))
      ∧ r.2.sem = fun _ => 0)

def quiescent_Reference2Ideal_pre_experts_in_range [hReference2Ideal : Cert.Reference2Ideal.Facts] [hPre_experts_in_range : Cert.Pre_experts_in_range.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_experts_in_range m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7))
      ∧ r.2.sem = fun _ => 0)

def preserves_Kernel_KernelIdeal : Prop :=
  True

def algebraic_KernelIdeal_ReferenceIdeal_pre_finite_scores [hKernelIdeal : Cert.KernelIdeal.Facts] [hReferenceIdeal : Cert.ReferenceIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v208) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal [hKernel2Ideal : Cert.Kernel2Ideal.Facts] [hReference2Ideal : Cert.Reference2Ideal.Facts] [hPre_experts_in_range : Cert.Pre_experts_in_range.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v60) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)) →
    ∃ (v0 : (c : Dev Cert.Kernel3Ideal.nD) → Buf (Elt Ideal) ((c.tc : Thread Cert.Kernel3Ideal.nD Cert.Kernel3Ideal.τ).loc Cert.Kernel3Ideal.main_v0_0)) (v1 : (c : Dev Cert.Kernel3Ideal.nD) → Buf (Elt Ideal) ((c.tc : Thread Cert.Kernel3Ideal.nD Cert.Kernel3Ideal.τ).loc Cert.Kernel3Ideal.main_v0_1)) (v2 : (c : Dev Cert.Kernel3Ideal.nD) → Buf (Elt Ideal) ((c.tc : Thread Cert.Kernel3Ideal.nD Cert.Kernel3Ideal.τ).loc Cert.Kernel3Ideal.main_v0_2)) (v3 : (c : Dev Cert.Kernel3Ideal.nD) → Buf (Elt Ideal) ((c.tc : Thread Cert.Kernel3Ideal.nD Cert.Kernel3Ideal.τ).loc Cert.Kernel3Ideal.main_v0_3)) (v4 : (c : Dev Cert.Kernel3Ideal.nD) → Buf (Elt Ideal) ((c.tc : Thread Cert.Kernel3Ideal.nD Cert.Kernel3Ideal.τ).loc Cert.Kernel3Ideal.main_v0_4)) (v5 : (c : Dev Cert.Kernel3Ideal.nD) → Buf (Elt Ideal) ((c.tc : Thread Cert.Kernel3Ideal.nD Cert.Kernel3Ideal.τ).loc Cert.Kernel3Ideal.main_v0_5)) (v6 : (c : Dev Cert.Kernel3Ideal.nD) → Buf (Elt Ideal) ((c.tc : Thread Cert.Kernel3Ideal.nD Cert.Kernel3Ideal.τ).loc Cert.Kernel3Ideal.main_v0_6)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0_0) = v0 c
          ∧ r.2.mem ((c.tc : Thread Cert.Kernel3Ideal.nD Cert.Kernel3Ideal.τ).loc Cert.Kernel3Ideal.main_v0_1) = v1 c
          ∧ r.2.mem ((c.tc : Thread Cert.Kernel3Ideal.nD Cert.Kernel3Ideal.τ).loc Cert.Kernel3Ideal.main_v0_2) = v2 c
          ∧ r.2.mem ((c.tc : Thread Cert.Kernel3Ideal.nD Cert.Kernel3Ideal.τ).loc Cert.Kernel3Ideal.main_v0_3) = v3 c
          ∧ r.2.mem ((c.tc : Thread Cert.Kernel3Ideal.nD Cert.Kernel3Ideal.τ).loc Cert.Kernel3Ideal.main_v0_4) = v4 c
          ∧ r.2.mem ((c.tc : Thread Cert.Kernel3Ideal.nD Cert.Kernel3Ideal.τ).loc Cert.Kernel3Ideal.main_v0_5) = v5 c
          ∧ r.2.mem ((c.tc : Thread Cert.Kernel3Ideal.nD Cert.Kernel3Ideal.τ).loc Cert.Kernel3Ideal.main_v0_6) = v6 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v23) = v0 c
          ∧ r.2.mem ((c.tc : Thread Cert.Reference3Ideal.nD Cert.Reference3Ideal.τ).loc Cert.Reference3Ideal.main_v24) = v1 c
          ∧ r.2.mem ((c.tc : Thread Cert.Reference3Ideal.nD Cert.Reference3Ideal.τ).loc Cert.Reference3Ideal.main_v8) = v2 c
          ∧ r.2.mem ((c.tc : Thread Cert.Reference3Ideal.nD Cert.Reference3Ideal.τ).loc Cert.Reference3Ideal.main_v15) = v3 c
          ∧ r.2.mem ((c.tc : Thread Cert.Reference3Ideal.nD Cert.Reference3Ideal.τ).loc Cert.Reference3Ideal.main_v27) = v4 c
          ∧ r.2.mem ((c.tc : Thread Cert.Reference3Ideal.nD Cert.Reference3Ideal.τ).loc Cert.Reference3Ideal.main_v28) = v5 c
          ∧ r.2.mem ((c.tc : Thread Cert.Reference3Ideal.nD Cert.Reference3Ideal.τ).loc Cert.Reference3Ideal.main_v29) = v6 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hPre_finite_scores : Cert.Pre_finite_scores.Facts) (hPre_experts_in_range : Cert.Pre_experts_in_range.Facts),
    quiescent_Kernel (hKernel := hKernel)
    ∧ quiescent_KernelIdeal (hKernelIdeal := hKernelIdeal)
    ∧ quiescent_KernelIdeal_pre_finite_scores (hKernelIdeal := hKernelIdeal) (hPre_finite_scores := hPre_finite_scores)
    ∧ quiescent_ReferenceIdeal (hReferenceIdeal := hReferenceIdeal)
    ∧ quiescent_ReferenceIdeal_pre_finite_scores (hReferenceIdeal := hReferenceIdeal) (hPre_finite_scores := hPre_finite_scores)
    ∧ quiescent_Kernel2 (hKernel2 := hKernel2) (hPre_experts_in_range := hPre_experts_in_range)
    ∧ quiescent_Kernel2Ideal (hKernel2Ideal := hKernel2Ideal) (hPre_experts_in_range := hPre_experts_in_range)
    ∧ quiescent_Reference2Ideal (hReference2Ideal := hReference2Ideal)
    ∧ quiescent_Reference2Ideal_pre_experts_in_range (hReference2Ideal := hReference2Ideal) (hPre_experts_in_range := hPre_experts_in_range)
    ∧ quiescent_Kernel3 (hKernel3 := hKernel3)
    ∧ quiescent_Kernel3Ideal (hKernel3Ideal := hKernel3Ideal)
    ∧ quiescent_Reference3Ideal (hReference3Ideal := hReference3Ideal)
    ∧ preserves_Kernel_KernelIdeal
    ∧ algebraic_KernelIdeal_ReferenceIdeal_pre_finite_scores (hKernelIdeal := hKernelIdeal) (hReferenceIdeal := hReferenceIdeal) (hPre_finite_scores := hPre_finite_scores)
    ∧ preserves_Kernel2_Kernel2Ideal
    ∧ algebraic_Kernel2Ideal_Reference2Ideal (hKernel2Ideal := hKernel2Ideal) (hReference2Ideal := hReference2Ideal) (hPre_experts_in_range := hPre_experts_in_range)
    ∧ preserves_Kernel3_Kernel3Ideal
    ∧ algebraic_Kernel3Ideal_Reference3Ideal (hKernel3Ideal := hKernel3Ideal) (hReference3Ideal := hReference3Ideal)
-- ==== Pre_experts_in_range.lean ====
abbrev S672 : Shape := ⟨1, ![672]⟩
abbrev S1 : Shape := ⟨1, ![1]⟩
abbrev S2752512x128 : Shape := ⟨2, ![2752512, 128]⟩
abbrev S32x1024x2048 : Shape := ⟨3, ![32, 1024, 2048]⟩
abbrev S32x1x2048 : Shape := ⟨3, ![32, 1, 2048]⟩
abbrev S32x1024x1024 : Shape := ⟨3, ![32, 1024, 1024]⟩
abbrev S32x1x1024 : Shape := ⟨3, ![32, 1, 1024]⟩
abbrev S_ : Shape := ⟨0, ![]⟩

class Facts : Prop where
  bcast_S_S672 : S_.BroadcastsInDim S672 (![] : Fin 0 → Fin S672.rank)
  reducesTo_S672_S_d0 : S672.ReducesTo [0] S_
  h_S_ : 0 < S_.numel

variable [Facts]

def fn {F : FTy → Type} [FloatOps F] (main_arg0 : IVec S672 32) (main_arg1 : IVec S1 32) (main_arg2 : FVec F S2752512x128 .f32) (main_arg3 : FVec F S32x1024x2048 .bf16) (main_arg4 : FVec F S32x1x2048 .f32) (main_arg5 : FVec F S32x1024x1024 .bf16) (main_arg6 : FVec F S32x1x1024 .f32) : IVec S_ 1 :=
  let main_c : IVec S_ 32 := constantI S_ 32 0#32
  let main_v0 : IVec S672 32 := broadcastInDim S672 ![] bcast_S_S672 main_c
  let main_v1 : IVec S672 1 := cmpi .sge main_arg0 main_v0
  let main_c_0 : IVec S_ 32 := constantI S_ 32 32#32
  let main_v2 : IVec S672 32 := broadcastInDim S672 ![] bcast_S_S672 main_c_0
  let main_v3 : IVec S672 1 := cmpi .slt main_arg0 main_v2
  let main_v4 : IVec S672 1 := andi main_v1 main_v3
  let main_c_1 : IVec S_ 1 := constantI S_ 1 1#1
  let main_v5 : IVec S_ 1 := (fun x v => Host.reduce IntOp.andi x v reducesTo_S672_S_d0 h_S_) main_v4 main_c_1
  main_v5
-- ==== Pre_finite_scores.lean ====
abbrev S81920x512 : Shape := ⟨2, ![81920, 512]⟩
abbrev S8x15x31 : Shape := ⟨3, ![8, 15, 31]⟩
abbrev S_ : Shape := ⟨0, ![]⟩

class Facts : Prop where
  bitsLt_bf16_f32 : FTy.bits .bf16 < FTy.bits .f32
  bcast_S_S81920x512 : S_.BroadcastsInDim S81920x512 (![] : Fin 0 → Fin S81920x512.rank)
  reducesTo_S81920x512_S_d0_1 : S81920x512.ReducesTo [0, 1] S_
  h_S_ : 0 < S_.numel
  bcast_S_S8x15x31 : S_.BroadcastsInDim S8x15x31 (![] : Fin 0 → Fin S8x15x31.rank)
  reducesTo_S8x15x31_S_d0_1_2 : S8x15x31.ReducesTo [0, 1, 2] S_

variable [Facts]

def fn {F : FTy → Type} [FloatOps F] (main_arg0 : FVec F S81920x512 .bf16) (main_arg1 : FVec F S81920x512 .bf16) (main_arg2 : FVec F S81920x512 .bf16) (main_arg3 : FVec F S8x15x31 .f32) : IVec S_ 1 :=
  let main_v0 : FVec F S81920x512 .f32 := (extf .f32 · bitsLt_bf16_f32) main_arg0
  let main_v1 : FVec F S81920x512 .f32 := (extf .f32 · bitsLt_bf16_f32) main_arg1
  let main_v2 : FVec F S81920x512 .f32 := Host.absf main_v0
  let main_cst : FVec F S_ .f32 := constant S_ .f32 0x7F800000#32
  let main_v3 : FVec F S81920x512 .f32 := broadcastInDim S81920x512 ![] bcast_S_S81920x512 main_cst
  let main_v4 : IVec S81920x512 1 := cmpf .olt main_v2 main_v3
  let main_c : IVec S_ 1 := constantI S_ 1 1#1
  let main_v5 : IVec S_ 1 := (fun x v => Host.reduce IntOp.andi x v reducesTo_S81920x512_S_d0_1 h_S_) main_v4 main_c
  let main_v6 : FVec F S81920x512 .f32 := Host.absf main_v1
  let main_cst_0 : FVec F S_ .f32 := constant S_ .f32 0x7F800000#32
  let main_v7 : FVec F S81920x512 .f32 := broadcastInDim S81920x512 ![] bcast_S_S81920x512 main_cst_0
  let main_v8 : IVec S81920x512 1 := cmpf .olt main_v6 main_v7
  let main_c_1 : IVec S_ 1 := constantI S_ 1 1#1
  let main_v9 : IVec S_ 1 := (fun x v => Host.reduce IntOp.andi x v reducesTo_S81920x512_S_d0_1 h_S_) main_v8 main_c_1
  let main_v10 : IVec S_ 1 := andi main_v5 main_v9
  let main_v11 : FVec F S8x15x31 .f32 := Host.absf main_arg3
  let main_cst_2 : FVec F S_ .f32 := constant S_ .f32 0x7F800000#32
  let main_v12 : FVec F S8x15x31 .f32 := broadcastInDim S8x15x31 ![] bcast_S_S8x15x31 main_cst_2
  let main_v13 : IVec S8x15x31 1 := cmpf .olt main_v11 main_v12
  let main_c_3 : IVec S_ 1 := constantI S_ 1 1#1
  let main_v14 : IVec S_ 1 := (fun x v => Host.reduce IntOp.andi x v reducesTo_S8x15x31_S_d0_1_2 h_S_) main_v13 main_c_3
  let main_v15 : IVec S_ 1 := andi main_v10 main_v14
  main_v15
-- ==== Kernel.lean ====
abbrev S81920x512 : Shape := ⟨2, ![81920, 512]⟩
abbrev S8x15x31 : Shape := ⟨3, ![8, 15, 31]⟩
abbrev S8x8 : Shape := ⟨2, ![8, 8]⟩
abbrev S64x64 : Shape := ⟨2, ![64, 64]⟩
abbrev S_ : Shape := ⟨0, ![]⟩
abbrev S8x8x1 : Shape := ⟨3, ![8, 8, 1]⟩
abbrev S8x8x8x31 : Shape := ⟨4, ![8, 8, 8, 31]⟩
abbrev S64x64x1 : Shape := ⟨3, ![64, 64, 1]⟩
abbrev S8x8x8x64x64 : Shape := ⟨5, ![8, 8, 8, 64, 64]⟩
abbrev S1x1x1x64x64 : Shape := ⟨5, ![1, 1, 1, 64, 64]⟩
abbrev S8x8x64x8x64 : Shape := ⟨5, ![8, 8, 64, 8, 64]⟩
abbrev S8x8x64x512 : Shape := ⟨4, ![8, 8, 64, 512]⟩
abbrev S512x128 : Shape := ⟨2, ![512, 128]⟩
abbrev S8x2x64x512 : Shape := ⟨4, ![8, 2, 64, 512]⟩
abbrev S1536x128 : Shape := ⟨2, ![1536, 128]⟩
abbrev S64x128 : Shape := ⟨2, ![64, 128]⟩
abbrev S64x512 : Shape := ⟨2, ![64, 512]⟩
abbrev S1x1x64x512 : Shape := ⟨4, ![1, 1, 64, 512]⟩
abbrev S64 : Shape := ⟨1, ![64]⟩
abbrev S64x1 : Shape := ⟨2, ![64, 1]⟩

abbrev nBuf : Space → Nat
  | .hbm => 30
  | .vmem => 20
  | .smem => 0
  | _ => 0

abbrev bufTy : (tb : Table) → Fin (tcTables nBuf tb) → BufTy
  | .hbm, ⟨0, _⟩ => ⟨S81920x512, .bf16⟩
  | .hbm, ⟨1, _⟩ => ⟨S81920x512, .bf16⟩
  | .hbm, ⟨2, _⟩ => ⟨S81920x512, .bf16⟩
  | .hbm, ⟨3, _⟩ => ⟨S8x15x31, .f32⟩
  | .hbm, ⟨4, _⟩ => ⟨S8x8, .i32⟩
  | .hbm, ⟨5, _⟩ => ⟨S8x8, .i1⟩
  | .hbm, ⟨6, _⟩ => ⟨S64x64, .i32⟩
  | .hbm, ⟨7, _⟩ => ⟨S64x64, .i1⟩
  | .hbm, ⟨8, _⟩ => ⟨S64x64, .i1⟩
  | .hbm, ⟨9, _⟩ => ⟨S_, .i32⟩
  | .hbm, ⟨10, _⟩ => ⟨S8x8, .i32⟩
  | .hbm, ⟨11, _⟩ => ⟨S8x8, .i32⟩
  | .hbm, ⟨12, _⟩ => ⟨S8x8, .i32⟩
  | .hbm, ⟨13, _⟩ => ⟨S8x8x1, .i32⟩
  | .hbm, ⟨14, _⟩ => ⟨S8x8x8x31, .f32⟩
  | .hbm, ⟨15, _⟩ => ⟨S_, .i32⟩
  | .hbm, ⟨16, _⟩ => ⟨S64x64, .i32⟩
  | .hbm, ⟨17, _⟩ => ⟨S64x64, .i32⟩
  | .hbm, ⟨18, _⟩ => ⟨S64x64, .i32⟩
  | .hbm, ⟨19, _⟩ => ⟨S64x64x1, .i32⟩
  | .hbm, ⟨20, _⟩ => ⟨S8x8x8x64x64, .f32⟩
  | .hbm, ⟨21, _⟩ => ⟨S1x1x1x64x64, .i1⟩
  | .hbm, ⟨22, _⟩ => ⟨S_, .f32⟩
  | .hbm, ⟨23, _⟩ => ⟨S_, .f32⟩
  | .hbm, ⟨24, _⟩ => ⟨S8x8x8x64x64, .i1⟩
  | .hbm, ⟨25, _⟩ => ⟨S8x8x8x64x64, .f32⟩
  | .hbm, ⟨26, _⟩ => ⟨S8x8x8x64x64, .f32⟩
  | .hbm, ⟨27, _⟩ => ⟨S8x8x64x8x64, .f32⟩
  | .hbm, ⟨28, _⟩ => ⟨S8x8x64x512, .f32⟩
  | .hbm, ⟨29, _⟩ => ⟨S81920x512, .bf16⟩
  | .local _ .vmem, ⟨0, _⟩ => ⟨S512x128, .bf16⟩
  | .local _ .vmem, ⟨1, _⟩ => ⟨S512x128, .bf16⟩
  | .local _ .vmem, ⟨2, _⟩ => ⟨S512x128, .bf16⟩
  | .local _ .vmem, ⟨3, _⟩ => ⟨S512x128, .bf16⟩
  | .local _ .vmem, ⟨4, _⟩ => ⟨S512x128, .bf16⟩
  | .local _ .vmem, ⟨5, _⟩ => ⟨S512x128, .bf16⟩
  | .local _ .vmem, ⟨6, _⟩ => ⟨S512x128, .bf16⟩
  | .local _ .vmem, ⟨7, _⟩ => ⟨S512x128, .bf16⟩
  | .local _ .vmem, ⟨8, _⟩ => ⟨S512x128, .bf16⟩
  | .local _ .vmem, ⟨9, _⟩ => ⟨S512x128, .bf16⟩
  | .local _ .vmem, ⟨10, _⟩ => ⟨S512x128, .bf16⟩
  | .local _ .vmem, ⟨11, _⟩ => ⟨S512x128, .bf16⟩
  | .local _ .vmem, ⟨12, _⟩ => ⟨S512x128, .bf16⟩
  | .local _ .vmem, ⟨13, _⟩ => ⟨S512x128, .bf16⟩
  | .local _ .vmem, ⟨14, _⟩ => ⟨S8x2x64x512, .f32⟩
  | .local _ .vmem, ⟨15, _⟩ => ⟨S8x2x64x512, .f32⟩
  | .local _ .vmem, ⟨16, _⟩ => ⟨S512x128, .bf16⟩
  | .local _ .vmem, ⟨17, _⟩ => ⟨S512x128, .bf16⟩
  | .local _ .vmem, ⟨18, _⟩ => ⟨S1536x128, .bf16⟩
  | .local _ .vmem, ⟨19, _⟩ => ⟨S1536x128, .bf16⟩
  | _, _ => ⟨S81920x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_c_0 : Ref sig .tc := ⟨.hbm, 5, rfl⟩
abbrev main_c_1 : Ref sig .tc := ⟨.hbm, 6, rfl⟩
abbrev main_c_2 : Ref sig .tc := ⟨.hbm, 7, rfl⟩
abbrev main_c_3 : Ref sig .tc := ⟨.hbm, 8, rfl⟩
abbrev main_c_4 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_c_5 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst : Ref sig .tc := ⟨.hbm, 22, rfl⟩
abbrev main_call0_v0 : Ref sig .tc := ⟨.hbm, 23, rfl⟩
abbrev main_call0_v1 : Ref sig .tc := ⟨.hbm, 24, rfl⟩
abbrev main_call0_v2 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_scratch0 : Ref sig .tc := ⟨.vmem, 18, rfl⟩
abbrev cc0_scratch1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![4, 160], ![false, false]⟩

def k0_mult1 (i : grid0.Coords) : BitVec 32 :=
  let arg1 : BitVec 32 := BitVec.ofNat 32 (i 1).val
  let c128_i32_0 : BitVec 32 := 128#32
  let v2 : BitVec 1 := Scalar.cmpi .slt arg1 c128_i32_0
  let c16_i32_1 : BitVec 32 := 16#32
  let c8_i32_2 : BitVec 32 := 8#32
  let v6 : BitVec 32 := Scalar.select v2 c16_i32_1 c8_i32_2
  let c8_i32_3 : BitVec 32 := 8#32
  let v7 : BitVec 32 := Scalar.muli v6 c8_i32_3
  let c8_i32_27 : BitVec 32 := 8#32
  let v36 : BitVec 32 := Scalar.subi v7 c8_i32_27
  let c0_i32_28 : BitVec 32 := 0#32
  let c0_i32 : BitVec 32 := 0#32
  let v3 : BitVec 32 := Scalar.subi arg1 c0_i32
  let c16_i32 : BitVec 32 := 16#32
  let v4 : BitVec 32 := Scalar.remsi v3 c16_i32
  let c128_i32 : BitVec 32 := 128#32
  let v0 : BitVec 32 := Scalar.subi arg1 c128_i32
  let c8_i32 : BitVec 32 := 8#32
  let v1 : BitVec 32 := Scalar.remsi v0 c8_i32
  let v5 : BitVec 32 := Scalar.select v2 v4 v1
  let c8_i32_25 : BitVec 32 := 8#32
  let v33 : BitVec 32 := Scalar.muli v5 c8_i32_25
  let c0_i32_26 : BitVec 32 := 0#32
  let v34 : BitVec 32 := Scalar.addi v33 c0_i32_26
  let c4_i32 : BitVec 32 := 4#32
  let v35 : BitVec 32 := Scalar.subi v34 c4_i32
  let v37 : BitVec 32 := Scalar.maxsi c0_i32_28 v35
  let v38 : BitVec 32 := Scalar.minsi v36 v37
  let c8_i32_29 : BitVec 32 := 8#32
  let v39 : BitVec 32 := Scalar.muli v5 c8_i32_29
  let v40 : BitVec 32 := Scalar.subi v38 v39
  let c8_i32_30 : BitVec 32 := 8#32
  let v41 : BitVec 32 := Scalar.addi v40 c8_i32_30
  let c64_i32 : BitVec 32 := 64#32
  let v42 : BitVec 32 := Scalar.muli v41 c64_i32
  v42
def k0_off1 (i : grid0.Coords) (c0_i32_26 : BitVec 32) : Fin 2 → Nat :=
  let arg1 : BitVec 32 := BitVec.ofNat 32 (i 1).val
  let c128_i32_0 : BitVec 32 := 128#32
  let v2 : BitVec 1 := Scalar.cmpi .slt arg1 c128_i32_0
  let c16_i32_1 : BitVec 32 := 16#32
  let c8_i32_2 : BitVec 32 := 8#32
  let v6 : BitVec 32 := Scalar.select v2 c16_i32_1 c8_i32_2
  let c8_i32_3 : BitVec 32 := 8#32
  let v7 : BitVec 32 := Scalar.muli v6 c8_i32_3
  let c8_i32_27 : BitVec 32 := 8#32
  let v36 : BitVec 32 := Scalar.subi v7 c8_i32_27
  let c0_i32_28 : BitVec 32 := 0#32
  let c0_i32 : BitVec 32 := 0#32
  let v3 : BitVec 32 := Scalar.subi arg1 c0_i32
  let c16_i32 : BitVec 32 := 16#32
  let v4 : BitVec 32 := Scalar.remsi v3 c16_i32
  let c128_i32 : BitVec 32 := 128#32
  let v0 : BitVec 32 := Scalar.subi arg1 c128_i32
  let c8_i32 : BitVec 32 := 8#32
  let v1 : BitVec 32 := Scalar.remsi v0 c8_i32
  let v5 : BitVec 32 := Scalar.select v2 v4 v1
  let c8_i32_25 : BitVec 32 := 8#32
  let v33 : BitVec 32 := Scalar.muli v5 c8_i32_25
  let v34 : BitVec 32 := Scalar.addi v33 c0_i32_26
  let c4_i32 : BitVec 32 := 4#32
  let v35 : BitVec 32 := Scalar.subi v34 c4_i32
  let v37 : BitVec 32 := Scalar.maxsi c0_i32_28 v35
  let v38 : BitVec 32 := Scalar.minsi v36 v37
  let c8_i32_29 : BitVec 32 := 8#32
  let v39 : BitVec 32 := Scalar.muli v5 c8_i32_29
  let v40 : BitVec 32 := Scalar.subi v38 v39
  let c8_i32_30 : BitVec 32 := 8#32
  let v41 : BitVec 32 := Scalar.addi v40 c8_i32_30
  let c64_i32 : BitVec 32 := 64#32
  let v42 : BitVec 32 := Scalar.muli v41 c64_i32
  let v43 : BitVec 32 := v42
  let v46 : Index := Scalar.indexCast v43
  let c0_33 : Index := 0#32
  ![v46.toNat, 0]
def k0_off2 (i : grid0.Coords) (c0_i32_26 : BitVec 32) : Fin 4 → Nat :=
  let arg1 : BitVec 32 := BitVec.ofNat 32 (i 1).val
  let c128_i32_0 : BitVec 32 := 128#32
  let v2 : BitVec 1 := Scalar.cmpi .slt arg1 c128_i32_0
  let c0_i32 : BitVec 32 := 0#32
  let v3 : BitVec 32 := Scalar.subi arg1 c0_i32
  let c16_i32 : BitVec 32 := 16#32
  let v4 : BitVec 32 := Scalar.remsi v3 c16_i32
  let c128_i32 : BitVec 32 := 128#32
  let v0 : BitVec 32 := Scalar.subi arg1 c128_i32
  let c8_i32 : BitVec 32 := 8#32
  let v1 : BitVec 32 := Scalar.remsi v0 c8_i32
  let v5 : BitVec 32 := Scalar.select v2 v4 v1
  let c8_i32_25 : BitVec 32 := 8#32
  let v33 : BitVec 32 := Scalar.muli v5 c8_i32_25
  let v34 : BitVec 32 := Scalar.addi v33 c0_i32_26
  let c16_i32_1 : BitVec 32 := 16#32
  let c8_i32_2 : BitVec 32 := 8#32
  let v6 : BitVec 32 := Scalar.select v2 c16_i32_1 c8_i32_2
  let c8_i32_3 : BitVec 32 := 8#32
  let v7 : BitVec 32 := Scalar.muli v6 c8_i32_3
  let c8_i32_27 : BitVec 32 := 8#32
  let v36 : BitVec 32 := Scalar.subi v7 c8_i32_27
  let c0_i32_28 : BitVec 32 := 0#32
  let c4_i32 : BitVec 32 := 4#32
  let v35 : BitVec 32 := Scalar.subi v34 c4_i32
  let v37 : BitVec 32 := Scalar.maxsi c0_i32_28 v35
  let v38 : BitVec 32 := Scalar.minsi v36 v37
  let v44 : BitVec 32 := Scalar.subi v34 v38
  let v58 : Index := Scalar.indexCast v44
  let c0_38 : Index := 0#32
  let c0_39 : Index := 0#32
  let c0_40 : Index := 0#32
  ![v58.toNat, 0, 0, 0]
def k0_off3 (i : grid0.Coords) (c0_i32_26 : BitVec 32) : Fin 4 → Nat :=
  let arg1 : BitVec 32 := BitVec.ofNat 32 (i 1).val
  let c128_i32_0 : BitVec 32 := 128#32
  let v2 : BitVec 1 := Scalar.cmpi .slt arg1 c128_i32_0
  let c0_i32 : BitVec 32 := 0#32
  let v3 : BitVec 32 := Scalar.subi arg1 c0_i32
  let c16_i32 : BitVec 32 := 16#32
  let v4 : BitVec 32 := Scalar.remsi v3 c16_i32
  let c128_i32 : BitVec 32 := 128#32
  let v0 : BitVec 32 := Scalar.subi arg1 c128_i32
  let c8_i32 : BitVec 32 := 8#32
  let v1 : BitVec 32 := Scalar.remsi v0 c8_i32
  let v5 : BitVec 32 := Scalar.select v2 v4 v1
  let c8_i32_25 : BitVec 32 := 8#32
  let v33 : BitVec 32 := Scalar.muli v5 c8_i32_25
  let v34 : BitVec 32 := Scalar.addi v33 c0_i32_26
  let c16_i32_1 : BitVec 32 := 16#32
  let c8_i32_2 : BitVec 32 := 8#32
  let v6 : BitVec 32 := Scalar.select v2 c16_i32_1 c8_i32_2
  let c8_i32_3 : BitVec 32 := 8#32
  let v7 : BitVec 32 := Scalar.muli v6 c8_i32_3
  let c8_i32_27 : BitVec 32 := 8#32
  let v36 : BitVec 32 := Scalar.subi v7 c8_i32_27
  let c0_i32_28 : BitVec 32 := 0#32
  let c4_i32 : BitVec 32 := 4#32
  let v35 : BitVec 32 := Scalar.subi v34 c4_i32
  let v37 : BitVec 32 := Scalar.maxsi c0_i32_28 v35
  let v38 : BitVec 32 := Scalar.minsi v36 v37
  let v44 : BitVec 32 := Scalar.subi v34 v38
  let v81 : Index := Scalar.indexCast v44
  let c1 : Index := 1#32
  let c0_48 : Index := 0#32
  let c0_49 : Index := 0#32
  ![v81.toNat, 1, 0, 0]
def k0_mult2 (i : grid0.Coords) : BitVec 32 :=
  let arg1 : BitVec 32 := BitVec.ofNat 32 (i 1).val
  let c128_i32_0 : BitVec 32 := 128#32
  let v2 : BitVec 1 := Scalar.cmpi .slt arg1 c128_i32_0
  let c16_i32_1 : BitVec 32 := 16#32
  let c8_i32_2 : BitVec 32 := 8#32
  let v6 : BitVec 32 := Scalar.select v2 c16_i32_1 c8_i32_2
  let c8_i32_3 : BitVec 32 := 8#32
  let v7 : BitVec 32 := Scalar.muli v6 c8_i32_3
  let c8_i32_57 : BitVec 32 := 8#32
  let v102 : BitVec 32 := Scalar.subi v7 c8_i32_57
  let c0_i32_58 : BitVec 32 := 0#32
  let c0_i32 : BitVec 32 := 0#32
  let v3 : BitVec 32 := Scalar.subi arg1 c0_i32
  let c16_i32 : BitVec 32 := 16#32
  let v4 : BitVec 32 := Scalar.remsi v3 c16_i32
  let c128_i32 : BitVec 32 := 128#32
  let v0 : BitVec 32 := Scalar.subi arg1 c128_i32
  let c8_i32 : BitVec 32 := 8#32
  let v1 : BitVec 32 := Scalar.remsi v0 c8_i32
  let v5 : BitVec 32 := Scalar.select v2 v4 v1
  let c8_i32_55 : BitVec 32 := 8#32
  let v99 : BitVec 32 := Scalar.muli v5 c8_i32_55
  let c1_i32 : BitVec 32 := 1#32
  let v100 : BitVec 32 := Scalar.addi v99 c1_i32
  let c4_i32_56 : BitVec 32 := 4#32
  let v101 : BitVec 32 := Scalar.subi v100 c4_i32_56
  let v103 : BitVec 32 := Scalar.maxsi c0_i32_58 v101
  let v104 : BitVec 32 := Scalar.minsi v102 v103
  let c8_i32_59 : BitVec 32 := 8#32
  let v105 : BitVec 32 := Scalar.muli v5 c8_i32_59
  let v106 : BitVec 32 := Scalar.subi v104 v105
  let c8_i32_60 : BitVec 32 := 8#32
  let v107 : BitVec 32 := Scalar.addi v106 c8_i32_60
  let c64_i32_61 : BitVec 32 := 64#32
  let v108 : BitVec 32 := Scalar.muli v107 c64_i32_61
  v108
def k0_mult3 (i : grid0.Coords) : BitVec 32 :=
  let arg1 : BitVec 32 := BitVec.ofNat 32 (i 1).val
  let c128_i32_0 : BitVec 32 := 128#32
  let v2 : BitVec 1 := Scalar.cmpi .slt arg1 c128_i32_0
  let c16_i32_1 : BitVec 32 := 16#32
  let c8_i32_2 : BitVec 32 := 8#32
  let v6 : BitVec 32 := Scalar.select v2 c16_i32_1 c8_i32_2
  let c8_i32_3 : BitVec 32 := 8#32
  let v7 : BitVec 32 := Scalar.muli v6 c8_i32_3
  let c8_i32_89 : BitVec 32 := 8#32
  let v168 : BitVec 32 := Scalar.subi v7 c8_i32_89
  let c0_i32_90 : BitVec 32 := 0#32
  let c0_i32 : BitVec 32 := 0#32
  let v3 : BitVec 32 := Scalar.subi arg1 c0_i32
  let c16_i32 : BitVec 32 := 16#32
  let v4 : BitVec 32 := Scalar.remsi v3 c16_i32
  let c128_i32 : BitVec 32 := 128#32
  let v0 : BitVec 32 := Scalar.subi arg1 c128_i32
  let c8_i32 : BitVec 32 := 8#32
  let v1 : BitVec 32 := Scalar.remsi v0 c8_i32
  let v5 : BitVec 32 := Scalar.select v2 v4 v1
  let c8_i32_87 : BitVec 32 := 8#32
  let v165 : BitVec 32 := Scalar.muli v5 c8_i32_87
  let c2_i32 : BitVec 32 := 2#32
  let v166 : BitVec 32 := Scalar.addi v165 c2_i32
  let c4_i32_88 : BitVec 32 := 4#32
  let v167 : BitVec 32 := Scalar.subi v166 c4_i32_88
  let v169 : BitVec 32 := Scalar.maxsi c0_i32_90 v167
  let v170 : BitVec 32 := Scalar.minsi v168 v169
  let c8_i32_91 : BitVec 32 := 8#32
  let v171 : BitVec 32 := Scalar.muli v5 c8_i32_91
  let v172 : BitVec 32 := Scalar.subi v170 v171
  let c8_i32_92 : BitVec 32 := 8#32
  let v173 : BitVec 32 := Scalar.addi v172 c8_i32_92
  let c64_i32_93 : BitVec 32 := 64#32
  let v174 : BitVec 32 := Scalar.muli v173 c64_i32_93
  v174
def k0_mult4 (i : grid0.Coords) : BitVec 32 :=
  let arg1 : BitVec 32 := BitVec.ofNat 32 (i 1).val
  let c128_i32_0 : BitVec 32 := 128#32
  let v2 : BitVec 1 := Scalar.cmpi .slt arg1 c128_i32_0
  let c16_i32_1 : BitVec 32 := 16#32
  let c8_i32_2 : BitVec 32 := 8#32
  let v6 : BitVec 32 := Scalar.select v2 c16_i32_1 c8_i32_2
  let c8_i32_3 : BitVec 32 := 8#32
  let v7 : BitVec 32 := Scalar.muli v6 c8_i32_3
  let c8_i32_121 : BitVec 32 := 8#32
  let v234 : BitVec 32 := Scalar.subi v7 c8_i32_121
  let c0_i32_122 : BitVec 32 := 0#32
  let c0_i32 : BitVec 32 := 0#32
  let v3 : BitVec 32 := Scalar.subi arg1 c0_i32
  let c16_i32 : BitVec 32 := 16#32
  let v4 : BitVec 32 := Scalar.remsi v3 c16_i32
  let c128_i32 : BitVec 32 := 128#32
  let v0 : BitVec 32 := Scalar.subi arg1 c128_i32
  let c8_i32 : BitVec 32 := 8#32
  let v1 : BitVec 32 := Scalar.remsi v0 c8_i32
  let v5 : BitVec 32 := Scalar.select v2 v4 v1
  let c8_i32_119 : BitVec 32 := 8#32
  let v231 : BitVec 32 := Scalar.muli v5 c8_i32_119
  let c3_i32 : BitVec 32 := 3#32
  let v232 : BitVec 32 := Scalar.addi v231 c3_i32
  let c4_i32_120 : BitVec 32 := 4#32
  let v233 : BitVec 32 := Scalar.subi v232 c4_i32_120
  let v235 : BitVec 32 := Scalar.maxsi c0_i32_122 v233
  let v236 : BitVec 32 := Scalar.minsi v234 v235
  let c8_i32_123 : BitVec 32 := 8#32
  let v237 : BitVec 32 := Scalar.muli v5 c8_i32_123
  let v238 : BitVec 32 := Scalar.subi v236 v237
  let c8_i32_124 : BitVec 32 := 8#32
  let v239 : BitVec 32 := Scalar.addi v238 c8_i32_124
  let c64_i32_125 : BitVec 32 := 64#32
  let v240 : BitVec 32 := Scalar.muli v239 c64_i32_125
  v240
def k0_mult5 (i : grid0.Coords) : BitVec 32 :=
  let arg1 : BitVec 32 := BitVec.ofNat 32 (i 1).val
  let c128_i32_0 : BitVec 32 := 128#32
  let v2 : BitVec 1 := Scalar.cmpi .slt arg1 c128_i32_0
  let c16_i32_1 : BitVec 32 := 16#32
  let c8_i32_2 : BitVec 32 := 8#32
  let v6 : BitVec 32 := Scalar.select v2 c16_i32_1 c8_i32_2
  let c8_i32_3 : BitVec 32 := 8#32
  let v7 : BitVec 32 := Scalar.muli v6 c8_i32_3
  let c8_i32_154 : BitVec 32 := 8#32
  let v300 : BitVec 32 := Scalar.subi v7 c8_i32_154
  let c0_i32_155 : BitVec 32 := 0#32
  let c0_i32 : BitVec 32 := 0#32
  let v3 : BitVec 32 := Scalar.subi arg1 c0_i32
  let c16_i32 : BitVec 32 := 16#32
  let v4 : BitVec 32 := Scalar.remsi v3 c16_i32
  let c128_i32 : BitVec 32 := 128#32
  let v0 : BitVec 32 := Scalar.subi arg1 c128_i32
  let c8_i32 : BitVec 32 := 8#32
  let v1 : BitVec 32 := Scalar.remsi v0 c8_i32
  let v5 : BitVec 32 := Scalar.select v2 v4 v1
  let c8_i32_151 : BitVec 32 := 8#32
  let v297 : BitVec 32 := Scalar.muli v5 c8_i32_151
  let c4_i32_152 : BitVec 32 := 4#32
  let v298 : BitVec 32 := Scalar.addi v297 c4_i32_152
  let c4_i32_153 : BitVec 32 := 4#32
  let v299 : BitVec 32 := Scalar.subi v298 c4_i32_153
  let v301 : BitVec 32 := Scalar.maxsi c0_i32_155 v299
  let v302 : BitVec 32 := Scalar.minsi v300 v301
  let c8_i32_156 : BitVec 32 := 8#32
  let v303 : BitVec 32 := Scalar.muli v5 c8_i32_156
  let v304 : BitVec 32 := Scalar.subi v302 v303
  let c8_i32_157 : BitVec 32 := 8#32
  let v305 : BitVec 32 := Scalar.addi v304 c8_i32_157
  let c64_i32_158 : BitVec 32 := 64#32
  let v306 : BitVec 32 := Scalar.muli v305 c64_i32_158
  v306
def k0_mult6 (i : grid0.Coords) : BitVec 32 :=
  let arg1 : BitVec 32 := BitVec.ofNat 32 (i 1).val
  let c128_i32_0 : BitVec 32 := 128#32
  let v2 : BitVec 1 := Scalar.cmpi .slt arg1 c128_i32_0
  let c16_i32_1 : BitVec 32 := 16#32
  let c8_i32_2 : BitVec 32 := 8#32
  let v6 : BitVec 32 := Scalar.select v2 c16_i32_1 c8_i32_2
  let c8_i32_3 : BitVec 32 := 8#32
  let v7 : BitVec 32 := Scalar.muli v6 c8_i32_3
  let c8_i32_186 : BitVec 32 := 8#32
  let v366 : BitVec 32 := Scalar.subi v7 c8_i32_186
  let c0_i32_187 : BitVec 32 := 0#32
  let c0_i32 : BitVec 32 := 0#32
  let v3 : BitVec 32 := Scalar.subi arg1 c0_i32
  let c16_i32 : BitVec 32 := 16#32
  let v4 : BitVec 32 := Scalar.remsi v3 c16_i32
  let c128_i32 : BitVec 32 := 128#32
  let v0 : BitVec 32 := Scalar.subi arg1 c128_i32
  let c8_i32 : BitVec 32 := 8#32
  let v1 : BitVec 32 := Scalar.remsi v0 c8_i32
  let v5 : BitVec 32 := Scalar.select v2 v4 v1
  let c8_i32_184 : BitVec 32 := 8#32
  let v363 : BitVec 32 := Scalar.muli v5 c8_i32_184
  let c5_i32 : BitVec 32 := 5#32
  let v364 : BitVec 32 := Scalar.addi v363 c5_i32
  let c4_i32_185 : BitVec 32 := 4#32
  let v365 : BitVec 32 := Scalar.subi v364 c4_i32_185
  let v367 : BitVec 32 := Scalar.maxsi c0_i32_187 v365
  let v368 : BitVec 32 := Scalar.minsi v366 v367
  let c8_i32_188 : BitVec 32 := 8#32
  let v369 : BitVec 32 := Scalar.muli v5 c8_i32_188
  let v370 : BitVec 32 := Scalar.subi v368 v369
  let c8_i32_189 : BitVec 32 := 8#32
  let v371 : BitVec 32 := Scalar.addi v370 c8_i32_189
  let c64_i32_190 : BitVec 32 := 64#32
  let v372 : BitVec 32 := Scalar.muli v371 c64_i32_190
  v372
def k0_mult7 (i : grid0.Coords) : BitVec 32 :=
  let arg1 : BitVec 32 := BitVec.ofNat 32 (i 1).val
  let c128_i32_0 : BitVec 32 := 128#32
  let v2 : BitVec 1 := Scalar.cmpi .slt arg1 c128_i32_0
  let c16_i32_1 : BitVec 32 := 16#32
  let c8_i32_2 : BitVec 32 := 8#32
  let v6 : BitVec 32 := Scalar.select v2 c16_i32_1 c8_i32_2
  let c8_i32_3 : BitVec 32 := 8#32
  let v7 : BitVec 32 := Scalar.muli v6 c8_i32_3
  let c8_i32_218 : BitVec 32 := 8#32
  let v432 : BitVec 32 := Scalar.subi v7 c8_i32_218
  let c0_i32_219 : BitVec 32 := 0#32
  let c0_i32 : BitVec 32 := 0#32
  let v3 : BitVec 32 := Scalar.subi arg1 c0_i32
  let c16_i32 : BitVec 32 := 16#32
  let v4 : BitVec 32 := Scalar.remsi v3 c16_i32
  let c128_i32 : BitVec 32 := 128#32
  let v0 : BitVec 32 := Scalar.subi arg1 c128_i32
  let c8_i32 : BitVec 32 := 8#32
  let v1 : BitVec 32 := Scalar.remsi v0 c8_i32
  let v5 : BitVec 32 := Scalar.select v2 v4 v1
  let c8_i32_216 : BitVec 32 := 8#32
  let v429 : BitVec 32 := Scalar.muli v5 c8_i32_216
  let c6_i32 : BitVec 32 := 6#32
  let v430 : BitVec 32 := Scalar.addi v429 c6_i32
  let c4_i32_217 : BitVec 32 := 4#32
  let v431 : BitVec 32 := Scalar.subi v430 c4_i32_217
  let v433 : BitVec 32 := Scalar.maxsi c0_i32_219 v431
  let v434 : BitVec 32 := Scalar.minsi v432 v433
  let c8_i32_220 : BitVec 32 := 8#32
  let v435 : BitVec 32 := Scalar.muli v5 c8_i32_220
  let v436 : BitVec 32 := Scalar.subi v434 v435
  let c8_i32_221 : BitVec 32 := 8#32
  let v437 : BitVec 32 := Scalar.addi v436 c8_i32_221
  let c64_i32_222 : BitVec 32 := 64#32
  let v438 : BitVec 32 := Scalar.muli v437 c64_i32_222
  v438
def k0_mult8 (i : grid0.Coords) : BitVec 32 :=
  let arg1 : BitVec 32 := BitVec.ofNat 32 (i 1).val
  let c128_i32_0 : BitVec 32 := 128#32
  let v2 : BitVec 1 := Scalar.cmpi .slt arg1 c128_i32_0
  let c16_i32_1 : BitVec 32 := 16#32
  let c8_i32_2 : BitVec 32 := 8#32
  let v6 : BitVec 32 := Scalar.select v2 c16_i32_1 c8_i32_2
  let c8_i32_3 : BitVec 32 := 8#32
  let v7 : BitVec 32 := Scalar.muli v6 c8_i32_3
  let c8_i32_250 : BitVec 32 := 8#32
  let v498 : BitVec 32 := Scalar.subi v7 c8_i32_250
  let c0_i32_251 : BitVec 32 := 0#32
  let c0_i32 : BitVec 32 := 0#32
  let v3 : BitVec 32 := Scalar.subi arg1 c0_i32
  let c16_i32 : BitVec 32 := 16#32
  let v4 : BitVec 32 := Scalar.remsi v3 c16_i32
  let c128_i32 : BitVec 32 := 128#32
  let v0 : BitVec 32 := Scalar.subi arg1 c128_i32
  let c8_i32 : BitVec 32 := 8#32
  let v1 : BitVec 32 := Scalar.remsi v0 c8_i32
  let v5 : BitVec 32 := Scalar.select v2 v4 v1
  let c8_i32_248 : BitVec 32 := 8#32
  let v495 : BitVec 32 := Scalar.muli v5 c8_i32_248
  let c7_i32 : BitVec 32 := 7#32
  let v496 : BitVec 32 := Scalar.addi v495 c7_i32
  let c4_i32_249 : BitVec 32 := 4#32
  let v497 : BitVec 32 := Scalar.subi v496 c4_i32_249
  let v499 : BitVec 32 := Scalar.maxsi c0_i32_251 v497
  let v500 : BitVec 32 := Scalar.minsi v498 v499
  let c8_i32_252 : BitVec 32 := 8#32
  let v501 : BitVec 32 := Scalar.muli v5 c8_i32_252
  let v502 : BitVec 32 := Scalar.subi v500 v501
  let c8_i32_253 : BitVec 32 := 8#32
  let v503 : BitVec 32 := Scalar.addi v502 c8_i32_253
  let c64_i32_254 : BitVec 32 := 64#32
  let v504 : BitVec 32 := Scalar.muli v503 c64_i32_254
  v504
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c0_i32_0 : BitVec 32 := 0#32
  ![v1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c159_i32 : BitVec 32 := 159#32
  let v1 : BitVec 32 := Scalar.minsi v0 c159_i32
  let c0_i32 : BitVec 32 := 0#32
  ![v1.toNat, arg0.toNat]

def cc0_transform_4 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c0_i32_0 : BitVec 32 := 0#32
  ![v1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c159_i32 : BitVec 32 := 159#32
  let v1 : BitVec 32 := Scalar.minsi v0 c159_i32
  let c0_i32 : BitVec 32 := 0#32
  ![v1.toNat, arg0.toNat]

def cc0_transform_7 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S8x2x64x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S512x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== ReferenceIdeal.lean ====
abbrev S81920x512 : Shape := ⟨2, ![81920, 512]⟩
abbrev S8x15x31 : Shape := ⟨3, ![8, 15, 31]⟩
abbrev S65536x512 : Shape := ⟨2, ![65536, 512]⟩
abbrev S8x8192x512 : Shape := ⟨3, ![8, 8192, 512]⟩
abbrev S8x128x64x8x64 : Shape := ⟨5, ![8, 128, 64, 8, 64]⟩
abbrev S64 : Shape := ⟨1, ![64]⟩
abbrev S_ : Shape := ⟨0, ![]⟩
abbrev S64x1 : Shape := ⟨2, ![64, 1]⟩
abbrev S16 : Shape := ⟨1, ![16]⟩
abbrev S1x16 : Shape := ⟨2, ![1, 16]⟩
abbrev S64x16 : Shape := ⟨2, ![64, 16]⟩
abbrev S128 : Shape := ⟨1, ![128]⟩
abbrev S128x1 : Shape := ⟨2, ![128, 1]⟩
abbrev S8 : Shape := ⟨1, ![8]⟩
abbrev S1x8 : Shape := ⟨2, ![1, 8]⟩
abbrev S128x8 : Shape := ⟨2, ![128, 8]⟩
abbrev S128x8x1 : Shape := ⟨3, ![128, 8, 1]⟩
abbrev S8x128x8x64x8x64 : Shape := ⟨6, ![8, 128, 8, 64, 8, 64]⟩
abbrev S64x16x1 : Shape := ⟨3, ![64, 16, 1]⟩
abbrev S8x128x8x64x16x8x64 : Shape := ⟨7, ![8, 128, 8, 64, 16, 8, 64]⟩
abbrev S8x128x8x64x8x16 : Shape := ⟨6, ![8, 128, 8, 64, 8, 16]⟩
abbrev S8x128x8x31 : Shape := ⟨4, ![8, 128, 8, 31]⟩
abbrev S8x128x8x64x16 : Shape := ⟨5, ![8, 128, 8, 64, 16]⟩
abbrev S128x8x64x8x16 : Shape := ⟨5, ![128, 8, 64, 8, 16]⟩
abbrev S1x128x8x64x8x16 : Shape := ⟨6, ![1, 128, 8, 64, 8, 16]⟩
abbrev S8x128x8x64x128 : Shape := ⟨5, ![8, 128, 8, 64, 128]⟩
abbrev S8x128x8x64 : Shape := ⟨4, ![8, 128, 8, 64]⟩
abbrev S8x128x8x64x1 : Shape := ⟨5, ![8, 128, 8, 64, 1]⟩
abbrev S16384x512 : Shape := ⟨2, ![16384, 512]⟩
abbrev S4x4096x512 : Shape := ⟨3, ![4, 4096, 512]⟩
abbrev S4x64x64x8x64 : Shape := ⟨5, ![4, 64, 64, 8, 64]⟩
abbrev S64x8 : Shape := ⟨2, ![64, 8]⟩
abbrev S64x8x1 : Shape := ⟨3, ![64, 8, 1]⟩
abbrev S4x64x8x64x8x64 : Shape := ⟨6, ![4, 64, 8, 64, 8, 64]⟩
abbrev S4x64x8x64x16x8x64 : Shape := ⟨7, ![4, 64, 8, 64, 16, 8, 64]⟩
abbrev S4x64x8x64x8x16 : Shape := ⟨6, ![4, 64, 8, 64, 8, 16]⟩
abbrev S8x64x8x31 : Shape := ⟨4, ![8, 64, 8, 31]⟩
abbrev S8x64x8x64x16 : Shape := ⟨5, ![8, 64, 8, 64, 16]⟩
abbrev S64x8x64x8x16 : Shape := ⟨5, ![64, 8, 64, 8, 16]⟩
abbrev S1x64x8x64x8x16 : Shape := ⟨6, ![1, 64, 8, 64, 8, 16]⟩
abbrev S4x64x8x64x128 : Shape := ⟨5, ![4, 64, 8, 64, 128]⟩
abbrev S4x64x8x64 : Shape := ⟨4, ![4, 64, 8, 64]⟩
abbrev S4x64x8x64x1 : Shape := ⟨5, ![4, 64, 8, 64, 1]⟩

abbrev nBuf : Space → Nat
  | .hbm => 279
  | .vmem => 0
  | .smem => 0
  | _ => 0

abbrev hbmTy0_0 (i : Nat) : BufTy := match i % 128 with
  | 0 => ⟨S81920x512, .bf16⟩
  | 1 => ⟨S81920x512, .bf16⟩
  | 2 => ⟨S81920x512, .bf16⟩
  | 3 => ⟨S8x15x31, .f32⟩
  | 4 => ⟨S81920x512, .f32⟩
  | 5 => ⟨S81920x512, .f32⟩
  | 6 => ⟨S81920x512, .f32⟩
  | 7 => ⟨S65536x512, .f32⟩
  | 8 => ⟨S8x8192x512, .f32⟩
  | 9 => ⟨S65536x512, .f32⟩
  | 10 => ⟨S8x8192x512, .f32⟩
  | 11 => ⟨S65536x512, .f32⟩
  | 12 => ⟨S8x8192x512, .f32⟩
  | 13 => ⟨S8x128x64x8x64, .f32⟩
  | 14 => ⟨S8x128x64x8x64, .f32⟩
  | 15 => ⟨S8x128x64x8x64, .f32⟩
  | 16 => ⟨S64, .i32⟩
  | 17 => ⟨S_, .i32⟩
  | 18 => ⟨S64, .i32⟩
  | 19 => ⟨S64, .i32⟩
  | 20 => ⟨S_, .i32⟩
  | 21 => ⟨S_, .i32⟩
  | 22 => ⟨S_, .i32⟩
  | 23 => ⟨S64, .i32⟩
  | 24 => ⟨S64, .i32⟩
  | 25 => ⟨S_, .i32⟩
  | 26 => ⟨S64, .i32⟩
  | 27 => ⟨S64, .i32⟩
  | 28 => ⟨S64x1, .i32⟩
  | 29 => ⟨S16, .i32⟩
  | 30 => ⟨S1x16, .i32⟩
  | 31 => ⟨S64x16, .i32⟩
  | 32 => ⟨S64x16, .i32⟩
  | 33 => ⟨S64x16, .i32⟩
  | 34 => ⟨S64x1, .i32⟩
  | 35 => ⟨S64x16, .i32⟩
  | 36 => ⟨S64x16, .i32⟩
  | 37 => ⟨S_, .i32⟩
  | 38 => ⟨S64x16, .i32⟩
  | 39 => ⟨S64x16, .i32⟩
  | 40 => ⟨S128, .i32⟩
  | 41 => ⟨S_, .i32⟩
  | 42 => ⟨S128, .i32⟩
  | 43 => ⟨S128, .i32⟩
  | 44 => ⟨S_, .i32⟩
  | 45 => ⟨S_, .i32⟩
  | 46 => ⟨S_, .i32⟩
  | 47 => ⟨S128, .i32⟩
  | 48 => ⟨S128, .i32⟩
  | 49 => ⟨S_, .i32⟩
  | 50 => ⟨S128, .i32⟩
  | 51 => ⟨S128, .i32⟩
  | 52 => ⟨S128x1, .i32⟩
  | 53 => ⟨S8, .i32⟩
  | 54 => ⟨S1x8, .i32⟩
  | 55 => ⟨S128x8, .i32⟩
  | 56 => ⟨S128x8, .i32⟩
  | 57 => ⟨S128x8, .i32⟩
  | 58 => ⟨S128x1, .i32⟩
  | 59 => ⟨S128x8, .i32⟩
  | 60 => ⟨S128x8, .i32⟩
  | 61 => ⟨S_, .i32⟩
  | 62 => ⟨S128x8, .i32⟩
  | 63 => ⟨S128x8, .i32⟩
  | 64 => ⟨S_, .i32⟩
  | 65 => ⟨S128x8, .i32⟩
  | 66 => ⟨S128x8, .i1⟩
  | 67 => ⟨S_, .i32⟩
  | 68 => ⟨S128x8, .i32⟩
  | 69 => ⟨S128x8, .i32⟩
  | 70 => ⟨S128x8, .i32⟩
  | 71 => ⟨S128x8x1, .i32⟩
  | 72 => ⟨S8x128x8x64x8x64, .f32⟩
  | 73 => ⟨S_, .i32⟩
  | 74 => ⟨S64x16, .i32⟩
  | 75 => ⟨S64x16, .i1⟩
  | 76 => ⟨S_, .i32⟩
  | 77 => ⟨S64x16, .i32⟩
  | 78 => ⟨S64x16, .i32⟩
  | 79 => ⟨S64x16, .i32⟩
  | 80 => ⟨S64x16x1, .i32⟩
  | 81 => ⟨S8x128x8x64x16x8x64, .f32⟩
  | 82 => ⟨S_, .i32⟩
  | 83 => ⟨S128x8, .i32⟩
  | 84 => ⟨S128x8, .i1⟩
  | 85 => ⟨S_, .i32⟩
  | 86 => ⟨S128x8, .i32⟩
  | 87 => ⟨S128x8, .i32⟩
  | 88 => ⟨S128x8, .i32⟩
  | 89 => ⟨S128x8x1, .i32⟩
  | 90 => ⟨S8x128x8x64x8x64, .f32⟩
  | 91 => ⟨S_, .i32⟩
  | 92 => ⟨S64x16, .i32⟩
  | 93 => ⟨S64x16, .i1⟩
  | 94 => ⟨S_, .i32⟩
  | 95 => ⟨S64x16, .i32⟩
  | 96 => ⟨S64x16, .i32⟩
  | 97 => ⟨S64x16, .i32⟩
  | 98 => ⟨S64x16x1, .i32⟩
  | 99 => ⟨S8x128x8x64x16x8x64, .f32⟩
  | 100 => ⟨S8x128x8x64x8x16, .f32⟩
  | 101 => ⟨S_, .i32⟩
  | 102 => ⟨S128x8, .i32⟩
  | 103 => ⟨S128x8, .i1⟩
  | 104 => ⟨S_, .i32⟩
  | 105 => ⟨S128x8, .i32⟩
  | 106 => ⟨S128x8, .i32⟩
  | 107 => ⟨S128x8, .i32⟩
  | 108 => ⟨S128x8x1, .i32⟩
  | 109 => ⟨S8x128x8x31, .f32⟩
  | 110 => ⟨S_, .i32⟩
  | 111 => ⟨S64x16, .i32⟩
  | 112 => ⟨S64x16, .i1⟩
  | 113 => ⟨S_, .i32⟩
  | 114 => ⟨S64x16, .i32⟩
  | 115 => ⟨S64x16, .i32⟩
  | 116 => ⟨S64x16, .i32⟩
  | 117 => ⟨S64x16x1, .i32⟩
  | 118 => ⟨S8x128x8x64x16, .f32⟩
  | 119 => ⟨S128x8x64x8x16, .f32⟩
  | 120 => ⟨S1x128x8x64x8x16, .f32⟩
  | 121 => ⟨S8x128x8x64x8x16, .f32⟩
  | 122 => ⟨S8x128x8x64x8x16, .f32⟩
  | 123 => ⟨S8x128x8x64x128, .f32⟩
  | 124 => ⟨S_, .f32⟩
  | 125 => ⟨S8x128x8x64, .f32⟩
  | 126 => ⟨S_, .f32⟩
  | 127 => ⟨S8x128x8x64, .f32⟩
  | _ => ⟨S81920x512, .bf16⟩

abbrev hbmTy0_1 (i : Nat) : BufTy := match i % 128 with
  | 0 => ⟨S8x128x8x64, .f32⟩
  | 1 => ⟨S8x128x8x64x1, .f32⟩
  | 2 => ⟨S8x128x8x64x128, .f32⟩
  | 3 => ⟨S8x128x8x64x128, .f32⟩
  | 4 => ⟨S8x128x8x64x128, .f32⟩
  | 5 => ⟨S_, .f32⟩
  | 6 => ⟨S8x128x8x64, .f32⟩
  | 7 => ⟨S8x128x8x64x1, .f32⟩
  | 8 => ⟨S8x128x8x64x128, .f32⟩
  | 9 => ⟨S8x128x8x64x128, .f32⟩
  | 10 => ⟨S8x128x8x64x8x16, .f32⟩
  | 11 => ⟨S8x128x64x8x64, .f32⟩
  | 12 => ⟨S8x8192x512, .f32⟩
  | 13 => ⟨S65536x512, .f32⟩
  | 14 => ⟨S16384x512, .f32⟩
  | 15 => ⟨S4x4096x512, .f32⟩
  | 16 => ⟨S16384x512, .f32⟩
  | 17 => ⟨S4x4096x512, .f32⟩
  | 18 => ⟨S16384x512, .f32⟩
  | 19 => ⟨S4x4096x512, .f32⟩
  | 20 => ⟨S4x64x64x8x64, .f32⟩
  | 21 => ⟨S4x64x64x8x64, .f32⟩
  | 22 => ⟨S4x64x64x8x64, .f32⟩
  | 23 => ⟨S64, .i32⟩
  | 24 => ⟨S_, .i32⟩
  | 25 => ⟨S64, .i32⟩
  | 26 => ⟨S64, .i32⟩
  | 27 => ⟨S_, .i32⟩
  | 28 => ⟨S_, .i32⟩
  | 29 => ⟨S_, .i32⟩
  | 30 => ⟨S64, .i32⟩
  | 31 => ⟨S64, .i32⟩
  | 32 => ⟨S_, .i32⟩
  | 33 => ⟨S64, .i32⟩
  | 34 => ⟨S64, .i32⟩
  | 35 => ⟨S64x1, .i32⟩
  | 36 => ⟨S16, .i32⟩
  | 37 => ⟨S1x16, .i32⟩
  | 38 => ⟨S64x16, .i32⟩
  | 39 => ⟨S64x16, .i32⟩
  | 40 => ⟨S64x16, .i32⟩
  | 41 => ⟨S64x1, .i32⟩
  | 42 => ⟨S64x16, .i32⟩
  | 43 => ⟨S64x16, .i32⟩
  | 44 => ⟨S_, .i32⟩
  | 45 => ⟨S64x16, .i32⟩
  | 46 => ⟨S64x16, .i32⟩
  | 47 => ⟨S64, .i32⟩
  | 48 => ⟨S_, .i32⟩
  | 49 => ⟨S64, .i32⟩
  | 50 => ⟨S64, .i32⟩
  | 51 => ⟨S_, .i32⟩
  | 52 => ⟨S_, .i32⟩
  | 53 => ⟨S_, .i32⟩
  | 54 => ⟨S64, .i32⟩
  | 55 => ⟨S64, .i32⟩
  | 56 => ⟨S_, .i32⟩
  | 57 => ⟨S64, .i32⟩
  | 58 => ⟨S64, .i32⟩
  | 59 => ⟨S64x1, .i32⟩
  | 60 => ⟨S8, .i32⟩
  | 61 => ⟨S1x8, .i32⟩
  | 62 => ⟨S64x8, .i32⟩
  | 63 => ⟨S64x8, .i32⟩
  | 64 => ⟨S64x8, .i32⟩
  | 65 => ⟨S64x1, .i32⟩
  | 66 => ⟨S64x8, .i32⟩
  | 67 => ⟨S64x8, .i32⟩
  | 68 => ⟨S_, .i32⟩
  | 69 => ⟨S64x8, .i32⟩
  | 70 => ⟨S64x8, .i32⟩
  | 71 => ⟨S_, .i32⟩
  | 72 => ⟨S64x8, .i32⟩
  | 73 => ⟨S64x8, .i1⟩
  | 74 => ⟨S_, .i32⟩
  | 75 => ⟨S64x8, .i32⟩
  | 76 => ⟨S64x8, .i32⟩
  | 77 => ⟨S64x8, .i32⟩
  | 78 => ⟨S64x8x1, .i32⟩
  | 79 => ⟨S4x64x8x64x8x64, .f32⟩
  | 80 => ⟨S_, .i32⟩
  | 81 => ⟨S64x16, .i32⟩
  | 82 => ⟨S64x16, .i1⟩
  | 83 => ⟨S_, .i32⟩
  | 84 => ⟨S64x16, .i32⟩
  | 85 => ⟨S64x16, .i32⟩
  | 86 => ⟨S64x16, .i32⟩
  | 87 => ⟨S64x16x1, .i32⟩
  | 88 => ⟨S4x64x8x64x16x8x64, .f32⟩
  | 89 => ⟨S_, .i32⟩
  | 90 => ⟨S64x8, .i32⟩
  | 91 => ⟨S64x8, .i1⟩
  | 92 => ⟨S_, .i32⟩
  | 93 => ⟨S64x8, .i32⟩
  | 94 => ⟨S64x8, .i32⟩
  | 95 => ⟨S64x8, .i32⟩
  | 96 => ⟨S64x8x1, .i32⟩
  | 97 => ⟨S4x64x8x64x8x64, .f32⟩
  | 98 => ⟨S_, .i32⟩
  | 99 => ⟨S64x16, .i32⟩
  | 100 => ⟨S64x16, .i1⟩
  | 101 => ⟨S_, .i32⟩
  | 102 => ⟨S64x16, .i32⟩
  | 103 => ⟨S64x16, .i32⟩
  | 104 => ⟨S64x16, .i32⟩
  | 105 => ⟨S64x16x1, .i32⟩
  | 106 => ⟨S4x64x8x64x16x8x64, .f32⟩
  | 107 => ⟨S4x64x8x64x8x16, .f32⟩
  | 108 => ⟨S_, .i32⟩
  | 109 => ⟨S64x8, .i32⟩
  | 110 => ⟨S64x8, .i1⟩
  | 111 => ⟨S_, .i32⟩
  | 112 => ⟨S64x8, .i32⟩
  | 113 => ⟨S64x8, .i32⟩
  | 114 => ⟨S64x8, .i32⟩
  | 115 => ⟨S64x8x1, .i32⟩
  | 116 => ⟨S8x64x8x31, .f32⟩
  | 117 => ⟨S_, .i32⟩
  | 118 => ⟨S64x16, .i32⟩
  | 119 => ⟨S64x16, .i1⟩
  | 120 => ⟨S_, .i32⟩
  | 121 => ⟨S64x16, .i32⟩
  | 122 => ⟨S64x16, .i32⟩
  | 123 => ⟨S64x16, .i32⟩
  | 124 => ⟨S64x16x1, .i32⟩
  | 125 => ⟨S8x64x8x64x16, .f32⟩
  | 126 => ⟨S64x8x64x8x16, .f32⟩
  | 127 => ⟨S1x64x8x64x8x16, .f32⟩
  | _ => ⟨S81920x512, .bf16⟩

abbrev hbmTy0_2 (i : Nat) : BufTy := match i % 128 with
  | 0 => ⟨S4x64x8x64x8x16, .f32⟩
  | 1 => ⟨S4x64x8x64x8x16, .f32⟩
  | 2 => ⟨S4x64x8x64x128, .f32⟩
  | 3 => ⟨S_, .f32⟩
  | 4 => ⟨S4x64x8x64, .f32⟩
  | 5 => ⟨S_, .f32⟩
  | 6 => ⟨S4x64x8x64, .f32⟩
  | 7 => ⟨S4x64x8x64, .f32⟩
  | 8 => ⟨S4x64x8x64x1, .f32⟩
  | 9 => ⟨S4x64x8x64x128, .f32⟩
  | 10 => ⟨S4x64x8x64x128, .f32⟩
  | 11 => ⟨S4x64x8x64x128, .f32⟩
  | 12 => ⟨S_, .f32⟩
  | 13 => ⟨S4x64x8x64, .f32⟩
  | 14 => ⟨S4x64x8x64x1, .f32⟩
  | 15 => ⟨S4x64x8x64x128, .f32⟩
  | 16 => ⟨S4x64x8x64x128, .f32⟩
  | 17 => ⟨S4x64x8x64x8x16, .f32⟩
  | 18 => ⟨S4x64x64x8x64, .f32⟩
  | 19 => ⟨S4x4096x512, .f32⟩
  | 20 => ⟨S16384x512, .f32⟩
  | 21 => ⟨S81920x512, .f32⟩
  | 22 => ⟨S81920x512, .bf16⟩
  | _ => ⟨S81920x512, .bf16⟩

abbrev hbmTy (i : Nat) : BufTy := match i / 128 with
  | 0 => hbmTy0_0 i
  | 1 => hbmTy0_1 i
  | 2 => hbmTy0_2 i
  | _ => ⟨S81920x512, .bf16⟩

abbrev bufTy : (tb : Table) → Fin (tcTables nBuf tb) → BufTy
  | .hbm, ⟨i, _⟩ => hbmTy i
  | _, _ => ⟨S81920x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_c : Ref sig .tc := ⟨.hbm, 17, rfl⟩
abbrev main_v13 : Ref sig .tc := ⟨.hbm, 18, rfl⟩
abbrev main_v14 : Ref sig .tc := ⟨.hbm, 19, rfl⟩
abbrev main_c_0 : Ref sig .tc := ⟨.hbm, 20, rfl⟩
abbrev main_c_1 : Ref sig .tc := ⟨.hbm, 21, rfl⟩
abbrev main_call0_v0 : Ref sig .tc := ⟨.hbm, 22, rfl⟩
abbrev main_call0_v1 : Ref sig .tc := ⟨.hbm, 23, rfl⟩
abbrev main_call0_v2 : Ref sig .tc := ⟨.hbm, 24, rfl⟩
abbrev main_call0_v3 : Ref sig .tc := ⟨.hbm, 25, rfl⟩
abbrev main_call0_v4 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_c_2 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_c_3 : Ref sig .tc := ⟨.hbm, 41, rfl⟩
abbrev main_v28 : Ref sig .tc := ⟨.hbm, 42, rfl⟩
abbrev main_v29 : Ref sig .tc := ⟨.hbm, 43, rfl⟩
abbrev main_c_4 : Ref sig .tc := ⟨.hbm, 44, rfl⟩
abbrev main_c_5 : Ref sig .tc := ⟨.hbm, 45, rfl⟩
abbrev main_call1_v0 : Ref sig .tc := ⟨.hbm, 46, rfl⟩
abbrev main_call1_v1 : Ref sig .tc := ⟨.hbm, 47, rfl⟩
abbrev main_call1_v2 : Ref sig .tc := ⟨.hbm, 48, rfl⟩
abbrev main_call1_v3 : Ref sig .tc := ⟨.hbm, 49, rfl⟩
abbrev main_call1_v4 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_c_6 : Ref sig .tc := ⟨.hbm, 61, rfl⟩
abbrev main_v40 : Ref sig .tc := ⟨.hbm, 62, rfl⟩
abbrev main_v41 : Ref sig .tc := ⟨.hbm, 63, rfl⟩
abbrev main_c_7 : Ref sig .tc := ⟨.hbm, 64, rfl⟩
abbrev main_v42 : Ref sig .tc := ⟨.hbm, 65, rfl⟩
abbrev main_v43 : Ref sig .tc := ⟨.hbm, 66, rfl⟩
abbrev main_c_8 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_c_9 : Ref sig .tc := ⟨.hbm, 73, rfl⟩
abbrev main_v49 : Ref sig .tc := ⟨.hbm, 74, rfl⟩
abbrev main_v50 : Ref sig .tc := ⟨.hbm, 75, rfl⟩
abbrev main_c_10 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_c_11 : Ref sig .tc := ⟨.hbm, 82, rfl⟩
abbrev main_v56 : Ref sig .tc := ⟨.hbm, 83, rfl⟩
abbrev main_v57 : Ref sig .tc := ⟨.hbm, 84, rfl⟩
abbrev main_c_12 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_c_13 : Ref sig .tc := ⟨.hbm, 91, rfl⟩
abbrev main_v63 : Ref sig .tc := ⟨.hbm, 92, rfl⟩
abbrev main_v64 : Ref sig .tc := ⟨.hbm, 93, rfl⟩
abbrev main_c_14 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_c_15 : Ref sig .tc := ⟨.hbm, 101, rfl⟩
abbrev main_v71 : Ref sig .tc := ⟨.hbm, 102, rfl⟩
abbrev main_v72 : Ref sig .tc := ⟨.hbm, 103, rfl⟩
abbrev main_c_16 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_c_17 : Ref sig .tc := ⟨.hbm, 110, rfl⟩
abbrev main_v78 : Ref sig .tc := ⟨.hbm, 111, rfl⟩
abbrev main_v79 : Ref sig .tc := ⟨.hbm, 112, rfl⟩
abbrev main_c_18 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_cst : Ref sig .tc := ⟨.hbm, 124, rfl⟩
abbrev main_v90 : Ref sig .tc := ⟨.hbm, 125, rfl⟩
abbrev main_cst_19 : Ref sig .tc := ⟨.hbm, 126, rfl⟩
abbrev main_v91 : Ref sig .tc := ⟨.hbm, 127, rfl⟩
abbrev main_v92 : Ref sig .tc := ⟨.hbm, 128, rfl⟩
abbrev main_v93 : Ref sig .tc := ⟨.hbm, 129, rfl⟩
abbrev main_v94 : Ref sig .tc := ⟨.hbm, 130, rfl⟩
abbrev main_v95 : Ref sig .tc := ⟨.hbm, 131, rfl⟩
abbrev main_v96 : Ref sig .tc := ⟨.hbm, 132, rfl⟩
abbrev main_cst_20 : Ref sig .tc := ⟨.hbm, 133, rfl⟩
abbrev main_v97 : Ref sig .tc := ⟨.hbm, 134, rfl⟩
abbrev main_v98 : Ref sig .tc := ⟨.hbm, 135, rfl⟩
abbrev main_v99 : Ref sig .tc := ⟨.hbm, 136, rfl⟩
abbrev main_v100 : Ref sig .tc := ⟨.hbm, 137, rfl⟩
abbrev main_v101 : Ref sig .tc := ⟨.hbm, 138, rfl⟩
abbrev main_v102 : Ref sig .tc := ⟨.hbm, 139, rfl⟩
abbrev main_v103 : Ref sig .tc := ⟨.hbm, 140, rfl⟩
abbrev main_v104 : Ref sig .tc := ⟨.hbm, 141, rfl⟩
abbrev main_v105 : Ref sig .tc := ⟨.hbm, 142, rfl⟩
abbrev main_v106 : Ref sig .tc := ⟨.hbm, 143, rfl⟩
abbrev main_v107 : Ref sig .tc := ⟨.hbm, 144, rfl⟩
abbrev main_v108 : Ref sig .tc := ⟨.hbm, 145, rfl⟩
abbrev main_v109 : Ref sig .tc := ⟨.hbm, 146, rfl⟩
abbrev main_v110 : Ref sig .tc := ⟨.hbm, 147, rfl⟩
abbrev main_v111 : Ref sig .tc := ⟨.hbm, 148, rfl⟩
abbrev main_v112 : Ref sig .tc := ⟨.hbm, 149, rfl⟩
abbrev main_v113 : Ref sig .tc := ⟨.hbm, 150, rfl⟩
abbrev main_v114 : Ref sig .tc := ⟨.hbm, 151, rfl⟩
abbrev main_c_21 : Ref sig .tc := ⟨.hbm, 152, rfl⟩
abbrev main_v115 : Ref sig .tc := ⟨.hbm, 153, rfl⟩
abbrev main_v116 : Ref sig .tc := ⟨.hbm, 154, rfl⟩
abbrev main_c_22 : Ref sig .tc := ⟨.hbm, 155, rfl⟩
abbrev main_c_23 : Ref sig .tc := ⟨.hbm, 156, rfl⟩
abbrev main_call2_v0 : Ref sig .tc := ⟨.hbm, 157, rfl⟩
abbrev main_call2_v1 : Ref sig .tc := ⟨.hbm, 158, rfl⟩
abbrev main_call2_v2 : Ref sig .tc := ⟨.hbm, 159, rfl⟩
abbrev main_call2_v3 : Ref sig .tc := ⟨.hbm, 160, rfl⟩
abbrev main_call2_v4 : Ref sig .tc := ⟨.hbm, 161, rfl⟩
abbrev main_v117 : Ref sig .tc := ⟨.hbm, 162, rfl⟩
abbrev main_v118 : Ref sig .tc := ⟨.hbm, 163, rfl⟩
abbrev main_v119 : Ref sig .tc := ⟨.hbm, 164, rfl⟩
abbrev main_v120 : Ref sig .tc := ⟨.hbm, 165, rfl⟩
abbrev main_v121 : Ref sig .tc := ⟨.hbm, 166, rfl⟩
abbrev main_v122 : Ref sig .tc := ⟨.hbm, 167, rfl⟩
abbrev main_v123 : Ref sig .tc := ⟨.hbm, 168, rfl⟩
abbrev main_v124 : Ref sig .tc := ⟨.hbm, 169, rfl⟩
abbrev main_v125 : Ref sig .tc := ⟨.hbm, 170, rfl⟩
abbrev main_v126 : Ref sig .tc := ⟨.hbm, 171, rfl⟩
abbrev main_c_24 : Ref sig .tc := ⟨.hbm, 172, rfl⟩
abbrev main_v127 : Ref sig .tc := ⟨.hbm, 173, rfl⟩
abbrev main_v128 : Ref sig .tc := ⟨.hbm, 174, rfl⟩
abbrev main_v129 : Ref sig .tc := ⟨.hbm, 175, rfl⟩
abbrev main_c_25 : Ref sig .tc := ⟨.hbm, 176, rfl⟩
abbrev main_v130 : Ref sig .tc := ⟨.hbm, 177, rfl⟩
abbrev main_v131 : Ref sig .tc := ⟨.hbm, 178, rfl⟩
abbrev main_c_26 : Ref sig .tc := ⟨.hbm, 179, rfl⟩
abbrev main_c_27 : Ref sig .tc := ⟨.hbm, 180, rfl⟩
abbrev main_call3_v0 : Ref sig .tc := ⟨.hbm, 181, rfl⟩
abbrev main_call3_v1 : Ref sig .tc := ⟨.hbm, 182, rfl⟩
abbrev main_call3_v2 : Ref sig .tc := ⟨.hbm, 183, rfl⟩
abbrev main_call3_v3 : Ref sig .tc := ⟨.hbm, 184, rfl⟩
abbrev main_call3_v4 : Ref sig .tc := ⟨.hbm, 185, rfl⟩
abbrev main_v132 : Ref sig .tc := ⟨.hbm, 186, rfl⟩
abbrev main_v133 : Ref sig .tc := ⟨.hbm, 187, rfl⟩
abbrev main_v134 : Ref sig .tc := ⟨.hbm, 188, rfl⟩
abbrev main_v135 : Ref sig .tc := ⟨.hbm, 189, rfl⟩
abbrev main_v136 : Ref sig .tc := ⟨.hbm, 190, rfl⟩
abbrev main_v137 : Ref sig .tc := ⟨.hbm, 191, rfl⟩
abbrev main_v138 : Ref sig .tc := ⟨.hbm, 192, rfl⟩
abbrev main_v139 : Ref sig .tc := ⟨.hbm, 193, rfl⟩
abbrev main_v140 : Ref sig .tc := ⟨.hbm, 194, rfl⟩
abbrev main_v141 : Ref sig .tc := ⟨.hbm, 195, rfl⟩
abbrev main_c_28 : Ref sig .tc := ⟨.hbm, 196, rfl⟩
abbrev main_v142 : Ref sig .tc := ⟨.hbm, 197, rfl⟩
abbrev main_v143 : Ref sig .tc := ⟨.hbm, 198, rfl⟩
abbrev main_c_29 : Ref sig .tc := ⟨.hbm, 199, rfl⟩
abbrev main_v144 : Ref sig .tc := ⟨.hbm, 200, rfl⟩
abbrev main_v145 : Ref sig .tc := ⟨.hbm, 201, rfl⟩
abbrev main_c_30 : Ref sig .tc := ⟨.hbm, 202, rfl⟩
abbrev main_v146 : Ref sig .tc := ⟨.hbm, 203, rfl⟩
abbrev main_v147 : Ref sig .tc := ⟨.hbm, 204, rfl⟩
abbrev main_v148 : Ref sig .tc := ⟨.hbm, 205, rfl⟩
abbrev main_v149 : Ref sig .tc := ⟨.hbm, 206, rfl⟩
abbrev main_v150 : Ref sig .tc := ⟨.hbm, 207, rfl⟩
abbrev main_c_31 : Ref sig .tc := ⟨.hbm, 208, rfl⟩
abbrev main_v151 : Ref sig .tc := ⟨.hbm, 209, rfl⟩
abbrev main_v152 : Ref sig .tc := ⟨.hbm, 210, rfl⟩
abbrev main_c_32 : Ref sig .tc := ⟨.hbm, 211, rfl⟩
abbrev main_v153 : Ref sig .tc := ⟨.hbm, 212, rfl⟩
abbrev main_v154 : Ref sig .tc := ⟨.hbm, 213, rfl⟩
abbrev main_v155 : Ref sig .tc := ⟨.hbm, 214, rfl⟩
abbrev main_v156 : Ref sig .tc := ⟨.hbm, 215, rfl⟩
abbrev main_v157 : Ref sig .tc := ⟨.hbm, 216, rfl⟩
abbrev main_c_33 : Ref sig .tc := ⟨.hbm, 217, rfl⟩
abbrev main_v158 : Ref sig .tc := ⟨.hbm, 218, rfl⟩
abbrev main_v159 : Ref sig .tc := ⟨.hbm, 219, rfl⟩
abbrev main_c_34 : Ref sig .tc := ⟨.hbm, 220, rfl⟩
abbrev main_v160 : Ref sig .tc := ⟨.hbm, 221, rfl⟩
abbrev main_v161 : Ref sig .tc := ⟨.hbm, 222, rfl⟩
abbrev main_v162 : Ref sig .tc := ⟨.hbm, 223, rfl⟩
abbrev main_v163 : Ref sig .tc := ⟨.hbm, 224, rfl⟩
abbrev main_v164 : Ref sig .tc := ⟨.hbm, 225, rfl⟩
abbrev main_c_35 : Ref sig .tc := ⟨.hbm, 226, rfl⟩
abbrev main_v165 : Ref sig .tc := ⟨.hbm, 227, rfl⟩
abbrev main_v166 : Ref sig .tc := ⟨.hbm, 228, rfl⟩
abbrev main_c_36 : Ref sig .tc := ⟨.hbm, 229, rfl⟩
abbrev main_v167 : Ref sig .tc := ⟨.hbm, 230, rfl⟩
abbrev main_v168 : Ref sig .tc := ⟨.hbm, 231, rfl⟩
abbrev main_v169 : Ref sig .tc := ⟨.hbm, 232, rfl⟩
abbrev main_v170 : Ref sig .tc := ⟨.hbm, 233, rfl⟩
abbrev main_v171 : Ref sig .tc := ⟨.hbm, 234, rfl⟩
abbrev main_v172 : Ref sig .tc := ⟨.hbm, 235, rfl⟩
abbrev main_c_37 : Ref sig .tc := ⟨.hbm, 236, rfl⟩
abbrev main_v173 : Ref sig .tc := ⟨.hbm, 237, rfl⟩
abbrev main_v174 : Ref sig .tc := ⟨.hbm, 238, rfl⟩
abbrev main_c_38 : Ref sig .tc := ⟨.hbm, 239, rfl⟩
abbrev main_v175 : Ref sig .tc := ⟨.hbm, 240, rfl⟩
abbrev main_v176 : Ref sig .tc := ⟨.hbm, 241, rfl⟩
abbrev main_v177 : Ref sig .tc := ⟨.hbm, 242, rfl⟩
abbrev main_v178 : Ref sig .tc := ⟨.hbm, 243, rfl⟩
abbrev main_v179 : Ref sig .tc := ⟨.hbm, 244, rfl⟩
abbrev main_c_39 : Ref sig .tc := ⟨.hbm, 245, rfl⟩
abbrev main_v180 : Ref sig .tc := ⟨.hbm, 246, rfl⟩
abbrev main_v181 : Ref sig .tc := ⟨.hbm, 247, rfl⟩
abbrev main_c_40 : Ref sig .tc := ⟨.hbm, 248, rfl⟩
abbrev main_v182 : Ref sig .tc := ⟨.hbm, 249, rfl⟩
abbrev main_v183 : Ref sig .tc := ⟨.hbm, 250, rfl⟩
abbrev main_v184 : Ref sig .tc := ⟨.hbm, 251, rfl⟩
abbrev main_v185 : Ref sig .tc := ⟨.hbm, 252, rfl⟩
abbrev main_v186 : Ref sig .tc := ⟨.hbm, 253, rfl⟩
abbrev main_v187 : Ref sig .tc := ⟨.hbm, 254, rfl⟩
abbrev main_v188 : Ref sig .tc := ⟨.hbm, 255, rfl⟩
abbrev main_v189 : Ref sig .tc := ⟨.hbm, 256, rfl⟩
abbrev main_v190 : Ref sig .tc := ⟨.hbm, 257, rfl⟩
abbrev main_v191 : Ref sig .tc := ⟨.hbm, 258, rfl⟩
abbrev main_cst_41 : Ref sig .tc := ⟨.hbm, 259, rfl⟩
abbrev main_v192 : Ref sig .tc := ⟨.hbm, 260, rfl⟩
abbrev main_cst_42 : Ref sig .tc := ⟨.hbm, 261, rfl⟩
abbrev main_v193 : Ref sig .tc := ⟨.hbm, 262, rfl⟩
abbrev main_v194 : Ref sig .tc := ⟨.hbm, 263, rfl⟩
abbrev main_v195 : Ref sig .tc := ⟨.hbm, 264, rfl⟩
abbrev main_v196 : Ref sig .tc := ⟨.hbm, 265, rfl⟩
abbrev main_v197 : Ref sig .tc := ⟨.hbm, 266, rfl⟩
abbrev main_v198 : Ref sig .tc := ⟨.hbm, 267, rfl⟩
abbrev main_cst_43 : Ref sig .tc := ⟨.hbm, 268, rfl⟩
abbrev main_v199 : Ref sig .tc := ⟨.hbm, 269, rfl⟩
abbrev main_v200 : Ref sig .tc := ⟨.hbm, 270, rfl⟩
abbrev main_v201 : Ref sig .tc := ⟨.hbm, 271, rfl⟩
abbrev main_v202 : Ref sig .tc := ⟨.hbm, 272, rfl⟩
abbrev main_v203 : Ref sig .tc := ⟨.hbm, 273, rfl⟩
abbrev main_v204 : Ref sig .tc := ⟨.hbm, 274, rfl⟩
abbrev main_v205 : Ref sig .tc := ⟨.hbm, 275, rfl⟩
abbrev main_v206 : Ref sig .tc := ⟨.hbm, 276, rfl⟩
abbrev main_v207 : Ref sig .tc := ⟨.hbm, 277, rfl⟩
abbrev main_v208 : Ref sig .tc := ⟨.hbm, 278, rfl⟩

abbrev nD : Nat := 1
abbrev τ : Topo := Topo.v7x

variable {F : FTy → Type} [FloatOps F]
-- ==== Kernel2.lean ====
abbrev S672 : Shape := ⟨1, ![672]⟩
abbrev S1 : Shape := ⟨1, ![1]⟩
abbrev S2752512x128 : Shape := ⟨2, ![2752512, 128]⟩
abbrev S32x1024x2048 : Shape := ⟨3, ![32, 1024, 2048]⟩
abbrev S32x1x2048 : Shape := ⟨3, ![32, 1, 2048]⟩
abbrev S32x1024x1024 : Shape := ⟨3, ![32, 1024, 1024]⟩
abbrev S32x1x1024 : Shape := ⟨3, ![32, 1, 1024]⟩
abbrev S4096x128 : Shape := ⟨2, ![4096, 128]⟩
abbrev S1x1024x2048 : Shape := ⟨3, ![1, 1024, 2048]⟩
abbrev S1x1x2048 : Shape := ⟨3, ![1, 1, 2048]⟩
abbrev S1x1024x1024 : Shape := ⟨3, ![1, 1024, 1024]⟩
abbrev S1x1x1024 : Shape := ⟨3, ![1, 1, 1024]⟩
abbrev S512x128 : Shape := ⟨2, ![512, 128]⟩
abbrev S512x1024 : Shape := ⟨2, ![512, 1024]⟩
abbrev S1024x2048 : Shape := ⟨2, ![1024, 2048]⟩
abbrev S512x2048 : Shape := ⟨2, ![512, 2048]⟩
abbrev S1x2048 : Shape := ⟨2, ![1, 2048]⟩
abbrev S1024x1024 : Shape := ⟨2, ![1024, 1024]⟩
abbrev S1x1024 : Shape := ⟨2, ![1, 1024]⟩

abbrev nBuf : Space → Nat
  | .hbm => 6
  | .vmem => 12
  | .smem => 2
  | _ => 0

abbrev bufTy : (tb : Table) → Fin (tcTables nBuf tb) → BufTy
  | .hbm, ⟨0, _⟩ => ⟨S2752512x128, .f32⟩
  | .hbm, ⟨1, _⟩ => ⟨S32x1024x2048, .bf16⟩
  | .hbm, ⟨2, _⟩ => ⟨S32x1x2048, .f32⟩
  | .hbm, ⟨3, _⟩ => ⟨S32x1024x1024, .bf16⟩
  | .hbm, ⟨4, _⟩ => ⟨S32x1x1024, .f32⟩
  | .hbm, ⟨5, _⟩ => ⟨S2752512x128, .f32⟩
  | .local _ .vmem, ⟨0, _⟩ => ⟨S4096x128, .f32⟩
  | .local _ .vmem, ⟨1, _⟩ => ⟨S4096x128, .f32⟩
  | .local _ .vmem, ⟨2, _⟩ => ⟨S1x1024x2048, .bf16⟩
  | .local _ .vmem, ⟨3, _⟩ => ⟨S1x1024x2048, .bf16⟩
  | .local _ .vmem, ⟨4, _⟩ => ⟨S1x1x2048, .f32⟩
  | .local _ .vmem, ⟨5, _⟩ => ⟨S1x1x2048, .f32⟩
  | .local _ .vmem, ⟨6, _⟩ => ⟨S1x1024x1024, .bf16⟩
  | .local _ .vmem, ⟨7, _⟩ => ⟨S1x1024x1024, .bf16⟩
  | .local _ .vmem, ⟨8, _⟩ => ⟨S1x1x1024, .f32⟩
  | .local _ .vmem, ⟨9, _⟩ => ⟨S1x1x1024, .f32⟩
  | .local _ .vmem, ⟨10, _⟩ => ⟨S4096x128, .f32⟩
  | .local _ .vmem, ⟨11, _⟩ => ⟨S4096x128, .f32⟩
  | .local _ .smem, ⟨0, _⟩ => ⟨S672, .i32⟩
  | .local _ .smem, ⟨1, _⟩ => ⟨S1, .i32⟩
  | _, _ => ⟨S2752512x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg2 : Ref sig .tc := ⟨.hbm, 0, rfl⟩
abbrev main_arg3 : Ref sig .tc := ⟨.hbm, 1, rfl⟩
abbrev main_arg4 : Ref sig .tc := ⟨.hbm, 2, rfl⟩
abbrev main_arg5 : Ref sig .tc := ⟨.hbm, 3, rfl⟩
abbrev main_arg6 : Ref sig .tc := ⟨.hbm, 4, rfl⟩
abbrev main_v0 : Ref sig .tc := ⟨.hbm, 5, rfl⟩
abbrev main_arg0 : Ref sig .tc := ⟨.smem, 0, rfl⟩
abbrev main_arg1 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨1, ![672], ![false]⟩

abbrev pre0 : Pipeline.Prefetch sig := ⟨2, ![main_arg0.idx, main_arg1.idx], fun | 0 => main_arg0.names | 1 => main_arg1.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond1 (i : grid0.Coords) (v0 : BitVec 32) : BitVec 1 :=
  let arg0 : BitVec 32 := BitVec.ofNat 32 (i 0).val
  let v1 : BitVec 1 := Scalar.cmpi .slt arg0 v0
  let v2 : BitVec 32 := Scalar.extui v1
  let c0_i32 : BitVec 32 := 0#32
  let v3 : BitVec 1 := Scalar.cmpi .ne v2 c0_i32
  v3

def k0_cond2 (i : grid0.Coords) (v4 : BitVec 32) : BitVec 1 :=
  let arg0 : BitVec 32 := BitVec.ofNat 32 (i 0).val
  let v5 : BitVec 1 := Scalar.cmpi .sge arg0 v4
  let v6 : BitVec 32 := Scalar.extui v5
  let c0_i32_1 : BitVec 32 := 0#32
  let v7 : BitVec 1 := Scalar.cmpi .ne v6 c0_i32_1
  v7

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (k0_off1_inb : ∀ i : grid0.Coords, ∀ a, (k0_off1 i) a + S1.size a ≤ S672.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S672) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_2 (k0_off1_inb : ∀ i : grid0.Coords, ∀ a, (k0_off1 i) a + S1.size a ≤ S672.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S672) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_3 (k0_off1_inb : ∀ i : grid0.Coords, ∀ a, (k0_off1 i) a + S1.size a ≤ S672.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S672) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_4 (k0_off1_inb : ∀ i : grid0.Coords, ∀ a, (k0_off1 i) a + S1.size a ≤ S672.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S672) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S4096x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference2Ideal.lean ====
abbrev S672 : Shape := ⟨1, ![672]⟩
abbrev S1 : Shape := ⟨1, ![1]⟩
abbrev S2752512x128 : Shape := ⟨2, ![2752512, 128]⟩
abbrev S32x1024x2048 : Shape := ⟨3, ![32, 1024, 2048]⟩
abbrev S32x1x2048 : Shape := ⟨3, ![32, 1, 2048]⟩
abbrev S32x1024x1024 : Shape := ⟨3, ![32, 1024, 1024]⟩
abbrev S32x1x1024 : Shape := ⟨3, ![32, 1, 1024]⟩
abbrev S672x512x1024 : Shape := ⟨3, ![672, 512, 1024]⟩
abbrev S_ : Shape := ⟨0, ![]⟩
abbrev S672x1 : Shape := ⟨2, ![672, 1]⟩
abbrev S672x1024x2048 : Shape := ⟨3, ![672, 1024, 2048]⟩
abbrev S672x512x2048 : Shape := ⟨3, ![672, 512, 2048]⟩
abbrev S672x1x2048 : Shape := ⟨3, ![672, 1, 2048]⟩
abbrev S672x1024x1024 : Shape := ⟨3, ![672, 1024, 1024]⟩
abbrev S672x1x1024 : Shape := ⟨3, ![672, 1, 1024]⟩
abbrev S672x1x1 : Shape := ⟨3, ![672, 1, 1]⟩

abbrev nBuf : Space → Nat
  | .hbm => 92
  | .vmem => 0
  | .smem => 0
  | _ => 0

abbrev bufTy : (tb : Table) → Fin (tcTables nBuf tb) → BufTy
  | .hbm, ⟨0, _⟩ => ⟨S672, .i32⟩
  | .hbm, ⟨1, _⟩ => ⟨S1, .i32⟩
  | .hbm, ⟨2, _⟩ => ⟨S2752512x128, .f32⟩
  | .hbm, ⟨3, _⟩ => ⟨S32x1024x2048, .bf16⟩
  | .hbm, ⟨4, _⟩ => ⟨S32x1x2048, .f32⟩
  | .hbm, ⟨5, _⟩ => ⟨S32x1024x1024, .bf16⟩
  | .hbm, ⟨6, _⟩ => ⟨S32x1x1024, .f32⟩
  | .hbm, ⟨7, _⟩ => ⟨S32x1024x2048, .f32⟩
  | .hbm, ⟨8, _⟩ => ⟨S32x1024x1024, .f32⟩
  | .hbm, ⟨9, _⟩ => ⟨S672x512x1024, .f32⟩
  | .hbm, ⟨10, _⟩ => ⟨S_, .i32⟩
  | .hbm, ⟨11, _⟩ => ⟨S672, .i32⟩
  | .hbm, ⟨12, _⟩ => ⟨S672, .i1⟩
  | .hbm, ⟨13, _⟩ => ⟨S_, .i32⟩
  | .hbm, ⟨14, _⟩ => ⟨S672, .i32⟩
  | .hbm, ⟨15, _⟩ => ⟨S672, .i32⟩
  | .hbm, ⟨16, _⟩ => ⟨S672, .i32⟩
  | .hbm, ⟨17, _⟩ => ⟨S672x1, .i32⟩
  | .hbm, ⟨18, _⟩ => ⟨S672x1024x2048, .f32⟩
  | .hbm, ⟨19, _⟩ => ⟨S672x512x2048, .f32⟩
  | .hbm, ⟨20, _⟩ => ⟨S_, .i32⟩
  | .hbm, ⟨21, _⟩ => ⟨S672, .i32⟩
  | .hbm, ⟨22, _⟩ => ⟨S672, .i1⟩
  | .hbm, ⟨23, _⟩ => ⟨S_, .i32⟩
  | .hbm, ⟨24, _⟩ => ⟨S672, .i32⟩
  | .hbm, ⟨25, _⟩ => ⟨S672, .i32⟩
  | .hbm, ⟨26, _⟩ => ⟨S672, .i32⟩
  | .hbm, ⟨27, _⟩ => ⟨S672x1, .i32⟩
  | .hbm, ⟨28, _⟩ => ⟨S672x1x2048, .f32⟩
  | .hbm, ⟨29, _⟩ => ⟨S672x512x2048, .f32⟩
  | .hbm, ⟨30, _⟩ => ⟨S672x512x2048, .f32⟩
  | .hbm, ⟨31, _⟩ => ⟨S672x512x1024, .f32⟩
  | .hbm, ⟨32, _⟩ => ⟨S_, .f32⟩
  | .hbm, ⟨33, _⟩ => ⟨S672x512x1024, .f32⟩
  | .hbm, ⟨34, _⟩ => ⟨S672x512x1024, .f32⟩
  | .hbm, ⟨35, _⟩ => ⟨S672x512x1024, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S672x512x1024, .f32⟩
  | .hbm, ⟨40, _⟩ => ⟨S672x512x1024, .f32⟩
  | .hbm, ⟨41, _⟩ => ⟨S_, .f32⟩
  | .hbm, ⟨42, _⟩ => ⟨S672x512x1024, .f32⟩
  | .hbm, ⟨43, _⟩ => ⟨S672x512x1024, .f32⟩
  | .hbm, ⟨44, _⟩ => ⟨S_, .f32⟩
  | .hbm, ⟨45, _⟩ => ⟨S672x512x1024, .f32⟩
  | .hbm, ⟨46, _⟩ => ⟨S672x512x1024, .f32⟩
  | .hbm, ⟨47, _⟩ => ⟨S672x512x1024, .f32⟩
  | .hbm, ⟨48, _⟩ => ⟨S672x512x1024, .f32⟩
  | .hbm, ⟨49, _⟩ => ⟨S_, .f32⟩
  | .hbm, ⟨50, _⟩ => ⟨S672x512x1024, .f32⟩
  | .hbm, ⟨51, _⟩ => ⟨S672x512x1024, .f32⟩
  | .hbm, ⟨52, _⟩ => ⟨S_, .f32⟩
  | .hbm, ⟨53, _⟩ => ⟨S672x512x1024, .f32⟩
  | .hbm, ⟨54, _⟩ => ⟨S672x512x1024, .f32⟩
  | .hbm, ⟨55, _⟩ => ⟨S672x512x1024, .f32⟩
  | .hbm, ⟨56, _⟩ => ⟨S_, .f32⟩
  | .hbm, ⟨57, _⟩ => ⟨S672x512x1024, .f32⟩
  | .hbm, ⟨58, _⟩ => ⟨S672x512x1024, .f32⟩
  | .hbm, ⟨59, _⟩ => ⟨S672x512x1024, .f32⟩
  | .hbm, ⟨60, _⟩ => ⟨S_, .i32⟩
  | .hbm, ⟨61, _⟩ => ⟨S672, .i32⟩
  | .hbm, ⟨62, _⟩ => ⟨S672, .i1⟩
  | .hbm, ⟨63, _⟩ => ⟨S_, .i32⟩
  | .hbm, ⟨64, _⟩ => ⟨S672, .i32⟩
  | .hbm, ⟨65, _⟩ => ⟨S672, .i32⟩
  | .hbm, ⟨66, _⟩ => ⟨S672, .i32⟩
  | .hbm, ⟨67, _⟩ => ⟨S672x1, .i32⟩
  | .hbm, ⟨68, _⟩ => ⟨S672x1024x1024, .f32⟩
  | .hbm, ⟨69, _⟩ => ⟨S672x512x1024, .f32⟩
  | .hbm, ⟨70, _⟩ => ⟨S_, .i32⟩
  | .hbm, ⟨71, _⟩ => ⟨S672, .i32⟩
  | .hbm, ⟨72, _⟩ => ⟨S672, .i1⟩
  | .hbm, ⟨73, _⟩ => ⟨S_, .i32⟩
  | .hbm, ⟨74, _⟩ => ⟨S672, .i32⟩
  | .hbm, ⟨75, _⟩ => ⟨S672, .i32⟩
  | .hbm, ⟨76, _⟩ => ⟨S672, .i32⟩
  | .hbm, ⟨77, _⟩ => ⟨S672x1, .i32⟩
  | .hbm, ⟨78, _⟩ => ⟨S672x1x1024, .f32⟩
  | .hbm, ⟨79, _⟩ => ⟨S672x512x1024, .f32⟩
  | .hbm, ⟨80, _⟩ => ⟨S672x512x1024, .f32⟩
  | .hbm, ⟨81, _⟩ => ⟨S672, .i32⟩
  | .hbm, ⟨82, _⟩ => ⟨S_, .i32⟩
  | .hbm, ⟨83, _⟩ => ⟨S672, .i32⟩
  | .hbm, ⟨84, _⟩ => ⟨S672, .i1⟩
  | .hbm, ⟨85, _⟩ => ⟨S672x1x1, .i1⟩
  | .hbm, ⟨86, _⟩ => ⟨S_, .f32⟩
  | .hbm, ⟨87, _⟩ => ⟨S_, .f32⟩
  | .hbm, ⟨88, _⟩ => ⟨S672x512x1024, .i1⟩
  | .hbm, ⟨89, _⟩ => ⟨S672x512x1024, .f32⟩
  | .hbm, ⟨90, _⟩ => ⟨S672x512x1024, .f32⟩
  | .hbm, ⟨91, _⟩ => ⟨S2752512x128, .f32⟩
  | _, _ => ⟨S672, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_c : Ref sig .tc := ⟨.hbm, 10, rfl⟩
abbrev main_v3 : Ref sig .tc := ⟨.hbm, 11, rfl⟩
abbrev main_v4 : Ref sig .tc := ⟨.hbm, 12, rfl⟩
abbrev main_c_0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_c_1 : Ref sig .tc := ⟨.hbm, 20, rfl⟩
abbrev main_v11 : Ref sig .tc := ⟨.hbm, 21, rfl⟩
abbrev main_v12 : Ref sig .tc := ⟨.hbm, 22, rfl⟩
abbrev main_c_2 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_3 : Ref sig .tc := ⟨.hbm, 36, rfl⟩
abbrev main_cst_4 : Ref sig .tc := ⟨.hbm, 37, rfl⟩
abbrev main_call0_v0 : Ref sig .tc := ⟨.hbm, 38, rfl⟩
abbrev main_call0_v1 : Ref sig .tc := ⟨.hbm, 39, rfl⟩
abbrev main_call0_v2 : Ref sig .tc := ⟨.hbm, 40, rfl⟩
abbrev main_call0_v3 : Ref sig .tc := ⟨.hbm, 41, rfl⟩
abbrev main_call0_v4 : Ref sig .tc := ⟨.hbm, 42, rfl⟩
abbrev main_v24 : Ref sig .tc := ⟨.hbm, 43, rfl⟩
abbrev main_cst_5 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_cst_6 : Ref sig .tc := ⟨.hbm, 49, rfl⟩
abbrev main_v29 : Ref sig .tc := ⟨.hbm, 50, rfl⟩
abbrev main_v30 : Ref sig .tc := ⟨.hbm, 51, rfl⟩
abbrev main_cst_7 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_cst_8 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_c_9 : Ref sig .tc := ⟨.hbm, 60, rfl⟩
abbrev main_v37 : Ref sig .tc := ⟨.hbm, 61, rfl⟩
abbrev main_v38 : Ref sig .tc := ⟨.hbm, 62, rfl⟩
abbrev main_c_10 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_c_11 : Ref sig .tc := ⟨.hbm, 70, rfl⟩
abbrev main_v45 : Ref sig .tc := ⟨.hbm, 71, rfl⟩
abbrev main_v46 : Ref sig .tc := ⟨.hbm, 72, rfl⟩
abbrev main_c_12 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_cst_13 : Ref sig .tc := ⟨.hbm, 86, rfl⟩
abbrev main_call1_v0 : Ref sig .tc := ⟨.hbm, 87, rfl⟩
abbrev main_call1_v1 : Ref sig .tc := ⟨.hbm, 88, rfl⟩
abbrev main_call1_v2 : Ref sig .tc := ⟨.hbm, 89, rfl⟩
abbrev main_v59 : Ref sig .tc := ⟨.hbm, 90, rfl⟩
abbrev main_v60 : Ref sig .tc := ⟨.hbm, 91, rfl⟩

abbrev nD : Nat := 1
abbrev τ : Topo := Topo.v7x

variable {F : FTy → Type} [FloatOps F]
-- ==== Kernel3.lean ====
abbrev S81920x1024 : Shape := ⟨2, ![81920, 1024]⟩
abbrev S1x1024 : Shape := ⟨2, ![1, 1024]⟩
abbrev S1024x1536 : Shape := ⟨2, ![1024, 1536]⟩
abbrev S1024x128 : Shape := ⟨2, ![1024, 128]⟩
abbrev S128x512 : Shape := ⟨2, ![128, 512]⟩
abbrev S1x512 : Shape := ⟨2, ![1, 512]⟩
abbrev S81920x512 : Shape := ⟨2, ![81920, 512]⟩
abbrev S512x1024 : Shape := ⟨2, ![512, 1024]⟩
abbrev S512x512 : Shape := ⟨2, ![512, 512]⟩
abbrev S512x1536 : Shape := ⟨2, ![512, 1536]⟩
abbrev S512x256 : Shape := ⟨2, ![512, 256]⟩
abbrev S512x128 : Shape := ⟨2, ![512, 128]⟩

abbrev nBuf : Space → Nat
  | .hbm => 15
  | .vmem => 23
  | .smem => 0
  | _ => 0

abbrev bufTy : (tb : Table) → Fin (tcTables nBuf tb) → BufTy
  | .hbm, ⟨0, _⟩ => ⟨S81920x1024, .f32⟩
  | .hbm, ⟨1, _⟩ => ⟨S1x1024, .f32⟩
  | .hbm, ⟨2, _⟩ => ⟨S1x1024, .f32⟩
  | .hbm, ⟨3, _⟩ => ⟨S1024x1536, .bf16⟩
  | .hbm, ⟨4, _⟩ => ⟨S1024x128, .bf16⟩
  | .hbm, ⟨5, _⟩ => ⟨S128x512, .bf16⟩
  | .hbm, ⟨6, _⟩ => ⟨S1x512, .f32⟩
  | .hbm, ⟨7, _⟩ => ⟨S1024x1536, .bf16⟩
  | .hbm, ⟨8, _⟩ => ⟨S81920x512, .bf16⟩
  | .hbm, ⟨9, _⟩ => ⟨S81920x512, .bf16⟩
  | .hbm, ⟨10, _⟩ => ⟨S81920x512, .f32⟩
  | .hbm, ⟨11, _⟩ => ⟨S81920x512, .f32⟩
  | .hbm, ⟨12, _⟩ => ⟨S81920x512, .bf16⟩
  | .hbm, ⟨13, _⟩ => ⟨S81920x512, .bf16⟩
  | .hbm, ⟨14, _⟩ => ⟨S81920x512, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x1024, .f32⟩
  | .local _ .vmem, ⟨4, _⟩ => ⟨S1024x1536, .bf16⟩
  | .local _ .vmem, ⟨5, _⟩ => ⟨S1024x128, .bf16⟩
  | .local _ .vmem, ⟨6, _⟩ => ⟨S128x512, .bf16⟩
  | .local _ .vmem, ⟨7, _⟩ => ⟨S1x512, .f32⟩
  | .local _ .vmem, ⟨8, _⟩ => ⟨S1024x1536, .bf16⟩
  | .local _ .vmem, ⟨9, _⟩ => ⟨S512x512, .bf16⟩
  | .local _ .vmem, ⟨10, _⟩ => ⟨S512x512, .bf16⟩
  | .local _ .vmem, ⟨11, _⟩ => ⟨S512x512, .bf16⟩
  | .local _ .vmem, ⟨12, _⟩ => ⟨S512x512, .bf16⟩
  | .local _ .vmem, ⟨13, _⟩ => ⟨S512x512, .f32⟩
  | .local _ .vmem, ⟨14, _⟩ => ⟨S512x512, .f32⟩
  | .local _ .vmem, ⟨15, _⟩ => ⟨S512x512, .f32⟩
  | .local _ .vmem, ⟨16, _⟩ => ⟨S512x512, .f32⟩
  | .local _ .vmem, ⟨17, _⟩ => ⟨S512x512, .bf16⟩
  | .local _ .vmem, ⟨18, _⟩ => ⟨S512x512, .bf16⟩
  | .local _ .vmem, ⟨19, _⟩ => ⟨S512x512, .bf16⟩
  | .local _ .vmem, ⟨20, _⟩ => ⟨S512x512, .bf16⟩
  | .local _ .vmem, ⟨21, _⟩ => ⟨S512x512, .bf16⟩
  | .local _ .vmem, ⟨22, _⟩ => ⟨S512x512, .bf16⟩
  | _, _ => ⟨S81920x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev main_v0_4 : Ref sig .tc := ⟨.hbm, 12, rfl⟩
abbrev main_v0_5 : Ref sig .tc := ⟨.hbm, 13, rfl⟩
abbrev main_v0_6 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg8_1 : Ref sig .tc := ⟨.vmem, 10, rfl⟩
abbrev cc0_stg9_0 : Ref sig .tc := ⟨.vmem, 11, rfl⟩
abbrev cc0_stg9_1 : Ref sig .tc := ⟨.vmem, 12, rfl⟩
abbrev cc0_stg10_0 : Ref sig .tc := ⟨.vmem, 13, rfl⟩
abbrev cc0_stg10_1 : Ref sig .tc := ⟨.vmem, 14, rfl⟩
abbrev cc0_stg11_0 : Ref sig .tc := ⟨.vmem, 15, rfl⟩
abbrev cc0_stg11_1 : Ref sig .tc := ⟨.vmem, 16, rfl⟩
abbrev cc0_stg12_0 : Ref sig .tc := ⟨.vmem, 17, rfl⟩
abbrev cc0_stg12_1 : Ref sig .tc := ⟨.vmem, 18, rfl⟩
abbrev cc0_stg13_0 : Ref sig .tc := ⟨.vmem, 19, rfl⟩
abbrev cc0_stg13_1 : Ref sig .tc := ⟨.vmem, 20, rfl⟩
abbrev cc0_stg14_0 : Ref sig .tc := ⟨.vmem, 21, rfl⟩
abbrev cc0_stg14_1 : Ref sig .tc := ⟨.vmem, 22, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem8_1 : DmaSem sig := 10
abbrev cc0_sem9_0 : DmaSem sig := 11
abbrev cc0_sem9_1 : DmaSem sig := 12
abbrev cc0_sem10_0 : DmaSem sig := 13
abbrev cc0_sem10_1 : DmaSem sig := 14
abbrev cc0_sem11_0 : DmaSem sig := 15
abbrev cc0_sem11_1 : DmaSem sig := 16
abbrev cc0_sem12_0 : DmaSem sig := 17
abbrev cc0_sem12_1 : DmaSem sig := 18
abbrev cc0_sem13_0 : DmaSem sig := 19
abbrev cc0_sem13_1 : DmaSem sig := 20
abbrev cc0_sem14_0 : DmaSem sig := 21
abbrev cc0_sem14_1 : DmaSem sig := 22

abbrev nD : Nat := 1
abbrev τ : Topo := Topo.v7x

variable {F : FTy → Type} [FloatOps F]

abbrev grid0 : Pipeline.Grid := ⟨1, ![160], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1536 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1536 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x512 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x512 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]
-- ==== Reference3Ideal.lean ====
abbrev S81920x1024 : Shape := ⟨2, ![81920, 1024]⟩
abbrev S1x1024 : Shape := ⟨2, ![1, 1024]⟩
abbrev S1024x1536 : Shape := ⟨2, ![1024, 1536]⟩
abbrev S1024x128 : Shape := ⟨2, ![1024, 128]⟩
abbrev S128x512 : Shape := ⟨2, ![128, 512]⟩
abbrev S1x512 : Shape := ⟨2, ![1, 512]⟩
abbrev S81920x1536 : Shape := ⟨2, ![81920, 1536]⟩
abbrev S81920x256 : Shape := ⟨2, ![81920, 256]⟩
abbrev S81920x512 : Shape := ⟨2, ![81920, 512]⟩
abbrev S81920x128 : Shape := ⟨2, ![81920, 128]⟩
abbrev S_ : Shape := ⟨0, ![]⟩

abbrev nBuf : Space → Nat
  | .hbm => 56
  | .vmem => 0
  | .smem => 0
  | _ => 0

abbrev bufTy : (tb : Table) → Fin (tcTables nBuf tb) → BufTy
  | .hbm, ⟨0, _⟩ => ⟨S81920x1024, .f32⟩
  | .hbm, ⟨1, _⟩ => ⟨S1x1024, .f32⟩
  | .hbm, ⟨2, _⟩ => ⟨S1x1024, .f32⟩
  | .hbm, ⟨3, _⟩ => ⟨S1024x1536, .bf16⟩
  | .hbm, ⟨4, _⟩ => ⟨S1024x128, .bf16⟩
  | .hbm, ⟨5, _⟩ => ⟨S128x512, .bf16⟩
  | .hbm, ⟨6, _⟩ => ⟨S1x512, .f32⟩
  | .hbm, ⟨7, _⟩ => ⟨S1024x1536, .bf16⟩
  | .hbm, ⟨8, _⟩ => ⟨S1024x1536, .f32⟩
  | .hbm, ⟨9, _⟩ => ⟨S1024x128, .f32⟩
  | .hbm, ⟨10, _⟩ => ⟨S128x512, .f32⟩
  | .hbm, ⟨11, _⟩ => ⟨S1024x1536, .f32⟩
  | .hbm, ⟨12, _⟩ => ⟨S81920x1536, .f32⟩
  | .hbm, ⟨13, _⟩ => ⟨S81920x256, .f32⟩
  | .hbm, ⟨14, _⟩ => ⟨S81920x256, .f32⟩
  | .hbm, ⟨15, _⟩ => ⟨S81920x512, .f32⟩
  | .hbm, ⟨16, _⟩ => ⟨S81920x512, .f32⟩
  | .hbm, ⟨17, _⟩ => ⟨S81920x128, .f32⟩
  | .hbm, ⟨18, _⟩ => ⟨S81920x512, .f32⟩
  | .hbm, ⟨19, _⟩ => ⟨S81920x512, .f32⟩
  | .hbm, ⟨20, _⟩ => ⟨S81920x512, .f32⟩
  | .hbm, ⟨21, _⟩ => ⟨S81920x512, .f32⟩
  | .hbm, ⟨22, _⟩ => ⟨S_, .f32⟩
  | .hbm, ⟨23, _⟩ => ⟨S81920x512, .f32⟩
  | .hbm, ⟨24, _⟩ => ⟨S81920x512, .f32⟩
  | .hbm, ⟨25, _⟩ => ⟨S81920x512, .f32⟩
  | .hbm, ⟨26, _⟩ => ⟨S81920x512, .f32⟩
  | .hbm, ⟨27, _⟩ => ⟨S81920x512, .i1⟩
  | .hbm, ⟨28, _⟩ => ⟨S81920x512, .f32⟩
  | .hbm, ⟨29, _⟩ => ⟨S81920x512, .f32⟩
  | .hbm, ⟨30, _⟩ => ⟨S81920x512, .f32⟩
  | .hbm, ⟨31, _⟩ => ⟨S81920x512, .f32⟩
  | .hbm, ⟨32, _⟩ => ⟨S81920x512, .f32⟩
  | .hbm, ⟨33, _⟩ => ⟨S81920x512, .f32⟩
  | .hbm, ⟨34, _⟩ => ⟨S81920x512, .f32⟩
  | .hbm, ⟨35, _⟩ => ⟨S81920x512, .f32⟩
  | .hbm, ⟨36, _⟩ => ⟨S81920x512, .f32⟩
  | .hbm, ⟨37, _⟩ => ⟨S_, .f32⟩
  | .hbm, ⟨38, _⟩ => ⟨S81920x512, .f32⟩
  | .hbm, ⟨39, _⟩ => ⟨S81920x512, .f32⟩
  | .hbm, ⟨40, _⟩ => ⟨S81920x1536, .f32⟩
  | .hbm, ⟨41, _⟩ => ⟨S81920x512, .f32⟩
  | .hbm, ⟨42, _⟩ => ⟨S81920x512, .f32⟩
  | .hbm, ⟨43, _⟩ => ⟨S81920x512, .f32⟩
  | .hbm, ⟨44, _⟩ => ⟨S_, .f32⟩
  | .hbm, ⟨45, _⟩ => ⟨S81920x256, .f32⟩
  | .hbm, ⟨46, _⟩ => ⟨S81920x256, .f32⟩
  | .hbm, ⟨47, _⟩ => ⟨S81920x512, .f32⟩
  | .hbm, ⟨48, _⟩ => ⟨S81920x512, .bf16⟩
  | .hbm, ⟨49, _⟩ => ⟨S81920x512, .bf16⟩
  | .hbm, ⟨50, _⟩ => ⟨S_, .f32⟩
  | .hbm, ⟨51, _⟩ => ⟨S81920x512, .f32⟩
  | .hbm, ⟨52, _⟩ => ⟨S81920x512, .f32⟩
  | .hbm, ⟨53, _⟩ => ⟨S81920x512, .bf16⟩
  | .hbm, ⟨54, _⟩ => ⟨S81920x512, .bf16⟩
  | .hbm, ⟨55, _⟩ => ⟨S81920x512, .bf16⟩
  | _, _ => ⟨S81920x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_call0_v0 : Ref sig .tc := ⟨.hbm, 21, rfl⟩
abbrev main_call0_call0_cst : Ref sig .tc := ⟨.hbm, 22, rfl⟩
abbrev main_call0_call0_v0 : Ref sig .tc := ⟨.hbm, 23, rfl⟩
abbrev main_call0_call0_v1 : Ref sig .tc := ⟨.hbm, 24, rfl⟩
abbrev main_call0_call0_v2 : Ref sig .tc := ⟨.hbm, 25, rfl⟩
abbrev main_call0_call0_v3 : Ref sig .tc := ⟨.hbm, 26, rfl⟩
abbrev main_call0_call0_v4 : Ref sig .tc := ⟨.hbm, 27, rfl⟩
abbrev main_call0_call0_v5 : Ref sig .tc := ⟨.hbm, 28, rfl⟩
abbrev main_call0_call0_v6 : Ref sig .tc := ⟨.hbm, 29, rfl⟩
abbrev main_call0_call0_v7 : Ref sig .tc := ⟨.hbm, 30, rfl⟩
abbrev main_call0_call0_v8 : Ref sig .tc := ⟨.hbm, 31, rfl⟩
abbrev main_call0_call0_v9 : Ref sig .tc := ⟨.hbm, 32, rfl⟩
abbrev main_call0_call0_v10 : Ref sig .tc := ⟨.hbm, 33, rfl⟩
abbrev main_call0_call0_v11 : Ref sig .tc := ⟨.hbm, 34, rfl⟩
abbrev main_call0_v1 : Ref sig .tc := ⟨.hbm, 35, rfl⟩
abbrev main_v13 : Ref sig .tc := ⟨.hbm, 36, rfl⟩
abbrev main_cst : Ref sig .tc := ⟨.hbm, 37, rfl⟩
abbrev main_v14 : Ref sig .tc := ⟨.hbm, 38, rfl⟩
abbrev main_v15 : Ref sig .tc := ⟨.hbm, 39, rfl⟩
abbrev main_v16 : Ref sig .tc := ⟨.hbm, 40, rfl⟩
abbrev main_v17 : Ref sig .tc := ⟨.hbm, 41, rfl⟩
abbrev main_v18 : Ref sig .tc := ⟨.hbm, 42, rfl⟩
abbrev main_v19 : Ref sig .tc := ⟨.hbm, 43, rfl⟩
abbrev main_cst_0 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_cst_1 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩

abbrev nD : Nat := 1
abbrev τ : Topo := Topo.v7x

variable {F : FTy → Type} [FloatOps F]
-- ==== Proof.NaRun.lean ====
/- The neighbourhood attention call: its body run at one grid point, with the output block named. -/
module

public import proofs.«01_k».proof.Proof.Gen.KernelIdeal.Frame
public import proofs.«01_k».proof.Proof.Gen.KernelIdeal.Skeleton
public import Idealize.ShloMosaic.Lib.Pipeline.Value
public import Idealize.ShloMosaic.Lib.Tactic.Stretches
public import Idealize.ShloMosaic.Lib.Pointwise.Index

@[expose] public section

set_option maxRecDepth 16384

noncomputable section

namespace Cert.KernelIdeal.Na

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Gen

variable {F : FTy → Type} [FloatOps F]

local notation "𝕄" => MT nD τ sig Unit (Elt F) ℕ (UR sig nD τ) ℕ

/-- Three blocks of 512 rows one below the other. -/
def stacked (a b d : Vec F S512x128 .bf16) : Vec F S1536x128 .bf16 :=
  View.canon (Val := Elt F) (s := S1536x128) (e := .bf16)
    [⟨Rect.unit (s := S1536x128) ![1024, 0] S512x128.size inb_S1536x128_S512x128_1024_0, d⟩,
     ⟨Rect.unit (s := S1536x128) ![512, 0] S512x128.size inb_S1536x128_S512x128_512_0, b⟩,
     ⟨Rect.unit (s := S1536x128) ![0, 0] S512x128.size inb_S1536x128_S512x128_0_0, a⟩]

/-- The 512 rows of the stacked blocks that grid row `r` of the block attends to. -/
def window (i : grid0.Coords) (r : Fin 8) (buf : Vec F S1536x128 .bf16) : Vec F S512x128 .bf16 :=
  View.ld buf (Rect.unit (s := S1536x128) (k0_off1 i (BitVec.ofNat 32 r.val)) S512x128.size (k0_off1_inb i r))

/-- One grid row of two heads from its queries, its window's keys and values, and the two heads' biases. -/
def rowPay (q : Vec F S64x128 .bf16) (k v : Vec F S512x128 .bf16) (b0 b1 : Vec F S1x1x64x512 .f32) : FVec F S64x128 .bf16 :=
  k0_pay10 (iota .tc S64x128 32 [1] iota_S64x128_d1_w32) q k v (k0_pay8 q k) (k0_pay9 b0) b1

theorem row_inb (r : Fin 8) : ∀ a, (![64 * r.val, 0] : Fin 2 → Nat) a + S64x128.size a ≤ S512x128.size a := by
  revert r; decide +kernel

/-- Grid row `r` of the output block. -/
def rowOut (i : grid0.Coords) (x0 x1 x2 x3 x4 x5 x6 : Vec F S512x128 .bf16) (x7 : Vec F S8x2x64x512 .f32) (r : Fin 8) :
    FVec F S64x128 .bf16 :=
  rowPay (View.ld x0 (Rect.unit (s := S512x128) ![64 * r.val, 0] S64x128.size (row_inb r)))
    (window i r (stacked x1 x2 x3)) (window i r (stacked x4 x5 x6))
    (View.ld x7 (Rect.unit (s := S8x2x64x512) (k0_off2 i (BitVec.ofNat 32 r.val)) S1x1x64x512.size (k0_off2_inb i r)))
    (View.ld x7 (Rect.unit (s := S8x2x64x512) (k0_off3 i (BitVec.ofNat 32 r.val)) S1x1x64x512.size (k0_off3_inb i r)))

/-- The output block: eight grid rows. -/
def outBlk (i : grid0.Coords) (x0 x1 x2 x3 x4 x5 x6 : Vec F S512x128 .bf16) (x7 : Vec F S8x2x64x512 .f32) :
    Vec F S512x128 .bf16 := fun y =>
  rowOut i x0 x1 x2 x3 x4 x5 x6 x7 ⟨(y 0).val / 64, Nat.div_lt_of_lt_mul (y 0).isLt⟩
    (ix2 ⟨(y 0).val % 64, Nat.mod_lt _ (by decide)⟩ (y 1))

/-- A piece holding grid row `r` is the output block there. -/
theorem piece_row (i : grid0.Coords) (x0 x1 x2 x3 x4 x5 x6 : Vec F S512x128 .bf16) (x7 : Vec F S8x2x64x512 .f32)
    (r : Fin 8) (x : S64x128.Idx) :
    rowOut i x0 x1 x2 x3 x4 x5 x6 x7 r x = outBlk i x0 x1 x2 x3 x4 x5 x6 x7
      ((Rect.unit (s := S512x128) ![64 * r.val, 0] S64x128.size (row_inb r)).emb x) := by
  have h0 : (((Rect.unit (s := S512x128) ![64 * r.val, 0] S64x128.size (row_inb r)).emb x) 0).val = 64 * r.val + (x 0).val := by
    show 64 * r.val + 1 * (x 0).val = _
    omega
  have hx : (x 0).val < 64 := (x 0).isLt
  unfold outBlk
  congr 1
  · congr 1; exact Fin.ext (by show r.val = _ / 64; rw [h0]; omega)
  · funext a
    match a with
    | ⟨0, _⟩ => exact Fin.ext (by show (x 0).val = _ % 64; rw [h0]; omega)
    | ⟨1, _⟩ => exact Fin.ext (by show (x 1).val = 0 + 1 * (x 1).val; omega)

/-- What a list of pieces leaves, when the pieces cover the shape and each agrees with one function. -/
theorem read_writes_eq_of_pieces {sig : RefSig} {κ : Kind} {sp : Space} {s : Shape} {e : EltTy} (v : View sig κ sp s e)
    (f : v.ty.Contents (Elt F)) (L : List (View.Piece (Elt F) s e)) (G : s.Idx → Elt F e)
    (hL : ∀ p ∈ L, ∀ x : p.1.shape.Idx, p.2 x = G (p.1.emb x)) (hc : ∀ y, ∃ p ∈ L, y ∈ p.1.set) :
    v.read (Elt F) (v.writes (Elt F) f L) = G := by
  rw [View.read_writes_eq_canon v f L hc]
  exact funext fun y => View.canon_apply_of_pieces G L hL y (hc y)

theorem pay2_id (x : Vec F S512x128 .bf16) : k0_pay2 x = x := shapeCast_self _ _
theorem pay3_id (x : Vec F S512x128 .bf16) : k0_pay3 x = x := shapeCast_self _ _
theorem pay4_id (x : Vec F S512x128 .bf16) : k0_pay4 x = x := shapeCast_self _ _
theorem pay5_id (x : Vec F S512x128 .bf16) : k0_pay5 x = x := shapeCast_self _ _
theorem pay6_id (x : Vec F S512x128 .bf16) : k0_pay6 x = x := shapeCast_self _ _
theorem pay7_id (x : Vec F S512x128 .bf16) : k0_pay7 x = x := shapeCast_self _ _

/-- A load of a whole block is the block. -/
theorem ld_block (x : Vec F S512x128 .bf16) (h) :
    View.ld x (Rect.unit (s := S512x128) ![0, 0] ![512, 128] h) = x :=
  View.ld_unit_zero (S := S512x128) (funext fun a => by match a with | ⟨0, _⟩ => rfl | ⟨1, _⟩ => rfl) h x

section Rows

variable (q : Vec F S64x128 .bf16) (k v : Vec F S512x128 .bf16) (b0 b1 : Vec F S1x1x64x512 .f32)

/-! Each of the eight grid rows is the same function of its operands. -/

theorem pay_row0 : k0_pay10 (iota Kind.tc S64x128 32 [1] iota_S64x128_d1_w32) q k v (k0_pay8 q k) (k0_pay9 b0) b1 = rowPay q k v b0 b1 := rfl
theorem pay_row1 : k0_pay13 (iota Kind.tc S64x128 32 [1] iota_S64x128_d1_w32) q k v (k0_pay11 (iota Kind.tc S64x128 32 [1] iota_S64x128_d1_w32) q k v b0) (k0_pay12 (iota Kind.tc S64x128 32 [1] iota_S64x128_d1_w32)) 128#32 b1 = rowPay q k v b0 b1 := rfl
theorem pay_row2 : k0_pay18 v (k0_pay14 (iota Kind.tc S64x128 32 [1] iota_S64x128_d1_w32) q k v b0) (k0_pay15 (iota Kind.tc S64x128 32 [1] iota_S64x128_d1_w32)) (k0_pay16 (iota Kind.tc S64x128 32 [1] iota_S64x128_d1_w32) q k b1) (k0_pay17 (iota Kind.tc S64x128 32 [1] iota_S64x128_d1_w32) q k b1) = rowPay q k v b0 b1 := rfl
theorem pay_row3 : k0_pay20 (iota Kind.tc S64x128 32 [1] iota_S64x128_d1_w32) q k v (k0_pay19 (iota Kind.tc S64x128 32 [1] iota_S64x128_d1_w32) q k) b0 b1 = rowPay q k v b0 b1 := rfl
theorem pay_row4 : k0_pay22 (iota Kind.tc S64x128 32 [1] iota_S64x128_d1_w32) q k v (k0_pay21 (iota Kind.tc S64x128 32 [1] iota_S64x128_d1_w32) q k v b0) 64#32 b1 = rowPay q k v b0 b1 := rfl
theorem pay_row5 : k0_pay26 v (k0_pay23 (iota Kind.tc S64x128 32 [1] iota_S64x128_d1_w32) q k v b0) (k0_pay24 (iota Kind.tc S64x128 32 [1] iota_S64x128_d1_w32)) (k0_pay25 (iota Kind.tc S64x128 32 [1] iota_S64x128_d1_w32) q k b1) = rowPay q k v b0 b1 := rfl
theorem pay_row6 : k0_pay28 (iota Kind.tc S64x128 32 [1] iota_S64x128_d1_w32) q k v (k0_pay27 (iota Kind.tc S64x128 32 [1] iota_S64x128_d1_w32) q k) b0 b1 = rowPay q k v b0 b1 := rfl
theorem pay_row7 : k0_pay1 (iota Kind.tc S64x128 32 [1] iota_S64x128_d1_w32) q k v (k0_pay30 (iota Kind.tc S64x128 32 [1] iota_S64x128_d1_w32) q k b0) (k0_pay31 (iota Kind.tc S64x128 32 [1] iota_S64x128_d1_w32) q k v b0) b1 = rowPay q k v b0 b1 := rfl

end Rows

theorem rows_cover (y : S512x128.Idx) : ∃ r : Fin 8,
    y ∈ (Rect.unit (s := S512x128) ![64 * r.val, 0] S64x128.size (row_inb r)).set := by
  have h0 : (y 0).val < 512 := (y 0).isLt
  have h1 : (y 1).val < 128 := (y 1).isLt
  refine ⟨⟨(y 0).val / 64, by omega⟩, ?_⟩
  rw [Rect.mem_set_unit]
  intro a
  match a with
  | ⟨0, _⟩ => exact ⟨by show 64 * ((y 0).val / 64) ≤ (y 0).val; omega, by show (y 0).val < 64 * ((y 0).val / 64) + 64; omega⟩
  | ⟨1, _⟩ => exact ⟨Nat.zero_le _, by show (y 1).val < 0 + 128; omega⟩

/-- Eight pieces, one grid row each and each at the row's value, leave the output block. -/
theorem rows_written {sig : RefSig} {κ : Kind} {sp : Space} (v : View sig κ sp S512x128 .bf16)
    (f : v.ty.Contents (Elt F)) (i : grid0.Coords) (x0 x1 x2 x3 x4 x5 x6 : Vec F S512x128 .bf16) (x7 : Vec F S8x2x64x512 .f32)
    (p7 p6 p5 p4 p3 p2 p1 p0 : FVec F S64x128 .bf16)
    (h7 : p7 = rowOut i x0 x1 x2 x3 x4 x5 x6 x7 7)
    (h6 : p6 = rowOut i x0 x1 x2 x3 x4 x5 x6 x7 6)
    (h5 : p5 = rowOut i x0 x1 x2 x3 x4 x5 x6 x7 5)
    (h4 : p4 = rowOut i x0 x1 x2 x3 x4 x5 x6 x7 4)
    (h3 : p3 = rowOut i x0 x1 x2 x3 x4 x5 x6 x7 3)
    (h2 : p2 = rowOut i x0 x1 x2 x3 x4 x5 x6 x7 2)
    (h1 : p1 = rowOut i x0 x1 x2 x3 x4 x5 x6 x7 1)
    (h0 : p0 = rowOut i x0 x1 x2 x3 x4 x5 x6 x7 0)
    : v.read (Elt F) (v.writes (Elt F) f [
      ⟨Rect.unit (s := S512x128) ![448, 0] S64x128.size inb_S512x128_S64x128_448_0, p7⟩,
      ⟨Rect.unit (s := S512x128) ![384, 0] S64x128.size inb_S512x128_S64x128_384_0, p6⟩,
      ⟨Rect.unit (s := S512x128) ![320, 0] S64x128.size inb_S512x128_S64x128_320_0, p5⟩,
      ⟨Rect.unit (s := S512x128) ![256, 0] S64x128.size inb_S512x128_S64x128_256_0, p4⟩,
      ⟨Rect.unit (s := S512x128) ![192, 0] S64x128.size inb_S512x128_S64x128_192_0, p3⟩,
      ⟨Rect.unit (s := S512x128) ![128, 0] S64x128.size inb_S512x128_S64x128_128_0, p2⟩,
      ⟨Rect.unit (s := S512x128) ![64, 0] S64x128.size inb_S512x128_S64x128_64_0, p1⟩,
      ⟨Rect.unit (s := S512x128) ![0, 0] S64x128.size inb_S512x128_S64x128_0_0, p0⟩]) = outBlk i x0 x1 x2 x3 x4 x5 x6 x7 := by
  subst h7 h6 h5 h4 h3 h2 h1 h0
  refine read_writes_eq_of_pieces _ _ _ _ ?_ ?_
  · intro p hp x
    simp only [List.mem_cons, List.not_mem_nil, or_false] at hp
    rcases hp with h | h | h | h | h | h | h | h <;> subst h
    · exact piece_row i x0 x1 x2 x3 x4 x5 x6 x7 7 x
    · exact piece_row i x0 x1 x2 x3 x4 x5 x6 x7 6 x
    · exact piece_row i x0 x1 x2 x3 x4 x5 x6 x7 5 x
    · exact piece_row i x0 x1 x2 x3 x4 x5 x6 x7 4 x
    · exact piece_row i x0 x1 x2 x3 x4 x5 x6 x7 3 x
    · exact piece_row i x0 x1 x2 x3 x4 x5 x6 x7 2 x
    · exact piece_row i x0 x1 x2 x3 x4 x5 x6 x7 1 x
    · exact piece_row i x0 x1 x2 x3 x4 x5 x6 x7 0 x
  · intro y
    obtain ⟨⟨r, hlt⟩, hy⟩ := rows_cover y
    simp only [List.mem_cons, List.not_mem_nil, or_false, exists_eq_or_imp, exists_eq_left]
    have h : ∀ n : Nat, ∀ hn : n < 8, r = n → y ∈ (Rect.unit (s := S512x128) ![64 * n, 0] S64x128.size (row_inb ⟨n, hn⟩)).set := by
      rintro n hn rfl; exact hy
    rcases (by omega : r = 7 ∨ r = 6 ∨ r = 5 ∨ r = 4 ∨ r = 3 ∨ r = 2 ∨ r = 1 ∨ r = 0) with e | e | e | e | e | e | e | e
    · exact Or.inl (h 7 (by decide) e)
    · exact Or.inr (Or.inl (h 6 (by decide) e))
    · exact Or.inr (Or.inr (Or.inl (h 5 (by decide) e)))
    · exact Or.inr (Or.inr (Or.inr (Or.inl (h 4 (by decide) e))))
    · exact Or.inr (Or.inr (Or.inr (Or.inr (Or.inl (h 3 (by decide) e)))))
    · exact Or.inr (Or.inr (Or.inr (Or.inr (Or.inr (Or.inl (h 2 (by decide) e))))))
    · exact Or.inr (Or.inr (Or.inr (Or.inr (Or.inr (Or.inr (Or.inl (h 1 (by decide) e)))))))
    · exact Or.inr (Or.inr (Or.inr (Or.inr (Or.inr (Or.inr (Or.inr (h 0 (by decide) e)))))))

/-- The offsets of a window of eight grid rows: its first row in the three stacked blocks, and column zero. -/
instance (i : grid0.Coords) (r : BitVec 32) : ClosedOff (k0_off1 i r) :=
  ⟨![k0_off1 i r 0, 0], by funext a; match a with | ⟨0, _⟩ => rfl | ⟨1, _⟩ => rfl⟩

set_option maxHeartbeats 0 in
/-- The body at a grid point: from the eight input blocks to the output block `outBlk`. -/
theorem run (c : Dev nD) (i : grid0.Coords) (arg2 : Memref sig .tc .vmem S512x128 .bf16) (harg2 : arg2.IsWhole) (arg3 : Memref sig .tc .vmem S512x128 .bf16) (harg3 : arg3.IsWhole) (arg4 : Memref sig .tc .vmem S512x128 .bf16) (harg4 : arg4.IsWhole) (arg5 : Memref sig .tc .vmem S512x128 .bf16) (harg5 : arg5.IsWhole) (arg6 : Memref sig .tc .vmem S512x128 .bf16) (harg6 : arg6.IsWhole) (arg7 : Memref sig .tc .vmem S512x128 .bf16) (harg7 : arg7.IsWhole) (arg8 : Memref sig .tc .vmem S512x128 .bf16) (harg8 : arg8.IsWhole) (arg9 : Memref sig .tc .vmem S8x2x64x512 .f32) (harg9 : arg9.IsWhole) (arg10 : Memref sig .tc .vmem S512x128 .bf16) (harg10 : arg10.IsWhole) (arg11 : Memref sig .tc .vmem S1536x128 .bf16) (harg11 : arg11.IsWhole) (arg12 : Memref sig .tc .vmem S1536x128 .bf16) (harg12 : arg12.IsWhole)
    (x0 : Vec F S512x128 .bf16) (x1 : Vec F S512x128 .bf16) (x2 : Vec F S512x128 .bf16) (x3 : Vec F S512x128 .bf16) (x4 : Vec F S512x128 .bf16) (x5 : Vec F S512x128 .bf16) (x6 : Vec F S512x128 .bf16) (x7 : Vec F S8x2x64x512 .f32) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ (∃ d, owns (c : Thread nD τ) arg11 fullShare d) ∗ (∃ d, owns (c : Thread nD τ) arg12 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare (outBlk i x0 x1 x2 x3 x4 x5 x6 x7) ∗ (∃ d, owns (c : Thread nD τ) arg11 fullShare d) ∗ (∃ d, owns (c : Thread nD τ) arg12 fullShare d)) -∗ K ⟨⟩))
          ⊢ wp frame (wpE (defs₀ (F := F)) Variants.none c none) E (cc0_natten i arg2 harg2 arg3 harg3 arg4 harg4 arg5 harg5 arg6 harg6 arg7 harg7 arg8 harg8 arg9 harg9 arg10 harg10 arg11 harg11 arg12 harg12) K := by
    intro E K
    simp only [cc0_natten_eq_skeleton]; unfold cc0_natten_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%ds0, %fs0, -, HS0⟩, ⟨%ds1, %fs1, -, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7
    sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; swap; · iexact H8
      ipureintro
      refine rows_written _ _ i x0 x1 x2 x3 x4 x5 x6 x7 _ _ _ _ _ _ _ _ ?_ ?_ ?_ ?_ ?_ ?_ ?_ ?_
      all_goals
        sl_open_run
        simp only [View.readAt_writes_junk_eq_canon, View.readAt_eq_ld, hf0, hf1, hf2, hf3, hf4, hf5, hf6, hf7,
          ld_block, pay2_id, pay3_id, pay4_id, pay5_id, pay6_id, pay7_id]
      · exact pay_row7 _ _ _ _ _
      · exact pay_row6 _ _ _ _ _
      · exact pay_row5 _ _ _ _ _
      · exact pay_row4 _ _ _ _ _
      · exact pay_row3 _ _ _ _ _
      · exact pay_row2 _ _ _ _ _
      · exact pay_row1 _ _ _ _ _
      · exact pay_row0 _ _ _ _ _
    isplitl [HS0]
    · iexists _, _; isplitr; swap; · iexact HS0
      ipureintro; rfl
    iexists _, _; isplitr; swap; · iexact HS1
    ipureintro; rfl

end Cert.KernelIdeal.Na

end
-- ==== Proof.NaMath.lean ====
/-
The attention of one query over its window, over the extended reals: a softmax over a larger set of keys, of which all
but the window's have the score −∞, and which divides once at the end, equals the softmax over the window alone, which
divides each weight.
-/
module

public import Idealize.ShloMosaic.Lib.Pointwise

@[expose] public section

open Idealize Idealize.ShloMosaic

namespace Cert.Na

/-- The largest of finitely many scores, −∞ where there are none. -/
noncomputable abbrev top {ι : Type*} [Fintype ι] (s : ι → EReal) : EReal := Finset.univ.fold max ⊥ s

theorem top_eq_sup {ι : Type*} [Fintype ι] (s : ι → EReal) : top s = Finset.univ.sup s := rfl

/-- A score that is finite is a real number. -/
theorem exists_real {x : EReal} (h : x ≠ ⊥ ∧ x ≠ ⊤) : ∃ r : ℝ, x = r :=
  ⟨x.toReal, (EReal.coe_toReal h.2 h.1).symm⟩

/-- The largest of finite scores is finite. -/
theorem top_real {ι : Type*} [Fintype ι] [Nonempty ι] (s : ι → EReal) (hs : ∀ i, s i ≠ ⊥ ∧ s i ≠ ⊤) : ∃ r : ℝ, top s = r := by
  refine exists_real ⟨?_, ?_⟩
  · intro h
    have i := Classical.arbitrary ι
    have : s i ≤ top s := by rw [top_eq_sup]; exact Finset.le_sup (Finset.mem_univ i)
    rw [h] at this
    exact (hs i).1 (le_bot_iff.mp this)
  · have : top s < ⊤ := by
      rw [top_eq_sup, Finset.sup_lt_iff bot_lt_top]
      exact fun i _ => lt_top_iff_ne_top.mpr (hs i).2
    exact this.ne

/-- Scores of −∞ beside the window's do not change the largest. -/
theorem top_window {ι κ : Type*} [Fintype ι] [Fintype κ] (e : ι → κ) (s : ι → EReal) (t : κ → EReal) (ht : ∀ i, t (e i) = s i)
    (ht' : ∀ j, j ∉ Set.range e → t j = ⊥) : top t = top s := by
  rw [top_eq_sup, top_eq_sup]
  refine le_antisymm (Finset.sup_le fun j _ => ?_) (Finset.sup_le fun i _ => ?_)
  · by_cases h : j ∈ Set.range e
    · obtain ⟨i, rfl⟩ := h
      rw [ht]
      exact Finset.le_sup (f := s) (Finset.mem_univ i)
    · rw [ht' j h]
      exact bot_le
  · rw [← ht i]
    exact Finset.le_sup (f := t) (Finset.mem_univ (e i))

/-- A nonnegative finite factor goes into a finite sum. -/
theorem mul_sum_real {ι : Type*} (S : Finset ι) (c : ℝ) (hc : 0 ≤ c) (f : ι → EReal) :
    (c : EReal) * ∑ i ∈ S, f i = ∑ i ∈ S, (c : EReal) * f i := by
  classical
  induction S using Finset.induction_on with
  | empty => simp
  | insert a S ha ih =>
    rw [Finset.sum_insert ha, Finset.sum_insert ha,
      EReal.left_distrib_of_nonneg_of_ne_top (by exact_mod_cast hc) (EReal.coe_ne_top c), ih]

theorem sum_coe {ι : Type*} (S : Finset ι) (f : ι → ℝ) : (∑ i ∈ S, (f i : EReal)) = ((∑ i ∈ S, f i : ℝ) : EReal) := by
  classical
  induction S using Finset.induction_on with
  | empty => simp
  | insert a S ha ih => rw [Finset.sum_insert ha, Finset.sum_insert ha, ih, EReal.coe_add]

/-- The weighted values of a softmax that divides each weight. -/
noncomputable def softmaxSum {ι : Type*} [Fintype ι] (s v : ι → EReal) : EReal :=
  ∑ i, Ideal.div (Ideal.exp (s i - top s)) (∑ k, Ideal.exp (s k - top s)) * v i

/-- **The attention over a window.** `t` are the scores over all keys, −∞ outside the window `e`, `s` the window's scores,
    all finite: summing first and dividing at the end gives the window's softmax. -/
theorem window_softmax {ι κ : Type*} [Fintype ι] [Nonempty ι] [Fintype κ] (e : ι → κ) (he : Function.Injective e)
    (s : ι → EReal) (hs : ∀ i, s i ≠ ⊥ ∧ s i ≠ ⊤) (t : κ → EReal) (ht : ∀ i, t (e i) = s i)
    (ht' : ∀ j, j ∉ Set.range e → t j = ⊥) (v : ι → EReal) (u : κ → EReal) (hu : ∀ i, u (e i) = v i) :
    Ideal.div (∑ j, Ideal.exp (t j - top t) * u j) (∑ j, Ideal.exp (t j - top t)) = softmaxSum s v := by
  unfold softmaxSum
  rw [top_window e s t ht ht']
  obtain ⟨M, hM⟩ := top_real s hs
  rw [hM]
  choose r hr using fun i => exists_real (hs i)
  have hp : ∀ i, Ideal.exp (s i - (M : EReal)) = (Real.exp (r i - M) : EReal) := by
    intro i
    rw [hr i, ← EReal.coe_sub]
    rfl
  have h0 : ∀ j, j ∉ Set.range e → Ideal.exp (t j - (M : EReal)) = 0 := by
    intro j hj
    rw [ht' j hj, sub_eq_add_neg, EReal.bot_add]
    rfl
  have h1 : ∑ j, Ideal.exp (t j - (M : EReal)) * u j = ∑ i, Ideal.exp (s i - (M : EReal)) * v i := by
    refine (Fintype.sum_of_injective e he _ _ (fun j hj => ?_) (fun i => ?_)).symm
    · rw [h0 j hj, zero_mul]
    · rw [ht, hu]
  have h2 : ∑ j, Ideal.exp (t j - (M : EReal)) = ∑ i, Ideal.exp (s i - (M : EReal)) := by
    refine (Fintype.sum_of_injective e he _ _ (fun j hj => h0 j hj) (fun i => ?_)).symm
    rw [ht]
  rw [h1, h2]
  have hL : ∑ i, Ideal.exp (s i - (M : EReal)) = ((∑ i, Real.exp (r i - M) : ℝ) : EReal) := by
    rw [← sum_coe]
    exact Finset.sum_congr rfl fun i _ => hp i
  have hpos : 0 < ∑ i, Real.exp (r i - M) := Finset.sum_pos (fun i _ => Real.exp_pos _) Finset.univ_nonempty
  rw [hL]
  generalize hA : (∑ i, Real.exp (r i - M)) = A at hpos
  have hne : (A : EReal) ≠ 0 := by exact_mod_cast hpos.ne'
  unfold Ideal.div
  rw [if_neg hne, ← EReal.coe_inv, mul_comm, mul_sum_real _ _ (inv_nonneg.mpr hpos.le)]
  refine Finset.sum_congr rfl fun i _ => ?_
  rw [if_neg hne, mul_comm (Ideal.exp _) ((A⁻¹ : ℝ) : EReal), mul_assoc]

end Cert.Na

end
-- ==== Proof.NaSpec.lean ====
/-
The neighbourhood attention of a batch of token grids: eight grids of 128 rows and then four of 64, each row of 64 tokens,
eight heads of 64 lanes. A token attends to the 8 rows and 16 columns about it, the window moved inwards at the borders; a
table of biases is read by the offset of the key from the query.
-/
module

public import proofs.«01_k».proof.Proof.NaMath

@[expose] public section

open Idealize Idealize.ShloMosaic

namespace Cert.Na

/-- The array of all tokens, 512 lanes each. -/
abbrev Tokens : Shape := ⟨2, ![81920, 512]⟩
/-- The table of biases: heads, row offsets, column offsets. -/
abbrev Biases : Shape := ⟨3, ![8, 15, 31]⟩

/-- The array's entry at a token and a lane given as naturals (0 outside the array, which is never read). -/
noncomputable def at2 (X : Tokens.Idx → EReal) (n e : ℕ) : EReal :=
  if h : n < 81920 ∧ e < 512 then X (ix2 ⟨n, h.1⟩ ⟨e, h.2⟩) else 0

/-- The table's entry at naturals. -/
noncomputable def at3 (B : Biases.Idx → EReal) (h a b : ℕ) : EReal :=
  if H : h < 8 ∧ a < 15 ∧ b < 31 then B (ix3 ⟨h, H.1⟩ ⟨a, H.2.1⟩ ⟨b, H.2.2⟩) else 0

theorem at2_eq (X : Tokens.Idx → EReal) (y : Tokens.Idx) (n e : ℕ) (h0 : (y 0).val = n) (h1 : (y 1).val = e) :
    X y = at2 X n e := by
  subst h0 h1
  unfold at2
  rw [dif_pos ⟨(y 0).isLt, (y 1).isLt⟩]
  congr 1
  funext a
  match a with
  | ⟨0, _⟩ => rfl
  | ⟨1, _⟩ => rfl

theorem at3_eq (B : Biases.Idx → EReal) (y : Biases.Idx) (h a b : ℕ) (h0 : (y 0).val = h) (h1 : (y 1).val = a)
    (h2 : (y 2).val = b) : B y = at3 B h a b := by
  subst h0 h1 h2
  unfold at3
  rw [dif_pos ⟨(y 0).isLt, (y 1).isLt, (y 2).isLt⟩]
  congr 1
  funext c
  match c with
  | ⟨0, _⟩ => rfl
  | ⟨1, _⟩ => rfl
  | ⟨2, _⟩ => rfl

/-- The first row of the window of row `r`, of a grid of `R` rows. -/
def rstart (R r : ℕ) : ℕ := min (r - 4) (R - 8)
/-- The first column of the window of column `c`. -/
def cstart (c : ℕ) : ℕ := min (c - 8) 48

/-- The score of the window's key `i` for the query at row `r`, column `c` and head `h`; `base` is the grid's first token. -/
noncomputable def score (Q K : Tokens.Idx → EReal) (B : Biases.Idx → EReal) (R base r c h : ℕ) (i : Fin 128) : EReal :=
  (∑ d : Fin 64, at2 Q (base + r * 64 + c) (h * 64 + d.val)
      * at2 K (base + (rstart R r + i.val / 16) * 64 + (cstart c + i.val % 16)) (h * 64 + d.val))
    + at3 B h (rstart R r + i.val / 16 + 7 - r) (cstart c + i.val % 16 + 15 - c)

/-- Lane `d` of the value of the window's key `i`. -/
noncomputable def value (V : Tokens.Idx → EReal) (R base r c h d : ℕ) (i : Fin 128) : EReal :=
  at2 V (base + (rstart R r + i.val / 16) * 64 + (cstart c + i.val % 16)) (h * 64 + d)

/-- Lane `d` of the attention of one query and head. -/
noncomputable def attend (Q K V : Tokens.Idx → EReal) (B : Biases.Idx → EReal) (R base r c h d : ℕ) : EReal :=
  softmaxSum (score Q K B R base r c h) (value V R base r c h d)

/-- The attention of token `n` at lane `e`. -/
noncomputable def out (Q K V : Tokens.Idx → EReal) (B : Biases.Idx → EReal) (n e : ℕ) : EReal :=
  if n < 65536 then attend Q K V B 128 (n / 8192 * 8192) (n % 8192 / 64) (n % 64) (e / 64) (e % 64)
  else attend Q K V B 64 (65536 + (n - 65536) / 4096 * 4096) ((n - 65536) % 4096 / 64) (n % 64) (e / 64) (e % 64)

/-- The bit pattern of minus infinity. -/
theorem negInf : Ideal.ofBits .f32 0xFF800000#32 = ⊥ := by
  simp [Ideal.ofBits, Ideal.ieee]

/-- A sum over the 128 keys of a window, by rows and columns. -/
theorem sum_rows_cols (F : Fin 128 → EReal) (f : Fin 8 → Fin 16 → EReal) (h : ∀ a w, F ⟨a.val * 16 + w.val, by omega⟩ = f a w) :
    ∑ i, F i = ∑ a, ∑ w, f a w := by
  rw [← Fintype.sum_prod_type']
  refine (Fintype.sum_equiv (finProdFinEquiv (m := 8) (n := 16)) _ _ fun p => ?_).symm
  rw [← h]
  refine congrArg F (Fin.ext ?_)
  show p.1.val * 16 + p.2.val = p.2.val + 16 * p.1.val
  omega

end Cert.Na

end
-- ==== Proof.NaRow.lean ====
/-
One grid row of the call's output over the reals: two heads' scores over 512 keys, their softmax, and the weighted sum of the values.
-/
module

public import proofs.«01_k».proof.Proof.NaRun
public import proofs.«01_k».proof.Proof.NaSpec
public import Idealize.ShloMosaic.Lib.IdealHost
public import Idealize.ShloMosaic.Lib.Pointwise

@[expose] public section

open Idealize Idealize.ShloMosaic Cert.Na
namespace Cert.KernelIdeal.Na
open Cert.KernelIdeal Cert.KernelIdeal.Gen
set_option maxRecDepth 16384

section Parts
variable {F : FTy → Type} [FloatOps F]
/-- The exponentials of each row of scores, less the row's largest. -/
noncomputable def expPay (s : FVec F S64x512 .f32) : FVec F S64x512 .f32 :=
  exp (subf s (broadcastTo S64x512 (shapeCast S64x1
    (multiReduction .maximumf [1] S64 s 0xFF800000#32 reduces_S64x512_S64 (.inl rfl) rfl) shapeCasts_S64_S64x1) broadcasts_S64x1_S64x512))

/-- The softmax of each row of scores, applied to the values. -/
noncomputable def softPay (s : FVec F S64x512 .f32) (v : Vec F S512x128 .bf16) : FVec F S64x128 .f32 :=
  divf (matmul dot_S64x512_S512x128_S64x128_1_0_0_1_n_n none (truncf .bf16 (expPay s) bitsLt_bf16_f32) v (constant S64x128 .f32 0x00000000#32))
    (broadcastTo S64x128 (shapeCast S64x1 (multiReduction .add [1] S64 (expPay s) 0x00000000#32 reduces_S64x512_S64 (.inl rfl) rfl) shapeCasts_S64_S64x1)
      broadcasts_S64x1_S64x128)

/-- The lanes of one of the two heads. -/
def lanes (lo hi : BitVec 32) : IVec S64x128 1 :=
  andi (cmpi .sge (iota .tc S64x128 32 [1] iota_S64x128_d1_w32) (broadcast S64x128 lo))
    (cmpi .slt (iota .tc S64x128 32 [1] iota_S64x128_d1_w32) (broadcast S64x128 hi))

/-- One head's scores, its queries kept and the other's set to zero. -/
noncomputable def scorePay (lo hi : BitVec 32) (q : Vec F S64x128 .bf16) (k : Vec F S512x128 .bf16) (b : Vec F S1x1x64x512 .f32) : FVec F S64x512 .f32 :=
  addf (matmul dot_S64x128_S512x128_S64x512_1_1_0_0_n_n none
      (select (lanes lo hi) q (broadcast S64x128 (Scalar.ofBits .bf16 0x0000#16))) k (constant S64x512 .f32 0x00000000#32))
    (shapeCast S64x512 b shapeCasts_S1x1x64x512_S64x512)

theorem rowPay_eq (q : Vec F S64x128 .bf16) (k v : Vec F S512x128 .bf16) (b0 b1 : Vec F S1x1x64x512 .f32) :
    rowPay q k v b0 b1 = truncf .bf16 (select (lanes 64#32 128#32) (softPay (scorePay 64#32 128#32 q k b1) v)
      (softPay (scorePay 0#32 64#32 q k b0) v)) bitsLt_bf16_f32 := rfl
end Parts

theorem eq_zero_of_ne_one : ∀ {b : BitVec 1}, b ≠ 1#1 → b = 0#1 := by decide

theorem rowMax_at (s : FVec Ideal S64x512 .f32) (c : Fin 64) :
    multiReduction .maximumf [1] S64 s 0xFF800000#32 reduces_S64x512_S64 (.inl rfl) rfl (ix1 c) = top fun j => s (ix2 c j) := by
  refine (Ideal.multiReduction_maximumf_single s 0xFF800000#32 reduces_S64x512_S64 (.inl rfl) rfl (ix1 c)).trans ?_
  rw [Ideal.ofBits_def, negInf]
  refine congrArg (Finset.fold max ⊥ · Finset.univ) (funext fun j => congrArg s (funext fun a => Fin.ext ?_))
  match a with
  | ⟨0, _⟩ => rfl
  | ⟨1, _⟩ => rfl

theorem rowSum_at (s : FVec Ideal S64x512 .f32) (c : Fin 64) :
    multiReduction .add [1] S64 s 0x00000000#32 reduces_S64x512_S64 (.inl rfl) rfl (ix1 c) = ∑ j : Fin 512, s (ix2 c j) := by
  refine (Ideal.multiReduction_add_single s 0x00000000#32 reduces_S64x512_S64 (.inl rfl) rfl (ix1 c)).trans ?_
  refine Finset.sum_congr rfl fun j _ => (congrArg s (funext fun a => Fin.ext ?_))
  match a with
  | ⟨0, _⟩ => rfl
  | ⟨1, _⟩ => rfl

theorem expPay_at (s : FVec Ideal S64x512 .f32) (c : Fin 64) (j : Fin 512) :
    expPay s (ix2 c j) = Ideal.exp (s (ix2 c j) - top fun j => s (ix2 c j)) := by
  unfold expPay
  rw [← rowMax_at s c]
  generalize multiReduction .maximumf [1] S64 s 0xFF800000#32 reduces_S64x512_S64 (.inl rfl) rfl = mx
  pointwise

theorem softPay_at (s : FVec Ideal S64x512 .f32) (v : Vec Ideal S512x128 .bf16) (c : Fin 64) (l : Fin 128) :
    softPay s v (ix2 c l) = Ideal.div (∑ j : Fin 512, Ideal.exp (s (ix2 c j) - top fun j => s (ix2 c j)) * v (ix2 j l))
      (∑ j : Fin 512, Ideal.exp (s (ix2 c j) - top fun j => s (ix2 c j))) := by
  have he := expPay_at s c
  unfold softPay
  generalize expPay s = e at he ⊢
  simp only [← he]
  rw [← rowSum_at e c]
  generalize multiReduction .add [1] S64 e 0x00000000#32 reduces_S64x512_S64 (.inl rfl) rfl = sm
  pointwise

theorem lanes_lo : ∀ l : Fin 128, ∀ c : Fin 64, lanes 0#32 64#32 (ix2 c l) = if l.val < 64 then 1#1 else 0#1 := by
  decide +kernel
theorem lanes_hi : ∀ l : Fin 128, ∀ c : Fin 64, lanes 64#32 128#32 (ix2 c l) = if l.val < 64 then 0#1 else 1#1 := by
  decide +kernel

theorem scorePay_at (lo hi : BitVec 32) (q : Vec Ideal S64x128 .bf16) (k : Vec Ideal S512x128 .bf16) (b : Vec Ideal S1x1x64x512 .f32) (c : Fin 64) (j : Fin 512) :
    scorePay lo hi q k b (ix2 c j) = (∑ l : Fin 128, (if lanes lo hi (ix2 c l) = 1#1 then q (ix2 c l) else 0) * k (ix2 j l)) + b (ix4 0 0 c j) := by
  unfold scorePay
  pointwise
  refine congrArg (· + _) (Finset.sum_congr rfl fun l _ => ?_)
  by_cases h : lanes lo hi (ix2 c l) = 1#1
  · rw [if_pos h, h]
    rfl
  · rw [if_neg h, zero_mul, eq_zero_of_ne_one h]
    rfl
end Cert.KernelIdeal.Na

end
-- ==== Proof.NaFrame.lean ====
/- The run of the idealized neighbourhood attention call over its grid, with the output block named at every point. -/
module

public import proofs.«01_k».proof.Proof.NaRun
public import Idealize.ShloMosaic.Lib.Claim

@[expose] public section

set_option maxRecDepth 16384

noncomputable section

namespace Cert.KernelIdeal.Na

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! The staging buffer of each window at a point. -/

abbrev ms0_0 (t : Fin cfg0.N) : Memref sig .tc .vmem S512x128 .bf16 := win0_0.stage (cfg0.slots t 0)
abbrev ms0_1 (t : Fin cfg0.N) : Memref sig .tc .vmem S512x128 .bf16 := win0_1.stage (cfg0.slots t 1)
abbrev ms0_2 (t : Fin cfg0.N) : Memref sig .tc .vmem S512x128 .bf16 := win0_2.stage (cfg0.slots t 2)
abbrev ms0_3 (t : Fin cfg0.N) : Memref sig .tc .vmem S512x128 .bf16 := win0_3.stage (cfg0.slots t 3)
abbrev ms0_4 (t : Fin cfg0.N) : Memref sig .tc .vmem S512x128 .bf16 := win0_4.stage (cfg0.slots t 4)
abbrev ms0_5 (t : Fin cfg0.N) : Memref sig .tc .vmem S512x128 .bf16 := win0_5.stage (cfg0.slots t 5)
abbrev ms0_6 (t : Fin cfg0.N) : Memref sig .tc .vmem S512x128 .bf16 := win0_6.stage (cfg0.slots t 6)
abbrev ms0_7 (t : Fin cfg0.N) : Memref sig .tc .vmem S8x2x64x512 .f32 := win0_7.stage (cfg0.slots t 7)
abbrev ms0_8 (t : Fin cfg0.N) : Memref sig .tc .vmem S512x128 .bf16 := win0_8.stage (cfg0.slots t 8)

/-- The two scratch buffers of the body. -/
abbrev scM0_0 : Memref sig .tc .vmem S1536x128 .bf16 := Memref.whole cc0_scratch0
abbrev scM0_1 : Memref sig .tc .vmem S1536x128 .bf16 := Memref.whole cc0_scratch1

/-- What the body keeps from point to point: its two scratch buffers and the generator register. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

/-- What the body leaves at each point: the input blocks in place, and the output block. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => outBlk (grid0.coords t) (iblk m c 0 t) (iblk m c 1 t) (iblk m c 2 t) (iblk m c 3 t) (iblk m c 4 t) (iblk m c 5 t) (iblk m c 6 t) (iblk m c 7 t)
  Φ _ := Pipeline.ΦA spec0 c
  q w := Pipeline.shareOf spec0 w
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = outBlk (grid0.coords t) (iblk m c 0 t) (iblk m c 1 t) (iblk m c 2 t) (iblk m c 3 t) (iblk m c 4 t) (iblk m c 5 t) (iblk m c 6 t) (iblk m c 7 t) := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d
theorem before_6 (c : Dev nD) (t : Fin cfg0.N) (d) : (dats m 0 c).before 6 t d = iblk m c 6 t :=
  before0_6_of m (dats m 0 c) (A_eq m c 6) (after_6 m c) t d
theorem before_7 (c : Dev nD) (t : Fin cfg0.N) (d) : (dats m 0 c).before 7 t d = iblk m c 7 t :=
  before0_7_of m (dats m 0 c) (A_eq m c 7) (after_7 m c) t d

/-- What the body is given at point `t`. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d)))

/-- What the body returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t))

set_option maxHeartbeats 1600000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7]
  rw [show (dats m 0 c).Φ t.succ = (dats m 0 c).Φ t.castSucc from rfl,
    show (dats m 0 c).owesAt () t.succ = (dats m 0 c).owesAt () t.castSucc from rfl, after_0, after_1, after_2, after_3, after_4, after_5, after_6, after_7, after_8]
  rw [show (dats m 0 c).Φ t.castSucc = Pipeline.ΦA spec0 c from rfl, PhiA0_eq]
  iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply ((run c (grid0.coords t) _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t)) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [HS0]; · iexact HS0
  isplitl [HS1]; · iexact HS1
  iintro ⟨H0, H1, H2, H3, H4, H5, H6, H7, H8, HS0, HS1⟩
  isplitl [HS0 HS1 Hg]
  · isplitl [HS0 HS1]
    · isplitl [HS0]
      · iexact HS0
      iexact HS1
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
/-- The launch: the arrays after the grid, and every counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hΦ := fun _ _ => rfl)

theorem run_main : θ_run defs (onTc (τ := τ) (main (F := F))) (s₀ m ρ) (Pipeline.FramePost cfgs (dats m) 0 (V m)) :=
  (θ_run defs _ _).mono (fun _ h => h.1) (run_main_quiescent m ρ)

/-- The arguments end unchanged, and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ (dats m) (A_eq m) (run_main m ρ)) ((θ_run defs _ _).mono (fun _ h => h.2) (run_main_quiescent m ρ))

end Cert.KernelIdeal.Na

end
-- ==== Proof.NaGather.lean ====
/-
The gathers of a neighbourhood attention read at an index: each takes, along one axis, the position that a table of
start indices names (clamped into the axis), and keeps the other coordinates.
-/
module

public import proofs.«01_k».proof.ReferenceIdeal
public import proofs.«01_k».proof.KernelIdeal
public import Idealize.ShloMosaic.Lib.Pointwise

@[expose] public section

set_option maxRecDepth 16384

open Idealize Idealize.ShloMosaic

namespace Cert.ReferenceIdeal

variable [Facts]

/-- A row's window of grid rows, out of grids of 128 rows. -/
theorem gather_rows1 {α : Type} (x : S8x128x64x8x64.Idx → α) (idx : IVec S128x8x1 32) (j : S8x128x8x64x8x64.Idx) :
    Host.gather gather_S8x128x64x8x64_S128x8x1_S8x128x8x64x8x64_0345_1_n_n_1_2_8164864 x idx j = x (ix5 (j 0) ⟨min (idx (ix3 (j 1) (j 2) 0)).toInt.toNat 127, by omega⟩ (j 3) (j 4) (j 5)) := by
  unfold Host.gather
  congr 1
  funext a
  refine Fin.ext ?_
  match a with
  | ⟨0, _⟩ => exact Nat.zero_add _
  | ⟨1, _⟩ =>
    have hsi : (gather_S8x128x64x8x64_S128x8x1_S8x128x8x64x8x64_0345_1_n_n_1_2_8164864).siIdx j ⟨0, Nat.one_pos⟩ = ix3 (j 1) (j 2) 0 := by
      funext b
      refine Fin.ext ?_
      match b with
      | ⟨0, _⟩ => rfl
      | ⟨1, _⟩ => rfl
      | ⟨2, _⟩ => rfl
    show min (idx ((gather_S8x128x64x8x64_S128x8x1_S8x128x8x64x8x64_0345_1_n_n_1_2_8164864).siIdx j ⟨0, _⟩)).toInt.toNat 127 + 0 + 0 = _
    rw [hsi]
    rfl
  | ⟨2, _⟩ => exact Nat.zero_add _
  | ⟨3, _⟩ => exact Nat.zero_add _
  | ⟨4, _⟩ => exact Nat.zero_add _

/-- A column's window of grid columns, out of grids of 128 rows. -/
theorem gather_cols1 {α : Type} (x : S8x128x8x64x8x64.Idx → α) (idx : IVec S64x16x1 32) (j : S8x128x8x64x16x8x64.Idx) :
    Host.gather gather_S8x128x8x64x8x64_S64x16x1_S8x128x8x64x16x8x64_01256_3_n_n_3_2_812881864 x idx j = x (ix6 (j 0) (j 1) (j 2) ⟨min (idx (ix3 (j 3) (j 4) 0)).toInt.toNat 63, by omega⟩ (j 5) (j 6)) := by
  unfold Host.gather
  congr 1
  funext a
  refine Fin.ext ?_
  match a with
  | ⟨0, _⟩ => exact Nat.zero_add _
  | ⟨1, _⟩ => exact Nat.zero_add _
  | ⟨2, _⟩ => exact Nat.zero_add _
  | ⟨3, _⟩ =>
    have hsi : (gather_S8x128x8x64x8x64_S64x16x1_S8x128x8x64x16x8x64_01256_3_n_n_3_2_812881864).siIdx j ⟨0, Nat.one_pos⟩ = ix3 (j 3) (j 4) 0 := by
      funext b
      refine Fin.ext ?_
      match b with
      | ⟨0, _⟩ => rfl
      | ⟨1, _⟩ => rfl
      | ⟨2, _⟩ => rfl
    show min (idx ((gather_S8x128x8x64x8x64_S64x16x1_S8x128x8x64x16x8x64_01256_3_n_n_3_2_812881864).siIdx j ⟨0, _⟩)).toInt.toNat 63 + 0 + 0 = _
    rw [hsi]
    rfl
  | ⟨4, _⟩ => exact Nat.zero_add _
  | ⟨5, _⟩ => exact Nat.zero_add _

/-- The bias table's rows for each row's window, 128 rows. -/
theorem gather_biasRows1 {α : Type} (x : S8x15x31.Idx → α) (idx : IVec S128x8x1 32) (j : S8x128x8x31.Idx) :
    Host.gather gather_S8x15x31_S128x8x1_S8x128x8x31_03_1_n_n_1_2_8131 x idx j = x (ix3 (j 0) ⟨min (idx (ix3 (j 1) (j 2) 0)).toInt.toNat 14, by omega⟩ (j 3)) := by
  unfold Host.gather
  congr 1
  funext a
  refine Fin.ext ?_
  match a with
  | ⟨0, _⟩ => exact Nat.zero_add _
  | ⟨1, _⟩ =>
    have hsi : (gather_S8x15x31_S128x8x1_S8x128x8x31_03_1_n_n_1_2_8131).siIdx j ⟨0, Nat.one_pos⟩ = ix3 (j 1) (j 2) 0 := by
      funext b
      refine Fin.ext ?_
      match b with
      | ⟨0, _⟩ => rfl
      | ⟨1, _⟩ => rfl
      | ⟨2, _⟩ => rfl
    show min (idx ((gather_S8x15x31_S128x8x1_S8x128x8x31_03_1_n_n_1_2_8131).siIdx j ⟨0, _⟩)).toInt.toNat 14 + 0 + 0 = _
    rw [hsi]
    rfl
  | ⟨2, _⟩ => exact Nat.zero_add _

/-- The bias table's columns for each column's window, 128 rows. -/
theorem gather_biasCols1 {α : Type} (x : S8x128x8x31.Idx → α) (idx : IVec S64x16x1 32) (j : S8x128x8x64x16.Idx) :
    Host.gather gather_S8x128x8x31_S64x16x1_S8x128x8x64x16_012_3_n_n_3_2_812881 x idx j = x (ix4 (j 0) (j 1) (j 2) ⟨min (idx (ix3 (j 3) (j 4) 0)).toInt.toNat 30, by omega⟩) := by
  unfold Host.gather
  congr 1
  funext a
  refine Fin.ext ?_
  match a with
  | ⟨0, _⟩ => exact Nat.zero_add _
  | ⟨1, _⟩ => exact Nat.zero_add _
  | ⟨2, _⟩ => exact Nat.zero_add _
  | ⟨3, _⟩ =>
    have hsi : (gather_S8x128x8x31_S64x16x1_S8x128x8x64x16_012_3_n_n_3_2_812881).siIdx j ⟨0, Nat.one_pos⟩ = ix3 (j 3) (j 4) 0 := by
      funext b
      refine Fin.ext ?_
      match b with
      | ⟨0, _⟩ => rfl
      | ⟨1, _⟩ => rfl
      | ⟨2, _⟩ => rfl
    show min (idx ((gather_S8x128x8x31_S64x16x1_S8x128x8x64x16_012_3_n_n_3_2_812881).siIdx j ⟨0, _⟩)).toInt.toNat 30 + 0 + 0 = _
    rw [hsi]
    rfl

/-- A row's window of grid rows, out of grids of 64 rows. -/
theorem gather_rows2 {α : Type} (x : S4x64x64x8x64.Idx → α) (idx : IVec S64x8x1 32) (j : S4x64x8x64x8x64.Idx) :
    Host.gather gather_S4x64x64x8x64_S64x8x1_S4x64x8x64x8x64_0345_1_n_n_1_2_4164864 x idx j = x (ix5 (j 0) ⟨min (idx (ix3 (j 1) (j 2) 0)).toInt.toNat 63, by omega⟩ (j 3) (j 4) (j 5)) := by
  unfold Host.gather
  congr 1
  funext a
  refine Fin.ext ?_
  match a with
  | ⟨0, _⟩ => exact Nat.zero_add _
  | ⟨1, _⟩ =>
    have hsi : (gather_S4x64x64x8x64_S64x8x1_S4x64x8x64x8x64_0345_1_n_n_1_2_4164864).siIdx j ⟨0, Nat.one_pos⟩ = ix3 (j 1) (j 2) 0 := by
      funext b
      refine Fin.ext ?_
      match b with
      | ⟨0, _⟩ => rfl
      | ⟨1, _⟩ => rfl
      | ⟨2, _⟩ => rfl
    show min (idx ((gather_S4x64x64x8x64_S64x8x1_S4x64x8x64x8x64_0345_1_n_n_1_2_4164864).siIdx j ⟨0, _⟩)).toInt.toNat 63 + 0 + 0 = _
    rw [hsi]
    rfl
  | ⟨2, _⟩ => exact Nat.zero_add _
  | ⟨3, _⟩ => exact Nat.zero_add _
  | ⟨4, _⟩ => exact Nat.zero_add _

/-- A column's window of grid columns, out of grids of 64 rows. -/
theorem gather_cols2 {α : Type} (x : S4x64x8x64x8x64.Idx → α) (idx : IVec S64x16x1 32) (j : S4x64x8x64x16x8x64.Idx) :
    Host.gather gather_S4x64x8x64x8x64_S64x16x1_S4x64x8x64x16x8x64_01256_3_n_n_3_2_46481864 x idx j = x (ix6 (j 0) (j 1) (j 2) ⟨min (idx (ix3 (j 3) (j 4) 0)).toInt.toNat 63, by omega⟩ (j 5) (j 6)) := by
  unfold Host.gather
  congr 1
  funext a
  refine Fin.ext ?_
  match a with
  | ⟨0, _⟩ => exact Nat.zero_add _
  | ⟨1, _⟩ => exact Nat.zero_add _
  | ⟨2, _⟩ => exact Nat.zero_add _
  | ⟨3, _⟩ =>
    have hsi : (gather_S4x64x8x64x8x64_S64x16x1_S4x64x8x64x16x8x64_01256_3_n_n_3_2_46481864).siIdx j ⟨0, Nat.one_pos⟩ = ix3 (j 3) (j 4) 0 := by
      funext b
      refine Fin.ext ?_
      match b with
      | ⟨0, _⟩ => rfl
      | ⟨1, _⟩ => rfl
      | ⟨2, _⟩ => rfl
    show min (idx ((gather_S4x64x8x64x8x64_S64x16x1_S4x64x8x64x16x8x64_01256_3_n_n_3_2_46481864).siIdx j ⟨0, _⟩)).toInt.toNat 63 + 0 + 0 = _
    rw [hsi]
    rfl
  | ⟨4, _⟩ => exact Nat.zero_add _
  | ⟨5, _⟩ => exact Nat.zero_add _

/-- The bias table's rows for each row's window, 64 rows. -/
theorem gather_biasRows2 {α : Type} (x : S8x15x31.Idx → α) (idx : IVec S64x8x1 32) (j : S8x64x8x31.Idx) :
    Host.gather gather_S8x15x31_S64x8x1_S8x64x8x31_03_1_n_n_1_2_8131 x idx j = x (ix3 (j 0) ⟨min (idx (ix3 (j 1) (j 2) 0)).toInt.toNat 14, by omega⟩ (j 3)) := by
  unfold Host.gather
  congr 1
  funext a
  refine Fin.ext ?_
  match a with
  | ⟨0, _⟩ => exact Nat.zero_add _
  | ⟨1, _⟩ =>
    have hsi : (gather_S8x15x31_S64x8x1_S8x64x8x31_03_1_n_n_1_2_8131).siIdx j ⟨0, Nat.one_pos⟩ = ix3 (j 1) (j 2) 0 := by
      funext b
      refine Fin.ext ?_
      match b with
      | ⟨0, _⟩ => rfl
      | ⟨1, _⟩ => rfl
      | ⟨2, _⟩ => rfl
    show min (idx ((gather_S8x15x31_S64x8x1_S8x64x8x31_03_1_n_n_1_2_8131).siIdx j ⟨0, _⟩)).toInt.toNat 14 + 0 + 0 = _
    rw [hsi]
    rfl
  | ⟨2, _⟩ => exact Nat.zero_add _

/-- The bias table's columns for each column's window, 64 rows. -/
theorem gather_biasCols2 {α : Type} (x : S8x64x8x31.Idx → α) (idx : IVec S64x16x1 32) (j : S8x64x8x64x16.Idx) :
    Host.gather gather_S8x64x8x31_S64x16x1_S8x64x8x64x16_012_3_n_n_3_2_86481 x idx j = x (ix4 (j 0) (j 1) (j 2) ⟨min (idx (ix3 (j 3) (j 4) 0)).toInt.toNat 30, by omega⟩) := by
  unfold Host.gather
  congr 1
  funext a
  refine Fin.ext ?_
  match a with
  | ⟨0, _⟩ => exact Nat.zero_add _
  | ⟨1, _⟩ => exact Nat.zero_add _
  | ⟨2, _⟩ => exact Nat.zero_add _
  | ⟨3, _⟩ =>
    have hsi : (gather_S8x64x8x31_S64x16x1_S8x64x8x64x16_012_3_n_n_3_2_86481).siIdx j ⟨0, Nat.one_pos⟩ = ix3 (j 3) (j 4) 0 := by
      funext b
      refine Fin.ext ?_
      match b with
      | ⟨0, _⟩ => rfl
      | ⟨1, _⟩ => rfl
      | ⟨2, _⟩ => rfl
    show min (idx ((gather_S8x64x8x31_S64x16x1_S8x64x8x64x16_012_3_n_n_3_2_86481).siIdx j ⟨0, _⟩)).toInt.toNat 30 + 0 + 0 = _
    rw [hsi]
    rfl

end Cert.ReferenceIdeal

namespace Cert.KernelIdeal

variable [Facts]

/-- The bias table's rows for each shift of the window. -/
theorem gather_biasRows {α : Type} (x : S8x15x31.Idx → α) (idx : IVec S8x8x1 32) (j : S8x8x8x31.Idx) :
    Host.gather gather_S8x15x31_S8x8x1_S8x8x8x31_03_1_n_n_1_2_8131 x idx j = x (ix3 (j 0) ⟨min (idx (ix3 (j 1) (j 2) 0)).toInt.toNat 14, by omega⟩ (j 3)) := by
  unfold Host.gather
  congr 1
  funext a
  refine Fin.ext ?_
  match a with
  | ⟨0, _⟩ => exact Nat.zero_add _
  | ⟨1, _⟩ =>
    have hsi : (gather_S8x15x31_S8x8x1_S8x8x8x31_03_1_n_n_1_2_8131).siIdx j ⟨0, Nat.one_pos⟩ = ix3 (j 1) (j 2) 0 := by
      funext b
      refine Fin.ext ?_
      match b with
      | ⟨0, _⟩ => rfl
      | ⟨1, _⟩ => rfl
      | ⟨2, _⟩ => rfl
    show min (idx ((gather_S8x15x31_S8x8x1_S8x8x8x31_03_1_n_n_1_2_8131).siIdx j ⟨0, _⟩)).toInt.toNat 14 + 0 + 0 = _
    rw [hsi]
    rfl
  | ⟨2, _⟩ => exact Nat.zero_add _

/-- The bias table's columns for each pair of grid columns. -/
theorem gather_biasCols {α : Type} (x : S8x8x8x31.Idx → α) (idx : IVec S64x64x1 32) (j : S8x8x8x64x64.Idx) :
    Host.gather gather_S8x8x8x31_S64x64x1_S8x8x8x64x64_012_3_n_n_3_2_8881 x idx j = x (ix4 (j 0) (j 1) (j 2) ⟨min (idx (ix3 (j 3) (j 4) 0)).toInt.toNat 30, by omega⟩) := by
  unfold Host.gather
  congr 1
  funext a
  refine Fin.ext ?_
  match a with
  | ⟨0, _⟩ => exact Nat.zero_add _
  | ⟨1, _⟩ => exact Nat.zero_add _
  | ⟨2, _⟩ => exact Nat.zero_add _
  | ⟨3, _⟩ =>
    have hsi : (gather_S8x8x8x31_S64x64x1_S8x8x8x64x64_012_3_n_n_3_2_8881).siIdx j ⟨0, Nat.one_pos⟩ = ix3 (j 3) (j 4) 0 := by
      funext b
      refine Fin.ext ?_
      match b with
      | ⟨0, _⟩ => rfl
      | ⟨1, _⟩ => rfl
      | ⟨2, _⟩ => rfl
    show min (idx ((gather_S8x8x8x31_S64x64x1_S8x8x8x64x64_012_3_n_n_3_2_8881).siIdx j ⟨0, _⟩)).toInt.toNat 30 + 0 + 0 = _
    rw [hsi]
    rfl

end Cert.KernelIdeal

end
-- ==== Proof.NaGeom.lean ====
/-
The call's index arithmetic in closed form: which blocks a grid point reads, where a window of eight rows begins in the
three stacked blocks, which shift of the biases it takes, and the host program's three integer tables.
-/
module

public import proofs.«01_k».proof.Proof.Gen.KernelIdeal.Frame
public import proofs.«01_k».proof.Proof.NaSpec
public import Idealize.ShloMosaic.Lib.Pointwise.Index

@[expose] public section

set_option maxRecDepth 16384

open Idealize Idealize.ShloMosaic Cert.Na

namespace Cert.KernelIdeal.Na

open Cert.KernelIdeal Cert.KernelIdeal.Gen

/-- The rows of the grid that block `b` belongs to. -/
def rows (b : ℕ) : ℕ := if b < 128 then 128 else 64
/-- The first grid row of block `b`. -/
def first (b : ℕ) : ℕ := if b < 128 then b % 16 * 8 else (b - 128) % 8 * 8
/-- The grid point of block `b` and the first pair of heads. -/
def blockPoint (b : Fin 160) : grid0.Coords := fun a => match a with
  | ⟨0, _⟩ => (0 : Fin 4)
  | ⟨1, _⟩ => b

theorem off1_block : ∀ (b : Fin 160) (r : Fin 8), k0_off1 (blockPoint b) (BitVec.ofNat 32 r.val) 0
    = (rstart (rows b.val) (first b.val + r.val) + 8 - first b.val) * 64 := by decide +kernel
theorem off2_block : ∀ (b : Fin 160) (r : Fin 8), k0_off2 (blockPoint b) (BitVec.ofNat 32 r.val) 0
    = (first b.val + r.val) - rstart (rows b.val) (first b.val + r.val) := by decide +kernel
theorem off3_block : ∀ (b : Fin 160) (r : Fin 8), k0_off3 (blockPoint b) (BitVec.ofNat 32 r.val) 0
    = (first b.val + r.val) - rstart (rows b.val) (first b.val + r.val) := by decide +kernel

/-- Where the window of the block's row `r` begins in the three stacked blocks. -/
theorem off1_eq (i : grid0.Coords) (r : Fin 8) : k0_off1 i (BitVec.ofNat 32 r.val)
    = ![(rstart (rows (i 1).val) (first (i 1).val + r.val) + 8 - first (i 1).val) * 64, 0] := by
  funext a
  match a with
  | ⟨0, _⟩ => exact off1_block (i 1) r
  | ⟨1, _⟩ => rfl
/-- The shift of the biases for the block's row `r`, at the first head. -/
theorem off2_eq (i : grid0.Coords) (r : Fin 8) : k0_off2 i (BitVec.ofNat 32 r.val)
    = ![(first (i 1).val + r.val) - rstart (rows (i 1).val) (first (i 1).val + r.val), 0, 0, 0] := by
  funext a
  match a with
  | ⟨0, _⟩ => exact off2_block (i 1) r
  | ⟨1, _⟩ => rfl
  | ⟨2, _⟩ => rfl
  | ⟨3, _⟩ => rfl
/-- The same at the second head. -/
theorem off3_eq (i : grid0.Coords) (r : Fin 8) : k0_off3 i (BitVec.ofNat 32 r.val)
    = ![(first (i 1).val + r.val) - rstart (rows (i 1).val) (first (i 1).val + r.val), 1, 0, 0] := by
  funext a
  match a with
  | ⟨0, _⟩ => exact off3_block (i 1) r
  | ⟨1, _⟩ => rfl
  | ⟨2, _⟩ => rfl
  | ⟨3, _⟩ => rfl

theorem block_prev_eq : ∀ i : grid0.Coords, cc0_transform_1 i = ![(i 1).val - 1, (i 0).val] := by decide +kernel
theorem block_next_eq : ∀ i : grid0.Coords, cc0_transform_3 i = ![min ((i 1).val + 1) 159, (i 0).val] := by decide +kernel
theorem block_this_eq : ∀ i : grid0.Coords, cc0_transform_0 i = ![(i 1).val, (i 0).val] := by decide +kernel
theorem block_bias_eq : ∀ i : grid0.Coords, cc0_transform_7 i = ![0, (i 0).val, 0, 0] := by decide +kernel

theorem rowLit : ∀ s a : Fin 8, (lit0 (S8x8.rowMajor (ix2 s a))).toInt.toNat = a.val + 7 - s.val := by decide +kernel
theorem colLit : ∀ c k : Fin 64, (lit1 (S64x64.rowMajor (ix2 c k))).toInt.toNat = min (k.val + 15 - c.val) 30 := by decide +kernel
theorem maskLit : ∀ c k : Fin 64, lit2 (S64x64.rowMajor (ix2 c k)) = if cstart c.val ≤ k.val ∧ k.val < cstart c.val + 16 then 1#1 else 0#1 := by
  decide +kernel

end Cert.KernelIdeal.Na

end
-- ==== Proof.NaBias.lean ====
/-
The bias table that the host program lays out for the call: the biases of each shift of the window, and minus infinity
outside the window's columns.
-/
module

public import proofs.«01_k».proof.Proof.NaFrame
public import proofs.«01_k».proof.Proof.NaGather
public import proofs.«01_k».proof.Proof.NaGeom

@[expose] public section

open Idealize Idealize.ShloMosaic Cert.Na
namespace Cert.KernelIdeal.Na
open Cert.KernelIdeal Cert.KernelIdeal.Gen
set_option maxRecDepth 16384
variable (m : (ℓ : Loc nD τ sig) → Buf (Elt Ideal) ℓ)

/-- The row of the bias table for each shift of the window and each of its rows. -/
noncomputable def rowTable : IVec S8x8x1 32 :=
  broadcastInDim S8x8x1 ![0, 1] bcast_S8x8_S8x8x1_0_1
    (select (constantI S8x8 1 0#1) (addi (fun i => lit0 (S8x8.rowMajor i)) (broadcastInDim S8x8 ![] bcast_S_S8x8 (constantI S_ 32 15#32)))
      (fun i => lit0 (S8x8.rowMajor i)))

/-- The column of the bias table for each pair of grid columns. -/
noncomputable def colTable : IVec S64x64x1 32 :=
  broadcastInDim S64x64x1 ![0, 1] bcast_S64x64_S64x64x1_0_1
    (select (constantI S64x64 1 0#1) (addi (fun i => lit1 (S64x64.rowMajor i)) (broadcastInDim S64x64 ![] bcast_S_S64x64 (constantI S_ 32 31#32)))
      (fun i => lit1 (S64x64.rowMajor i)))

/-- The biases laid out for the call: for each shift of the window, head and column, over the 512 keys of eight whole rows. -/
noncomputable def biases (x3 : FVec Ideal S8x15x31 .f32) : FVec Ideal S8x8x64x512 .f32 :=
  shapeCast S8x8x64x512 (transpose S8x8x64x8x64 [1, 0, 3, 2, 4]
    (select (broadcastInDim S8x8x8x64x64 ![0, 1, 2, 3, 4] bcast_S1x1x1x64x64_S8x8x8x64x64_0_1_2_3_4
        (broadcastInDim S1x1x1x64x64 ![3, 4] bcast_S64x64_S1x1x1x64x64_3_4 (fun i => lit2 (S64x64.rowMajor i))))
      (Host.gather gather_S8x8x8x31_S64x64x1_S8x8x8x64x64_012_3_n_n_3_2_8881
        (Host.gather gather_S8x15x31_S8x8x1_S8x8x8x31_03_1_n_n_1_2_8131 x3 rowTable) colTable)
      (broadcastInDim S8x8x8x64x64 ![] bcast_S_S8x8x8x64x64 (constant S_ .f32 0xFF800000#32)))
    transposes_S8x8x8x64x64_S8x8x64x8x64_1_0_3_2_4) shapeCasts_S8x8x64x8x64_S8x8x64x512

theorem V_bias (c : Dev nD) : V m c main_v13 = biases (m ((c.tc : Thread nD τ).loc main_arg3)) := by
  unfold V
  simp only [hostOps0, hostOps0_1, hostOps0_2, List.flatten_cons, List.flatten_nil, List.append_nil, List.cons_append, List.nil_append]
  after_results
  rfl

theorem rowTable_at (s a : Fin 8) : (rowTable (ix3 s a 0)).toInt.toNat = a.val + 7 - s.val := rowLit s a
theorem colTable_at (c k : Fin 64) : (colTable (ix3 c k 0)).toInt.toNat = min (k.val + 15 - c.val) 30 := colLit c k

/-- A bias inside the window's columns is the table's, any other is minus infinity. -/
theorem biases_at (x3 : FVec Ideal S8x15x31 .f32) (s h : Fin 8) (c : Fin 64) (j : Fin 512) :
    biases x3 (ix4 s h c j) = if cstart c.val ≤ j.val % 64 ∧ j.val % 64 < cstart c.val + 16
      then at3 x3 h.val (j.val / 64 + 7 - s.val) (j.val % 64 + 15 - c.val) else ⊥ := by
  unfold biases
  have ha : j.val / 64 < 8 := by omega
  have hk : j.val % 64 < 64 := by omega
  rw [shapeCast_apply _ shapeCasts_S8x8x64x8x64_S8x8x64x512 (ix4 s h c j) (ix5 s h c ⟨j.val / 64, ha⟩ ⟨j.val % 64, hk⟩)
      (by rw [Shape.rowMajor_val_five, Shape.rowMajor_val_four]
          show (((s.val * 8 + h.val) * 64 + c.val) * 8 + j.val / 64) * 64 + j.val % 64
            = ((s.val * 8 + h.val) * 64 + c.val) * 512 + j.val
          omega)]
  pointwise
  rw [gather_biasCols, gather_biasRows]
  have hm := maskLit c ⟨j.val % 64, hk⟩
  have hs : s.val < 8 := s.isLt
  have hc : c.val < 64 := c.isLt
  by_cases h : cstart c.val ≤ j.val % 64 ∧ j.val % 64 < cstart c.val + 16
  · rw [if_pos h] at hm ⊢
    rw [hm]
    refine at3_eq x3 _ _ _ _ rfl ?_ ?_
    · refine (congrArg (min · 14) (rowTable_at s ⟨j.val / 64, ha⟩)).trans ?_
      show min (j.val / 64 + 7 - s.val) 14 = _
      omega
    · refine (congrArg (min · 30) (colTable_at c ⟨j.val % 64, hk⟩)).trans ?_
      show min (min (j.val % 64 + 15 - c.val) 30) 30 = _
      unfold cstart at h
      omega
  · rw [if_neg h] at hm ⊢
    rw [hm]
    exact negInf
end Cert.KernelIdeal.Na

end
-- ==== Proof.NaWindow.lean ====
/-
The keys and values that one grid row of the call reads: eight whole rows of the grid out of three stacked blocks; and
the row's output with the two heads' lanes taken apart.
-/
module

public import proofs.«01_k».proof.Proof.NaRow
public import proofs.«01_k».proof.Proof.NaBias
public import Idealize.ShloMosaic.Lib.Pipeline.ValueKit.Acc

@[expose] public section

open Idealize Idealize.ShloMosaic Cert.Na
namespace Cert.KernelIdeal.Na
open Cert.KernelIdeal Cert.KernelIdeal.Gen
set_option maxRecDepth 16384

/-- A sum over the 128 lanes of two heads, all lanes but one head's at zero. -/
theorem sum_head (f g : Fin 128 → EReal) (hh : Fin 2) :
    ∑ l : Fin 128, (if l.val / 64 = hh.val then f l else 0) * g l
      = ∑ d : Fin 64, f ⟨hh.val * 64 + d.val, by omega⟩ * g ⟨hh.val * 64 + d.val, by omega⟩ := by
  rw [← Fin.sum_mul_add_fin 2 64 (fun l : Fin 128 => (if l.val / 64 = hh.val then f l else 0) * g l)]
  rw [Finset.sum_eq_single hh]
  · refine Finset.sum_congr rfl fun d _ => ?_
    rw [if_pos (by show (hh.val * 64 + d.val) / 64 = hh.val; omega)]
  · intro s _ hs
    refine Finset.sum_eq_zero fun d _ => ?_
    rw [if_neg (by
      show ¬ (s.val * 64 + d.val) / 64 = hh.val
      intro h
      exact hs (Fin.ext (by omega))), zero_mul]
  · exact fun h => absurd (Finset.mem_univ _) h

/-- One head's scores of the row's query at column `c`. -/
noncomputable def headScore (q : Vec Ideal S64x128 .bf16) (k : Vec Ideal S512x128 .bf16) (b : Vec Ideal S1x1x64x512 .f32) (hh : Fin 2) (c : Fin 64)
    (j : Fin 512) : EReal :=
  (∑ d : Fin 64, q (ix2 c ⟨hh.val * 64 + d.val, by omega⟩) * k (ix2 j ⟨hh.val * 64 + d.val, by omega⟩)) + b (ix4 0 0 c j)

theorem scorePay_lo (q : Vec Ideal S64x128 .bf16) (k : Vec Ideal S512x128 .bf16) (b : Vec Ideal S1x1x64x512 .f32) (c : Fin 64) (j : Fin 512) :
    scorePay 0#32 64#32 q k b (ix2 c j) = headScore q k b 0 c j := by
  rw [scorePay_at]
  unfold headScore
  rw [← sum_head (fun l => q (ix2 c l)) (fun l => k (ix2 j l)) 0]
  refine congrArg (· + _) (Finset.sum_congr rfl fun l _ => ?_)
  rw [lanes_lo]
  congr 1
  by_cases h : l.val < 64
  · rw [if_pos (by rw [if_pos h]), if_pos (by show l.val / 64 = 0; omega)]
  · rw [if_neg (by rw [if_neg h]; decide), if_neg (by show ¬ l.val / 64 = 0; omega)]

theorem scorePay_hi (q : Vec Ideal S64x128 .bf16) (k : Vec Ideal S512x128 .bf16) (b : Vec Ideal S1x1x64x512 .f32) (c : Fin 64) (j : Fin 512) :
    scorePay 64#32 128#32 q k b (ix2 c j) = headScore q k b 1 c j := by
  rw [scorePay_at]
  unfold headScore
  rw [← sum_head (fun l => q (ix2 c l)) (fun l => k (ix2 j l)) 1]
  refine congrArg (· + _) (Finset.sum_congr rfl fun l _ => ?_)
  rw [lanes_hi]
  congr 1
  by_cases h : l.val < 64
  · rw [if_neg (by rw [if_pos h]; decide), if_neg (by show ¬ l.val / 64 = 1; omega)]
  · rw [if_pos (by rw [if_neg h]), if_pos (by show l.val / 64 = 1; omega)]

/-- One lane of one grid row of the output. -/
theorem rowPay_at (q : Vec Ideal S64x128 .bf16) (k v : Vec Ideal S512x128 .bf16) (b0 b1 : Vec Ideal S1x1x64x512 .f32) (c : Fin 64)
    (l : Fin 128) (hh : Fin 2) (hl : l.val / 64 = hh.val) :
    rowPay q k v b0 b1 (ix2 c l) = Ideal.div
      (∑ j : Fin 512, Ideal.exp (headScore q k (if hh = 0 then b0 else b1) hh c j - top (headScore q k (if hh = 0 then b0 else b1) hh c)) * v (ix2 j l))
      (∑ j : Fin 512, Ideal.exp (headScore q k (if hh = 0 then b0 else b1) hh c j - top (headScore q k (if hh = 0 then b0 else b1) hh c))) := by
  rw [rowPay_eq]
  show Scalar.select (lanes 64#32 128#32 (ix2 c l)) (softPay (scorePay 64#32 128#32 q k b1) v (ix2 c l))
    (softPay (scorePay 0#32 64#32 q k b0) v (ix2 c l)) = _
  rw [lanes_hi]
  by_cases h : l.val < 64
  · have h0 : hh = 0 := Fin.ext (by show hh.val = 0; omega)
    subst h0
    rw [if_pos h, if_pos rfl]
    show softPay (scorePay 0#32 64#32 q k b0) v (ix2 c l) = _
    rw [softPay_at]
    simp only [scorePay_lo]
  · have h1 : hh = 1 := Fin.ext (by show hh.val = 1; omega)
    subst h1
    rw [if_neg h, if_neg (by decide)]
    show softPay (scorePay 64#32 128#32 q k b1) v (ix2 c l) = _
    rw [softPay_at]
    simp only [scorePay_hi]

/-- The three stacked blocks of the tokens `X`: the one above block `b`, the block itself, and the one below. -/
noncomputable def around (X : Tokens.Idx → EReal) (b p : ℕ) (y : S1536x128.Idx) : EReal :=
  at2 X ((if (y 0).val < 512 then (b - 1) * 512 else if (y 0).val < 1024 then b * 512 else min (b + 1) 159 * 512) + (y 0).val % 512) (p * 128 + (y 1).val)

theorem stacked_eq (X : Tokens.Idx → EReal) (b p : ℕ) (x y z : Vec Ideal S512x128 .bf16)
    (hx : ∀ i, x i = at2 X ((b - 1) * 512 + (i 0).val) (p * 128 + (i 1).val))
    (hy : ∀ i, y i = at2 X (b * 512 + (i 0).val) (p * 128 + (i 1).val))
    (hz : ∀ i, z i = at2 X (min (b + 1) 159 * 512 + (i 0).val) (p * 128 + (i 1).val)) :
    stacked (F := Ideal) x y z = around X b p := by
  funext i
  unfold stacked
  refine View.canon_apply_of_pieces (Val := Elt Ideal) (e := .bf16) (around X b p) _ ?_ i ?_
  · intro q hq a
    simp only [List.mem_cons, List.not_mem_nil, or_false] at hq
    unfold around
    rcases hq with h | h | h <;> subst h
    · have h0 : (a 0).val < 512 := (a 0).isLt
      refine (hz a).trans ?_
      have e0 : ((Rect.unit (s := S1536x128) ![1024, 0] S512x128.size inb_S1536x128_S512x128_1024_0).emb a 0).val = 1024 + 1 * (a 0).val := rfl
      have e1 : ((Rect.unit (s := S1536x128) ![1024, 0] S512x128.size inb_S1536x128_S512x128_1024_0).emb a 1).val = 0 + 1 * (a 1).val := rfl
      rw [e0, e1, if_neg (by omega), if_neg (by omega)]
      congr 1 <;> omega
    · have h0 : (a 0).val < 512 := (a 0).isLt
      refine (hy a).trans ?_
      have e0 : ((Rect.unit (s := S1536x128) ![512, 0] S512x128.size inb_S1536x128_S512x128_512_0).emb a 0).val = 512 + 1 * (a 0).val := rfl
      have e1 : ((Rect.unit (s := S1536x128) ![512, 0] S512x128.size inb_S1536x128_S512x128_512_0).emb a 1).val = 0 + 1 * (a 1).val := rfl
      rw [e0, e1, if_neg (by omega), if_pos (by omega)]
      congr 1 <;> omega
    · have h0 : (a 0).val < 512 := (a 0).isLt
      refine (hx a).trans ?_
      have e0 : ((Rect.unit (s := S1536x128) ![0, 0] S512x128.size inb_S1536x128_S512x128_0_0).emb a 0).val = 0 + 1 * (a 0).val := rfl
      have e1 : ((Rect.unit (s := S1536x128) ![0, 0] S512x128.size inb_S1536x128_S512x128_0_0).emb a 1).val = 0 + 1 * (a 1).val := rfl
      rw [e0, e1, if_pos (by omega)]
      congr 1 <;> omega
  · have h0 : (i 0).val < 1536 := (i 0).isLt
    have h1 : (i 1).val < 128 := (i 1).isLt
    simp only [List.mem_cons, List.not_mem_nil, or_false, exists_eq_or_imp, exists_eq_left, Rect.mem_set_unit]
    by_cases c0 : 1024 ≤ (i 0).val
    · refine Or.inl fun a => ?_
      match a with
      | ⟨0, _⟩ => exact ⟨c0, h0⟩
      | ⟨1, _⟩ => exact ⟨Nat.zero_le _, h1⟩
    by_cases c1 : 512 ≤ (i 0).val
    · refine Or.inr (Or.inl fun a => ?_)
      match a with
      | ⟨0, _⟩ => exact ⟨c1, by show (i 0).val < 512 + 512; omega⟩
      | ⟨1, _⟩ => exact ⟨Nat.zero_le _, h1⟩
    · refine Or.inr (Or.inr fun a => ?_)
      match a with
      | ⟨0, _⟩ => exact ⟨Nat.zero_le _, by show (i 0).val < 0 + 512; omega⟩
      | ⟨1, _⟩ => exact ⟨Nat.zero_le _, h1⟩

/-- The first token of the grid that block `b` belongs to. -/
def base (b : ℕ) : ℕ := if b < 128 then b / 16 * 8192 else 65536 + (b - 128) / 8 * 4096

/-- A window of eight rows in the stacked blocks is the window in the grid. -/
theorem window_at (i : grid0.Coords) (X : Tokens.Idx → EReal) (r : Fin 8) (j : Fin 512) (l : Fin 128) :
    window (F := Ideal) i r (around X (i 1).val (i 0).val) (ix2 j l)
      = at2 X (base (i 1).val + rstart (rows (i 1).val) (first (i 1).val + r.val) * 64 + j.val) ((i 0).val * 128 + l.val) := by
  unfold window
  have hb : (i 1).val < 160 := (i 1).isLt
  have hr := r.isLt
  have hj := j.isLt
  show around X (i 1).val (i 0).val ((Rect.unit (s := S1536x128) (k0_off1 i (BitVec.ofNat 32 r.val)) S512x128.size (k0_off1_inb i r)).emb (ix2 j l)) = _
  have e0 : ((Rect.unit (s := S1536x128) (k0_off1 i (BitVec.ofNat 32 r.val)) S512x128.size (k0_off1_inb i r)).emb (ix2 j l) 0).val
      = (rstart (rows (i 1).val) (first (i 1).val + r.val) + 8 - first (i 1).val) * 64 + 1 * j.val := by
    show k0_off1 i (BitVec.ofNat 32 r.val) 0 + 1 * j.val = _
    rw [off1_eq]
    rfl
  have e1 : ((Rect.unit (s := S1536x128) (k0_off1 i (BitVec.ofNat 32 r.val)) S512x128.size (k0_off1_inb i r)).emb (ix2 j l) 1).val
      = 0 + 1 * l.val := by
    show k0_off1 i (BitVec.ofNat 32 r.val) 1 + 1 * l.val = _
    rw [off1_eq]
    rfl
  unfold around
  rw [e0, e1]
  generalize (i 1).val = b at hb ⊢
  refine congrArg₂ (at2 X) ?_ (by omega)
  unfold base rstart rows first
  split_ifs <;> omega

end Cert.KernelIdeal.Na

end
-- ==== Proof.NaBlock.lean ====
/-
One lane of one grid row of the output block is the attention of its token: the keys outside the window carry the
bias minus infinity, so they drop out of the softmax.
-/
module

public import proofs.«01_k».proof.Proof.NaWindow

@[expose] public section

open Idealize Idealize.ShloMosaic Cert.Na
namespace Cert.KernelIdeal.Na
open Cert.KernelIdeal Cert.KernelIdeal.Gen
set_option maxRecDepth 16384

/-- The place, among the 512 keys of eight whole rows, of the window's key `i`. -/
def place (c : Fin 64) (i : Fin 128) : Fin 512 :=
  ⟨i.val / 16 * 64 + cstart c.val + i.val % 16, by unfold cstart; omega⟩

theorem place_inj (c : Fin 64) : Function.Injective (place c) := by
  intro i j h
  have h' : i.val / 16 * 64 + cstart c.val + i.val % 16 = j.val / 16 * 64 + cstart c.val + j.val % 16 := congrArg Fin.val h
  unfold cstart at h'
  exact Fin.ext (by omega)

theorem place_div (c : Fin 64) (i : Fin 128) : (place c i).val / 64 = i.val / 16 := by
  show (i.val / 16 * 64 + cstart c.val + i.val % 16) / 64 = _
  unfold cstart
  omega

theorem place_mod (c : Fin 64) (i : Fin 128) : (place c i).val % 64 = cstart c.val + i.val % 16 := by
  show (i.val / 16 * 64 + cstart c.val + i.val % 16) % 64 = _
  unfold cstart
  omega

theorem place_range (c : Fin 64) (j : Fin 512) (h : cstart c.val ≤ j.val % 64 ∧ j.val % 64 < cstart c.val + 16) : j ∈ Set.range (place c) := by
  refine ⟨⟨j.val / 64 * 16 + (j.val % 64 - cstart c.val), by omega⟩, Fin.ext ?_⟩
  show (j.val / 64 * 16 + (j.val % 64 - cstart c.val)) / 16 * 64 + cstart c.val + (j.val / 64 * 16 + (j.val % 64 - cstart c.val)) % 16 = j.val
  omega

/-- Neither infinity. -/
def IsFin (x : EReal) : Prop := x ≠ ⊥ ∧ x ≠ ⊤

theorem finite_mul {x y : EReal} (hx : IsFin x) (hy : IsFin y) : IsFin (x * y) := by
  lift x to ℝ using ⟨hx.2, hx.1⟩
  lift y to ℝ using ⟨hy.2, hy.1⟩
  rw [← EReal.coe_mul]
  exact ⟨EReal.coe_ne_bot _, EReal.coe_ne_top _⟩

theorem finite_add {x y : EReal} (hx : IsFin x) (hy : IsFin y) : IsFin (x + y) := by
  lift x to ℝ using ⟨hx.2, hx.1⟩
  lift y to ℝ using ⟨hy.2, hy.1⟩
  rw [← EReal.coe_add]
  exact ⟨EReal.coe_ne_bot _, EReal.coe_ne_top _⟩

theorem finite_zero : IsFin 0 := ⟨EReal.zero_ne_bot, EReal.zero_ne_top⟩

theorem finite_sum {ι : Type*} (s : Finset ι) (f : ι → EReal) (h : ∀ i ∈ s, IsFin (f i)) : IsFin (∑ i ∈ s, f i) :=
  Finset.sum_induction f IsFin (fun _ _ => finite_add) finite_zero h

theorem finite_at2 {X : Tokens.Idx → EReal} (h : ∀ y, IsFin (X y)) (n e : ℕ) : IsFin (at2 X n e) := by
  unfold at2
  split
  · exact h _
  · exact finite_zero

theorem finite_at3 {X : Biases.Idx → EReal} (h : ∀ y, IsFin (X y)) (a b e : ℕ) : IsFin (at3 X a b e) := by
  unfold at3
  split
  · exact h _
  · exact finite_zero

theorem finite_score {Q K : Tokens.Idx → EReal} {B : Biases.Idx → EReal} (hQ : ∀ y, IsFin (Q y)) (hK : ∀ y, IsFin (K y)) (hB : ∀ y, IsFin (B y))
    (R b r c h : ℕ) (i : Fin 128) : IsFin (score Q K B R b r c h i) :=
  finite_add (finite_sum _ _ fun _ _ => finite_mul (finite_at2 hQ _ _) (finite_at2 hK _ _)) (finite_at3 hB _ _ _)

variable (i : grid0.Coords) (Q K V : Tokens.Idx → EReal) (B : Biases.Idx → EReal)

/-- The biases at shift `s` and pair of heads `p`. -/
noncomputable def biasRow (s : Fin 8) (h : Fin 8) : Vec Ideal S1x1x64x512 .f32 := fun y => biases B (ix4 s h (y 2) (y 3))

/-- One lane of one grid row, from the token arrays: the attention of its token. -/
theorem row_at (hQ : ∀ y, IsFin (Q y)) (hK : ∀ y, IsFin (K y)) (hB : ∀ y, IsFin (B y)) (r : Fin 8) (s : Fin 8)
    (hs : s.val = first (i 1).val + r.val - rstart (rows (i 1).val) (first (i 1).val + r.val))
    (q : Vec Ideal S64x128 .bf16) (hq : ∀ c l, q (ix2 c l) = at2 Q ((i 1).val * 512 + r.val * 64 + c.val) ((i 0).val * 128 + l.val))
    (k v : Vec Ideal S512x128 .bf16)
    (hk : ∀ j l, k (ix2 j l) = at2 K (base (i 1).val + rstart (rows (i 1).val) (first (i 1).val + r.val) * 64 + j.val) ((i 0).val * 128 + l.val))
    (hv : ∀ j l, v (ix2 j l) = at2 V (base (i 1).val + rstart (rows (i 1).val) (first (i 1).val + r.val) * 64 + j.val) ((i 0).val * 128 + l.val))
    (b0 b1 : Vec Ideal S1x1x64x512 .f32)
    (h0 : ∀ c j, b0 (ix4 0 0 c j) = biases B (ix4 s ⟨(i 0).val * 2 + 0, by have h : (i 0).val < 4 := (i 0).isLt; omega⟩ c j))
    (h1 : ∀ c j, b1 (ix4 0 0 c j) = biases B (ix4 s ⟨(i 0).val * 2 + 1, by have h : (i 0).val < 4 := (i 0).isLt; omega⟩ c j))
    (c : Fin 64) (l : Fin 128) :
    rowPay q k v b0 b1 (ix2 c l)
      = attend Q K V B (rows (i 1).val) (base (i 1).val) (first (i 1).val + r.val) c.val ((i 0).val * 2 + l.val / 64) (l.val % 64) := by
  have hi0 : (i 0).val < 4 := (i 0).isLt
  have hi1 : (i 1).val < 160 := (i 1).isLt
  have hr := r.isLt
  have hc := c.isLt
  have hl : l.val / 64 < 2 := by omega
  rw [rowPay_at q k v b0 b1 c l ⟨l.val / 64, hl⟩ rfl]
  have hbias : ∀ j, (if (⟨l.val / 64, hl⟩ : Fin 2) = 0 then b0 else b1) (ix4 0 0 c j)
      = biases B (ix4 s ⟨(i 0).val * 2 + l.val / 64, by omega⟩ c j) := by
    intro j
    rcases (by omega : l.val / 64 = 0 ∨ l.val / 64 = 1) with h | h
    · simp only [h]
      exact h0 c j
    · simp only [h]
      exact h1 c j
  generalize (if (⟨l.val / 64, hl⟩ : Fin 2) = 0 then b0 else b1) = b at hbias
  unfold attend
  refine window_softmax (place c) (place_inj c) _ (fun n => finite_score hQ hK hB _ _ _ _ _ n) _ (fun n => ?_) (fun j hj => ?_) _ _ (fun n => ?_)
  · unfold headScore score
    rw [hbias, biases_at, place_div, place_mod, if_pos (by omega)]
    refine congrArg₂ (· + ·) (Finset.sum_congr rfl fun d _ => ?_) ?_
    · rw [hq, hk]
      refine congrArg₂ (· * ·) (congrArg₂ (at2 Q) ?_ ?_) (congrArg₂ (at2 K) ?_ ?_)
      · unfold base first
        split_ifs <;> omega
      · show (i 0).val * 128 + (l.val / 64 * 64 + d.val) = _
        omega
      · show _ + (n.val / 16 * 64 + cstart c.val + n.val % 16) = _
        ring
      · show (i 0).val * 128 + (l.val / 64 * 64 + d.val) = _
        omega
    · refine congrArg₂ (at3 B _) ?_ rfl
      rw [hs]
      unfold rstart rows first
      split_ifs <;> omega
  · unfold headScore
    rw [hbias, biases_at, if_neg (fun h => hj (place_range c j h)), EReal.add_bot]
  · unfold value
    rw [hv]
    refine congrArg₂ (at2 V) ?_ ?_
    · show _ + (n.val / 16 * 64 + cstart c.val + n.val % 16) = _
      ring
    · omega
end Cert.KernelIdeal.Na

end
-- ==== Proof.NaArray.lean ====
/-
The array that the call leaves: the attention of every token, block by block.
-/
module

public import proofs.«01_k».proof.Proof.NaBlock
public import proofs.«01_k».proof.Proof.NaFrame
public import Idealize.ShloMosaic.Lib.Pipeline.ValueKit

@[expose] public section

open Idealize Idealize.ShloMosaic Cert.Na
namespace Cert.KernelIdeal.Na
open Cert.KernelIdeal Cert.KernelIdeal.Gen Idealize.ShloMosaic.TcCoe Idealize.ShloMosaic.Tactic
set_option maxRecDepth 16384

/-- One head of the biases at one shift, read out of the block of biases. -/
theorem bias_read (B : Biases.Idx → EReal) (i : grid0.Coords) (x7 : Vec Ideal S8x2x64x512 .f32)
    (h7 : ∀ y, x7 y = biases B (ix4 (y 0) ⟨(i 0).val * 2 + (y 1).val, by have h : (i 0).val < 4 := (i 0).isLt; have h' : (y 1).val < 2 := (y 1).isLt; omega⟩ (y 2) (y 3)))
    (s : ℕ) (off : Fin 4 → ℕ) (inb : ∀ a, off a + S1x1x64x512.size a ≤ S8x2x64x512.size a) (hs : s < 8) (h : Fin 2) (e : off = ![s, h.val, 0, 0])
    (c : Fin 64) (j : Fin 512) :
    View.ld x7 (Rect.unit (s := S8x2x64x512) off S1x1x64x512.size inb) (ix4 0 0 c j)
      = biases B (ix4 ⟨s, hs⟩ ⟨(i 0).val * 2 + h.val, by have h : (i 0).val < 4 := (i 0).isLt; omega⟩ c j) := by
  subst e
  refine (h7 _).trans (congrArg (biases B) ?_)
  funext a
  match a with
  | ⟨0, _⟩ => exact Fin.ext (by show s + 1 * 0 = s; omega)
  | ⟨1, _⟩ => exact Fin.ext (by show (i 0).val * 2 + (h.val + 1 * 0) = (i 0).val * 2 + h.val; omega)
  | ⟨2, _⟩ => exact Fin.ext (by show 0 + 1 * c.val = c.val; omega)
  | ⟨3, _⟩ => exact Fin.ext (by show 0 + 1 * j.val = j.val; omega)

theorem attend_congr {Q K V : Tokens.Idx → EReal} {B : Biases.Idx → EReal} {R b b' r r' c c' h h' d d' : ℕ}
    (eb : b = b') (er : r = r') (ec : c = c') (eh : h = h') (ed : d = d') : attend Q K V B R b r c h d = attend Q K V B R b' r' c' h' d' := by
  subst eb er ec eh ed
  rfl

/-- The output block from its eight input blocks, each given as a part of an array: the attention of the block's tokens. -/
theorem outBlk_at (i : grid0.Coords) (Q K V : Tokens.Idx → EReal) (B : Biases.Idx → EReal)
    (hQ : ∀ y, IsFin (Q y)) (hK : ∀ y, IsFin (K y)) (hB : ∀ y, IsFin (B y))
    (x0 x1 x2 x3 x4 x5 x6 : Vec Ideal S512x128 .bf16) (x7 : Vec Ideal S8x2x64x512 .f32)
    (h0 : ∀ y, x0 y = at2 Q ((i 1).val * 512 + (y 0).val) ((i 0).val * 128 + (y 1).val))
    (h1 : ∀ y, x1 y = at2 K (((i 1).val - 1) * 512 + (y 0).val) ((i 0).val * 128 + (y 1).val))
    (h2 : ∀ y, x2 y = at2 K ((i 1).val * 512 + (y 0).val) ((i 0).val * 128 + (y 1).val))
    (h3 : ∀ y, x3 y = at2 K (min ((i 1).val + 1) 159 * 512 + (y 0).val) ((i 0).val * 128 + (y 1).val))
    (h4 : ∀ y, x4 y = at2 V (((i 1).val - 1) * 512 + (y 0).val) ((i 0).val * 128 + (y 1).val))
    (h5 : ∀ y, x5 y = at2 V ((i 1).val * 512 + (y 0).val) ((i 0).val * 128 + (y 1).val))
    (h6 : ∀ y, x6 y = at2 V (min ((i 1).val + 1) 159 * 512 + (y 0).val) ((i 0).val * 128 + (y 1).val))
    (h7 : ∀ y, x7 y = biases B (ix4 (y 0) ⟨(i 0).val * 2 + (y 1).val, by have h : (i 0).val < 4 := (i 0).isLt; have h' : (y 1).val < 2 := (y 1).isLt; omega⟩ (y 2) (y 3)))
    (y : S512x128.Idx) :
    outBlk i x0 x1 x2 x3 x4 x5 x6 x7 y = out Q K V B ((i 1).val * 512 + (y 0).val) ((i 0).val * 128 + (y 1).val) := by
  have hi0 : (i 0).val < 4 := (i 0).isLt
  have hi1 : (i 1).val < 160 := (i 1).isLt
  have hy0 : (y 0).val < 512 := (y 0).isLt
  have hy1 : (y 1).val < 128 := (y 1).isLt
  have hs : first (i 1).val + (y 0).val / 64 - rstart (rows (i 1).val) (first (i 1).val + (y 0).val / 64) < 8 := by
    unfold rstart rows first
    split_ifs <;> omega
  unfold outBlk rowOut
  rw [stacked_eq K (i 1).val (i 0).val x1 x2 x3 h1 h2 h3, stacked_eq V (i 1).val (i 0).val x4 x5 x6 h4 h5 h6]
  refine (row_at i Q K V B hQ hK hB ⟨(y 0).val / 64, by omega⟩ ⟨_, hs⟩ rfl _ (fun c l => ?_) _ _
    (fun j l => window_at i K ⟨(y 0).val / 64, by omega⟩ j l) (fun j l => window_at i V ⟨(y 0).val / 64, by omega⟩ j l) _ _ (fun c j => ?_) (fun c j => ?_) _ _).trans ?_
  · refine (h0 _).trans (congrArg₂ (at2 Q) ?_ ?_)
    · show (i 1).val * 512 + (64 * ((y 0).val / 64) + 1 * c.val) = (i 1).val * 512 + (y 0).val / 64 * 64 + c.val
      omega
    · show (i 0).val * 128 + (0 + 1 * l.val) = _
      omega
  · exact bias_read B i x7 h7 _ _ (k0_off2_inb i ⟨(y 0).val / 64, by omega⟩) hs 0 (off2_eq i ⟨(y 0).val / 64, by omega⟩) c j
  · exact bias_read B i x7 h7 _ _ (k0_off3_inb i ⟨(y 0).val / 64, by omega⟩) hs 1 (off3_eq i ⟨(y 0).val / 64, by omega⟩) c j
  · show attend Q K V B (rows (i 1).val) (base (i 1).val) (first (i 1).val + (y 0).val / 64) ((y 0).val % 64) ((i 0).val * 2 + (y 1).val / 64) ((y 1).val % 64) = _
    clear h0 h1 h2 h3 h4 h5 h6 h7
    generalize (i 1).val = b at *
    generalize (i 0).val = p at *
    generalize (y 0).val = n at *
    generalize (y 1).val = l at *
    unfold out
    by_cases hb : b < 128
    · rw [if_pos (by omega)]
      unfold rows base first
      rw [if_pos hb, if_pos hb, if_pos hb]
      exact attend_congr (by omega) (by omega) (by omega) (by omega) (by omega)
    · rw [if_neg (by omega)]
      unfold rows base first
      rw [if_neg hb, if_neg hb, if_neg hb]
      exact attend_congr (by omega) (by omega) (by omega) (by omega) (by omega)

variable (m : (ℓ : Loc nD τ sig) → Buf (Elt Ideal) ℓ) (c : Dev nD)

theorem index_0 : ∀ t : Fin cfg0.N, win0_0.index t = ![(grid0.coords t 1).val, (grid0.coords t 0).val] := fun t => block_this_eq _
theorem index_1 : ∀ t : Fin cfg0.N, win0_1.index t = ![(grid0.coords t 1).val - 1, (grid0.coords t 0).val] := fun t => block_prev_eq _
theorem index_2 : ∀ t : Fin cfg0.N, win0_2.index t = ![(grid0.coords t 1).val, (grid0.coords t 0).val] := fun t => block_this_eq _
theorem index_3 : ∀ t : Fin cfg0.N, win0_3.index t = ![min ((grid0.coords t 1).val + 1) 159, (grid0.coords t 0).val] := fun t => block_next_eq _
theorem index_4 : ∀ t : Fin cfg0.N, win0_4.index t = ![(grid0.coords t 1).val - 1, (grid0.coords t 0).val] := fun t => block_prev_eq _
theorem index_5 : ∀ t : Fin cfg0.N, win0_5.index t = ![(grid0.coords t 1).val, (grid0.coords t 0).val] := fun t => block_this_eq _
theorem index_6 : ∀ t : Fin cfg0.N, win0_6.index t = ![min ((grid0.coords t 1).val + 1) 159, (grid0.coords t 0).val] := fun t => block_next_eq _
theorem index_7 : ∀ t : Fin cfg0.N, win0_7.index t = ![0, (grid0.coords t 0).val, 0, 0] := fun t => block_bias_eq _
theorem index_8 : ∀ t : Fin cfg0.N, win0_8.index t = ![(grid0.coords t 1).val, (grid0.coords t 0).val] := fun t => block_this_eq _

/-! Each input block as a part of the array it is cut from. -/

theorem blk_0 (t : Fin cfg0.N) (y : S512x128.Idx) :
    iblk m c 0 t y = at2 (m (c.tc.loc main_arg0)) ((grid0.coords t 1).val * 512 + (y 0).val) ((grid0.coords t 0).val * 128 + (y 1).val) :=
  Eq.trans (by blk_simp [iblk]; entry_read; rfl)
    (at2_eq (m (c.tc.loc main_arg0)) ((win0_0.blk t).view.emb y) _ _ (by blk_simp [index_0 t]) (by blk_simp [index_0 t]))
theorem blk_1 (t : Fin cfg0.N) (y : S512x128.Idx) :
    iblk m c 1 t y = at2 (m (c.tc.loc main_arg1)) (((grid0.coords t 1).val - 1) * 512 + (y 0).val) ((grid0.coords t 0).val * 128 + (y 1).val) :=
  Eq.trans (by blk_simp [iblk]; entry_read; rfl)
    (at2_eq (m (c.tc.loc main_arg1)) ((win0_1.blk t).view.emb y) _ _ (by blk_simp [index_1 t]) (by blk_simp [index_1 t]))
theorem blk_2 (t : Fin cfg0.N) (y : S512x128.Idx) :
    iblk m c 2 t y = at2 (m (c.tc.loc main_arg1)) ((grid0.coords t 1).val * 512 + (y 0).val) ((grid0.coords t 0).val * 128 + (y 1).val) :=
  Eq.trans (by blk_simp [iblk]; entry_read; rfl)
    (at2_eq (m (c.tc.loc main_arg1)) ((win0_2.blk t).view.emb y) _ _ (by blk_simp [index_2 t]) (by blk_simp [index_2 t]))
theorem blk_3 (t : Fin cfg0.N) (y : S512x128.Idx) :
    iblk m c 3 t y = at2 (m (c.tc.loc main_arg1)) (min ((grid0.coords t 1).val + 1) 159 * 512 + (y 0).val) ((grid0.coords t 0).val * 128 + (y 1).val) :=
  Eq.trans (by blk_simp [iblk]; entry_read; rfl)
    (at2_eq (m (c.tc.loc main_arg1)) ((win0_3.blk t).view.emb y) _ _ (by blk_simp [index_3 t]) (by blk_simp [index_3 t]))
theorem blk_4 (t : Fin cfg0.N) (y : S512x128.Idx) :
    iblk m c 4 t y = at2 (m (c.tc.loc main_arg2)) (((grid0.coords t 1).val - 1) * 512 + (y 0).val) ((grid0.coords t 0).val * 128 + (y 1).val) :=
  Eq.trans (by blk_simp [iblk]; entry_read; rfl)
    (at2_eq (m (c.tc.loc main_arg2)) ((win0_4.blk t).view.emb y) _ _ (by blk_simp [index_4 t]) (by blk_simp [index_4 t]))
theorem blk_5 (t : Fin cfg0.N) (y : S512x128.Idx) :
    iblk m c 5 t y = at2 (m (c.tc.loc main_arg2)) ((grid0.coords t 1).val * 512 + (y 0).val) ((grid0.coords t 0).val * 128 + (y 1).val) :=
  Eq.trans (by blk_simp [iblk]; entry_read; rfl)
    (at2_eq (m (c.tc.loc main_arg2)) ((win0_5.blk t).view.emb y) _ _ (by blk_simp [index_5 t]) (by blk_simp [index_5 t]))
theorem blk_6 (t : Fin cfg0.N) (y : S512x128.Idx) :
    iblk m c 6 t y = at2 (m (c.tc.loc main_arg2)) (min ((grid0.coords t 1).val + 1) 159 * 512 + (y 0).val) ((grid0.coords t 0).val * 128 + (y 1).val) :=
  Eq.trans (by blk_simp [iblk]; entry_read; rfl)
    (at2_eq (m (c.tc.loc main_arg2)) ((win0_6.blk t).view.emb y) _ _ (by blk_simp [index_6 t]) (by blk_simp [index_6 t]))
theorem blk_7 (t : Fin cfg0.N) (y : S8x2x64x512.Idx) : iblk m c 7 t y = biases (m (c.tc.loc main_arg3))
    (ix4 (y 0) ⟨(grid0.coords t 0).val * 2 + (y 1).val, by have h : (grid0.coords t 0).val < 4 := (grid0.coords t 0).isLt; have h' : (y 1).val < 2 := (y 1).isLt; omega⟩ (y 2) (y 3)) := by
  have h := congrFun (V_bias m c) ((win0_7.blk t).view.emb y)
  refine Eq.trans (by blk_simp [iblk]) (h.trans (congrArg (biases (m (c.tc.loc main_arg3))) ?_))
  have e := index_7 t
  funext a
  match a with
  | ⟨0, _⟩ => exact Fin.ext (by blk_simp [e]; rfl)
  | ⟨1, _⟩ => exact Fin.ext (by blk_simp [e]; rfl)
  | ⟨2, _⟩ => exact Fin.ext (by blk_simp [e]; rfl)
  | ⟨3, _⟩ => exact Fin.ext (by blk_simp [e]; rfl)

/-- The array the call leaves: the attention of every token. -/
theorem arr_eq (hQ : ∀ y, IsFin (m (c.tc.loc main_arg0) y)) (hK : ∀ y, IsFin (m (c.tc.loc main_arg1) y))
    (hB : ∀ y, IsFin (m (c.tc.loc main_arg3) y)) :
    (dats m 0 c).arrAt 8 cfg0.N = fun y => out (m (c.tc.loc main_arg0)) (m (c.tc.loc main_arg1)) (m (c.tc.loc main_arg2)) (m (c.tc.loc main_arg3)) (y 0).val (y 1).val := by
  refine (dats m 0 c).arrAt_eq_of_covers 8 _ (by decide +kernel) fun t hf y => ?_
  blk_simp
  rw [after_8]
  refine (outBlk_at (grid0.coords t) _ _ _ _ hQ hK hB _ _ _ _ _ _ _ _ (blk_0 m c t) (blk_1 m c t) (blk_2 m c t) (blk_3 m c t)
    (blk_4 m c t) (blk_5 m c t) (blk_6 m c t) (blk_7 m c t) y).trans ?_
  refine congrArg₂ (out _ _ _ _) ?_ ?_
  · blk_simp [index_8 t]
  · blk_simp [index_8 t]

end Cert.KernelIdeal.Na

end
-- ==== Proof.NaRefLong.lean ====
/-
The reference's attention over its eight grids of 128 rows, read at one token: the window's keys, values and biases, the
scores, their softmax and the weighted sum of the values.
-/
module

public import Idealize.ShloMosaic.Lib.IdealHost
public import proofs.«01_k».proof.Proof.Gen.ReferenceIdeal.Read
public import proofs.«01_k».proof.Proof.NaGather
public import proofs.«01_k».proof.Proof.NaSpec
public import Idealize.ShloMosaic.Lib.TwoAxisContraction

@[expose] public section

namespace Cert.ReferenceIdeal.Read.Long

set_option maxRecDepth 16384

open Idealize Idealize.ShloMosaic Cert.Na
open Cert.ReferenceIdeal Cert.ReferenceIdeal.Gen Cert.ReferenceIdeal.Read

theorem rowIdx : ∀ (r : Fin 128) (a : Fin 8), (val_main_v47 (F := Ideal) (ix3 r a 0)).toInt.toNat = min (r.val - 4) 120 + a.val := by
  decide +kernel
theorem colIdx : ∀ (c : Fin 64) (w : Fin 16), (val_main_v54 (F := Ideal) (ix3 c w 0)).toInt.toNat = min (c.val - 8) 48 + w.val := by
  decide +kernel
theorem rowIdx' : ∀ (r : Fin 128) (a : Fin 8), (val_main_v61 (F := Ideal) (ix3 r a 0)).toInt.toNat = min (r.val - 4) 120 + a.val := by
  decide +kernel
theorem colIdx' : ∀ (c : Fin 64) (w : Fin 16), (val_main_v68 (F := Ideal) (ix3 c w 0)).toInt.toNat = min (c.val - 8) 48 + w.val := by
  decide +kernel
theorem biasRow : ∀ (r : Fin 128) (a : Fin 8), (val_main_v76 (F := Ideal) (ix3 r a 0)).toInt.toNat = min (r.val - 4) 120 + a.val + 7 - r.val := by
  decide +kernel
theorem biasCol : ∀ (c : Fin 64) (w : Fin 16), (val_main_v83 (F := Ideal) (ix3 c w 0)).toInt.toNat = min (c.val - 8) 48 + w.val + 15 - c.val := by
  decide +kernel

variable (x0 x1 x2 : S81920x512.Idx → EReal) (x3 : S8x15x31.Idx → EReal)

/-- The queries as a grid. -/
theorem q_at (b : Fin 8) (r : Fin 128) (c : Fin 64) (h : Fin 8) (d : Fin 64) :
    val_main_v9 (F := Ideal) x0 (ix5 b r c h d) = at2 x0 (b.val * 8192 + r.val * 64 + c.val) (h.val * 64 + d.val) := by
  rw [val_main_v9_apply, val_main_v4_apply, val_main_v3_apply, val_main_v0_apply]
  refine at2_eq x0 _ _ _ ?_ ?_
  · simp
    omega
  · simp
    omega

/-- The keys of every window. -/
theorem k_at (b : Fin 8) (r : Fin 128) (a : Fin 8) (c : Fin 64) (w : Fin 16) (h : Fin 8) (d : Fin 64) :
    val_main_v55 (F := Ideal) x1 (ix7 b r a c w h d)
      = at2 x1 (b.val * 8192 + (rstart 128 r.val + a.val) * 64 + (cstart c.val + w.val)) (h.val * 64 + d.val) := by
  unfold val_main_v55
  rw [gather_cols1]
  unfold val_main_v48
  rw [gather_rows1, val_main_v10_apply, val_main_v6_apply, val_main_v5_apply, val_main_v1_apply]
  refine at2_eq x1 _ _ _ ?_ ?_
  · simp
    rw [rowIdx, colIdx]
    unfold rstart cstart
    omega
  · simp
    omega

/-- The values of every window. -/
theorem v_at (b : Fin 8) (r : Fin 128) (a : Fin 8) (c : Fin 64) (w : Fin 16) (h : Fin 8) (d : Fin 64) :
    val_main_v69 (F := Ideal) x2 (ix7 b r a c w h d)
      = at2 x2 (b.val * 8192 + (rstart 128 r.val + a.val) * 64 + (cstart c.val + w.val)) (h.val * 64 + d.val) := by
  unfold val_main_v69
  rw [gather_cols1]
  unfold val_main_v62
  rw [gather_rows1, val_main_v11_apply, val_main_v8_apply, val_main_v7_apply, val_main_v2_apply]
  refine at2_eq x2 _ _ _ ?_ ?_
  · simp
    rw [rowIdx', colIdx']
    unfold rstart cstart
    omega
  · simp
    omega

/-- The biases of every window. -/
theorem bias_at (h : Fin 8) (r : Fin 128) (a : Fin 8) (c : Fin 64) (w : Fin 16) :
    val_main_v84 (F := Ideal) x3 (ix5 h r a c w)
      = at3 x3 h.val (rstart 128 r.val + a.val + 7 - r.val) (cstart c.val + w.val + 15 - c.val) := by
  unfold val_main_v84
  rw [gather_biasCols1]
  unfold val_main_v77
  rw [gather_biasRows1]
  refine at3_eq x3 _ _ _ _ ?_ ?_ ?_
  · rfl
  · simp
    rw [biasRow]
    unfold rstart
    omega
  · simp
    rw [biasCol]
    unfold cstart
    omega

/-- The scores of one query, over the keys of its window in one row. -/
theorem score_at (b : Fin 8) (r : Fin 128) (h : Fin 8) (c : Fin 64) (i : Fin 128) :
    val_main_v89 (F := Ideal) x0 x1 x3 (ix5 b r h c i) = score x0 x1 x3 128 (b.val * 8192) r.val c.val h.val i := by
  have ha : i.val / 16 < 8 := by omega
  have hw : i.val % 16 < 16 := by omega
  unfold val_main_v89
  rw [shapeCast_apply _ shapeCasts_S8x128x8x64x8x16_S8x128x8x64x128 (ix5 b r h c i) (ix6 b r h c ⟨i.val / 16, ha⟩ ⟨i.val % 16, hw⟩)
      (by rw [Shape.rowMajor_val_five, Shape.rowMajor_val_six]
          show ((((b.val * 128 + r.val) * 8 + h.val) * 64 + c.val) * 8 + i.val / 16) * 16 + i.val % 16
            = (((b.val * 128 + r.val) * 8 + h.val) * 64 + c.val) * 128 + i.val
          omega),
    val_main_v88_apply, val_main_v70_apply, val_main_v87_apply, val_main_v86_apply, val_main_v85_apply]
  have hb : idx_main_v85 (idx_main_v86 (idx_main_v87 (ix6 b r h c ⟨i.val / 16, ha⟩ ⟨i.val % 16, hw⟩)))
      = ix5 h r ⟨i.val / 16, ha⟩ c ⟨i.val % 16, hw⟩ := by
    funext a
    match a with
    | ⟨0, _⟩ => rfl
    | ⟨1, _⟩ => rfl
    | ⟨2, _⟩ => rfl
    | ⟨3, _⟩ => rfl
    | ⟨4, _⟩ => rfl
  rw [hb, bias_at]
  unfold score
  refine congrArg (· + _) (Finset.sum_congr rfl fun d _ => ?_)
  have hl : lidx_main_v70 (ix6 b r h c ⟨i.val / 16, ha⟩ ⟨i.val % 16, hw⟩) d = ix5 b r c h d := by
    funext a
    match a with
    | ⟨0, _⟩ => rfl
    | ⟨1, _⟩ => rfl
    | ⟨2, _⟩ => rfl
    | ⟨3, _⟩ => rfl
    | ⟨4, _⟩ => rfl
  have hr : ridx_main_v70 (ix6 b r h c ⟨i.val / 16, ha⟩ ⟨i.val % 16, hw⟩) d = ix7 b r ⟨i.val / 16, ha⟩ c ⟨i.val % 16, hw⟩ h d := by
    funext a
    match a with
    | ⟨0, _⟩ => rfl
    | ⟨1, _⟩ => rfl
    | ⟨2, _⟩ => rfl
    | ⟨3, _⟩ => rfl
    | ⟨4, _⟩ => rfl
    | ⟨5, _⟩ => rfl
    | ⟨6, _⟩ => rfl
  rw [hl, hr, q_at, k_at]

/-- The largest score of one query. -/
theorem max_at (b : Fin 8) (r : Fin 128) (h : Fin 8) (c : Fin 64) :
    val_main_v92 (F := Ideal) x0 x1 x3 (ix4 b r h c) = top (score x0 x1 x3 128 (b.val * 8192) r.val c.val h.val) := by
  have h90 : val_main_v90 (F := Ideal) x0 x1 x3 (ix4 b r h c)
      = Finset.univ.fold max (Ideal.ofBits .f32 0xFF800000#32) (score x0 x1 x3 128 (b.val * 8192) r.val c.val h.val) := by
    unfold val_main_v90
    refine (Host.reduce_eq_fold_single (α := EReal) max (val_main_v89 (F := Ideal) x0 x1 x3) _
      reducesTo_S8x128x8x64x128_S8x128x8x64_d4 (by decide) h_S_ (ix4 b r h c)).trans ?_
    refine congrArg (Finset.fold max (Ideal.ofBits .f32 0xFF800000#32) · Finset.univ) (funext fun i => ?_)
    exact (congrArg _ (funext fun a => Fin.ext (by
      match a with
      | ⟨0, _⟩ => rfl
      | ⟨1, _⟩ => rfl
      | ⟨2, _⟩ => rfl
      | ⟨3, _⟩ => rfl
      | ⟨4, _⟩ => rfl))).trans (score_at x0 x1 x3 b r h c i)
  rw [val_main_v92_apply, h90, val_main_v91_apply, val_main_cst_19_apply, Ideal.maximumf_def, Ideal.ofBits_def, negInf]
  exact max_eq_right bot_le

/-- The weights of one query before they are divided. -/
theorem exp_at (b : Fin 8) (r : Fin 128) (h : Fin 8) (c : Fin 64) (i : Fin 128) :
    val_main_v96 (F := Ideal) x0 x1 x3 (ix5 b r h c i)
      = Ideal.exp (score x0 x1 x3 128 (b.val * 8192) r.val c.val h.val i
          - top (score x0 x1 x3 128 (b.val * 8192) r.val c.val h.val)) := by
  rw [val_main_v96_apply, val_main_v95_apply, score_at, val_main_v94_apply, val_main_v93_apply]
  have hi : idx_main_v93 (idx_main_v94 (ix5 b r h c i)) = ix4 b r h c := by
    funext a
    match a with
    | ⟨0, _⟩ => rfl
    | ⟨1, _⟩ => rfl
    | ⟨2, _⟩ => rfl
    | ⟨3, _⟩ => rfl
  rw [hi, max_at]
  rfl

/-- The sum of one query's weights. -/
theorem sum_at (b : Fin 8) (r : Fin 128) (h : Fin 8) (c : Fin 64) :
    val_main_v97 (F := Ideal) x0 x1 x3 (ix4 b r h c)
      = ∑ i : Fin 128, Ideal.exp (score x0 x1 x3 128 (b.val * 8192) r.val c.val h.val i
          - top (score x0 x1 x3 128 (b.val * 8192) r.val c.val h.val)) := by
  rw [val_main_v97_apply, val_main_cst_20_apply, Ideal.ofBits_def, Ideal.ofBits_zero_f32, zero_add]
  refine Finset.sum_congr rfl fun i _ => ?_
  have hi : idx_main_v97 (ix4 b r h c) i = ix5 b r h c i := by
    funext a
    match a with
    | ⟨0, _⟩ => rfl
    | ⟨1, _⟩ => rfl
    | ⟨2, _⟩ => rfl
    | ⟨3, _⟩ => rfl
    | ⟨4, _⟩ => rfl
  rw [hi, exp_at]

/-- The weights of one query, divided. -/
theorem weight_at (b : Fin 8) (r : Fin 128) (h : Fin 8) (c : Fin 64) (a : Fin 8) (w : Fin 16) :
    val_main_v101 (F := Ideal) x0 x1 x3 (ix6 b r h c a w)
      = Ideal.div (Ideal.exp (score x0 x1 x3 128 (b.val * 8192) r.val c.val h.val ⟨a.val * 16 + w.val, by omega⟩
          - top (score x0 x1 x3 128 (b.val * 8192) r.val c.val h.val)))
        (∑ i : Fin 128, Ideal.exp (score x0 x1 x3 128 (b.val * 8192) r.val c.val h.val i
          - top (score x0 x1 x3 128 (b.val * 8192) r.val c.val h.val))) := by
  unfold val_main_v101
  rw [shapeCast_apply _ shapeCasts_S8x128x8x64x128_S8x128x8x64x8x16 (ix6 b r h c a w) (ix5 b r h c ⟨a.val * 16 + w.val, by omega⟩)
      (by rw [Shape.rowMajor_val_five, Shape.rowMajor_val_six]
          show (((b.val * 128 + r.val) * 8 + h.val) * 64 + c.val) * 128 + (a.val * 16 + w.val)
            = ((((b.val * 128 + r.val) * 8 + h.val) * 64 + c.val) * 8 + a.val) * 16 + w.val
          omega),
    val_main_v100_apply, exp_at, val_main_v99_apply, val_main_v98_apply]
  have hi : idx_main_v98 (idx_main_v99 (ix5 b r h c ⟨a.val * 16 + w.val, by omega⟩)) = ix4 b r h c := by
    funext a
    match a with
    | ⟨0, _⟩ => rfl
    | ⟨1, _⟩ => rfl
    | ⟨2, _⟩ => rfl
    | ⟨3, _⟩ => rfl
  rw [hi, sum_at]
  rfl

/-- The attention of one query and head. -/
theorem dot_at (b : Fin 8) (r : Fin 128) (c : Fin 64) (h : Fin 8) (d : Fin 64) :
    val_main_v102 (F := Ideal) x0 x1 x2 x3 (ix5 b r c h d)
      = attend x0 x1 x2 x3 128 (b.val * 8192) r.val c.val h.val d.val := by
  unfold val_main_v102
  pointwise
  unfold attend softmaxSum
  refine (sum_rows_cols (fun i => _) (fun a w => _) fun a w => ?_).symm
  rw [weight_at, v_at]
  unfold value
  have h0 : (a.val * 16 + w.val) / 16 = a.val := by omega
  have h1 : (a.val * 16 + w.val) % 16 = w.val := by omega
  simp only [h0, h1]

/-- The group's result, token by token. -/
theorem group_at (n : Fin 65536) (e : Fin 512) :
    val_main_v104 (F := Ideal) x0 x1 x2 x3 (ix2 n e)
      = attend x0 x1 x2 x3 128 (n.val / 8192 * 8192) (n.val % 8192 / 64) (n.val % 64) (e.val / 64) (e.val % 64) := by
  rw [val_main_v104_apply, val_main_v103_apply]
  have hi : idx_main_v103 (idx_main_v104 (ix2 n e))
      = ix5 ⟨n.val / 8192, by omega⟩ ⟨n.val % 8192 / 64, by omega⟩ ⟨n.val % 64, by omega⟩ ⟨e.val / 64, by omega⟩ ⟨e.val % 64, by omega⟩ := by
    funext a
    refine Fin.ext ?_
    match a with
    | ⟨0, _⟩ => simp; omega
    | ⟨1, _⟩ => simp; omega
    | ⟨2, _⟩ => simp; omega
    | ⟨3, _⟩ => simp; omega
    | ⟨4, _⟩ => simp; omega
  rw [hi, dot_at]

end Cert.ReferenceIdeal.Read.Long
-- ==== Proof.NaRefShort.lean ====
/-
The reference's attention over its four grids of 64 rows, which follow the eight grids of 128 rows in the token order,
read at one token: the window's keys, values and biases, the scores, their softmax and the weighted sum of the values.
-/
module

public import Idealize.ShloMosaic.Lib.IdealHost
public import proofs.«01_k».proof.Proof.Gen.ReferenceIdeal.Read
public import proofs.«01_k».proof.Proof.NaGather
public import proofs.«01_k».proof.Proof.NaSpec
public import Idealize.ShloMosaic.Lib.TwoAxisContraction

@[expose] public section

namespace Cert.ReferenceIdeal.Read.Short

set_option maxRecDepth 16384

open Idealize Idealize.ShloMosaic Cert.Na
open Cert.ReferenceIdeal Cert.ReferenceIdeal.Gen Cert.ReferenceIdeal.Read

theorem rowIdx : ∀ (r : Fin 64) (a : Fin 8), (val_main_v149 (F := Ideal) (ix3 r a 0)).toInt.toNat = min (r.val - 4) 56 + a.val := by
  decide +kernel
theorem colIdx : ∀ (c : Fin 64) (w : Fin 16), (val_main_v156 (F := Ideal) (ix3 c w 0)).toInt.toNat = min (c.val - 8) 48 + w.val := by
  decide +kernel
theorem rowIdx' : ∀ (r : Fin 64) (a : Fin 8), (val_main_v163 (F := Ideal) (ix3 r a 0)).toInt.toNat = min (r.val - 4) 56 + a.val := by
  decide +kernel
theorem colIdx' : ∀ (c : Fin 64) (w : Fin 16), (val_main_v170 (F := Ideal) (ix3 c w 0)).toInt.toNat = min (c.val - 8) 48 + w.val := by
  decide +kernel
theorem biasRow : ∀ (r : Fin 64) (a : Fin 8), (val_main_v178 (F := Ideal) (ix3 r a 0)).toInt.toNat = min (r.val - 4) 56 + a.val + 7 - r.val := by
  decide +kernel
theorem biasCol : ∀ (c : Fin 64) (w : Fin 16), (val_main_v185 (F := Ideal) (ix3 c w 0)).toInt.toNat = min (c.val - 8) 48 + w.val + 15 - c.val := by
  decide +kernel

variable (x0 x1 x2 : S81920x512.Idx → EReal) (x3 : S8x15x31.Idx → EReal)

/-- The queries as a grid. -/
theorem q_at (b : Fin 4) (r : Fin 64) (c : Fin 64) (h : Fin 8) (d : Fin 64) :
    val_main_v111 (F := Ideal) x0 (ix5 b r c h d) = at2 x0 (65536 + b.val * 4096 + r.val * 64 + c.val) (h.val * 64 + d.val) := by
  rw [val_main_v111_apply, val_main_v106_apply, val_main_v105_apply, val_main_v0_apply]
  refine at2_eq x0 _ _ _ ?_ ?_
  · simp
    omega
  · simp
    omega

/-- The keys of every window. -/
theorem k_at (b : Fin 4) (r : Fin 64) (a : Fin 8) (c : Fin 64) (w : Fin 16) (h : Fin 8) (d : Fin 64) :
    val_main_v157 (F := Ideal) x1 (ix7 b r a c w h d)
      = at2 x1 (65536 + b.val * 4096 + (rstart 64 r.val + a.val) * 64 + (cstart c.val + w.val)) (h.val * 64 + d.val) := by
  unfold val_main_v157
  rw [gather_cols2]
  unfold val_main_v150
  rw [gather_rows2, val_main_v112_apply, val_main_v108_apply, val_main_v107_apply, val_main_v1_apply]
  refine at2_eq x1 _ _ _ ?_ ?_
  · simp
    rw [rowIdx, colIdx]
    unfold rstart cstart
    omega
  · simp
    omega

/-- The values of every window. -/
theorem v_at (b : Fin 4) (r : Fin 64) (a : Fin 8) (c : Fin 64) (w : Fin 16) (h : Fin 8) (d : Fin 64) :
    val_main_v171 (F := Ideal) x2 (ix7 b r a c w h d)
      = at2 x2 (65536 + b.val * 4096 + (rstart 64 r.val + a.val) * 64 + (cstart c.val + w.val)) (h.val * 64 + d.val) := by
  unfold val_main_v171
  rw [gather_cols2]
  unfold val_main_v164
  rw [gather_rows2, val_main_v113_apply, val_main_v110_apply, val_main_v109_apply, val_main_v2_apply]
  refine at2_eq x2 _ _ _ ?_ ?_
  · simp
    rw [rowIdx', colIdx']
    unfold rstart cstart
    omega
  · simp
    omega

/-- The biases of every window. -/
theorem bias_at (h : Fin 8) (r : Fin 64) (a : Fin 8) (c : Fin 64) (w : Fin 16) :
    val_main_v186 (F := Ideal) x3 (ix5 h r a c w)
      = at3 x3 h.val (rstart 64 r.val + a.val + 7 - r.val) (cstart c.val + w.val + 15 - c.val) := by
  unfold val_main_v186
  rw [gather_biasCols2]
  unfold val_main_v179
  rw [gather_biasRows2]
  refine at3_eq x3 _ _ _ _ ?_ ?_ ?_
  · rfl
  · simp
    rw [biasRow]
    unfold rstart
    omega
  · simp
    rw [biasCol]
    unfold cstart
    omega

/-- The scores of one query, over the keys of its window in one row. -/
theorem score_at (b : Fin 4) (r : Fin 64) (h : Fin 8) (c : Fin 64) (i : Fin 128) :
    val_main_v191 (F := Ideal) x0 x1 x3 (ix5 b r h c i) = score x0 x1 x3 64 (65536 + b.val * 4096) r.val c.val h.val i := by
  have ha : i.val / 16 < 8 := by omega
  have hw : i.val % 16 < 16 := by omega
  unfold val_main_v191
  rw [shapeCast_apply _ shapeCasts_S4x64x8x64x8x16_S4x64x8x64x128 (ix5 b r h c i) (ix6 b r h c ⟨i.val / 16, ha⟩ ⟨i.val % 16, hw⟩)
      (by rw [Shape.rowMajor_val_five, Shape.rowMajor_val_six]
          show ((((b.val * 64 + r.val) * 8 + h.val) * 64 + c.val) * 8 + i.val / 16) * 16 + i.val % 16
            = (((b.val * 64 + r.val) * 8 + h.val) * 64 + c.val) * 128 + i.val
          omega),
    val_main_v190_apply, val_main_v172_apply, val_main_v189_apply, val_main_v188_apply, val_main_v187_apply]
  have hb : idx_main_v187 (idx_main_v188 (idx_main_v189 (ix6 b r h c ⟨i.val / 16, ha⟩ ⟨i.val % 16, hw⟩)))
      = ix5 h r ⟨i.val / 16, ha⟩ c ⟨i.val % 16, hw⟩ := by
    funext a
    match a with
    | ⟨0, _⟩ => rfl
    | ⟨1, _⟩ => rfl
    | ⟨2, _⟩ => rfl
    | ⟨3, _⟩ => rfl
    | ⟨4, _⟩ => rfl
  rw [hb, bias_at]
  unfold score
  refine congrArg (· + _) (Finset.sum_congr rfl fun d _ => ?_)
  have hl : lidx_main_v172 (ix6 b r h c ⟨i.val / 16, ha⟩ ⟨i.val % 16, hw⟩) d = ix5 b r c h d := by
    funext a
    match a with
    | ⟨0, _⟩ => rfl
    | ⟨1, _⟩ => rfl
    | ⟨2, _⟩ => rfl
    | ⟨3, _⟩ => rfl
    | ⟨4, _⟩ => rfl
  have hr : ridx_main_v172 (ix6 b r h c ⟨i.val / 16, ha⟩ ⟨i.val % 16, hw⟩) d = ix7 b r ⟨i.val / 16, ha⟩ c ⟨i.val % 16, hw⟩ h d := by
    funext a
    match a with
    | ⟨0, _⟩ => rfl
    | ⟨1, _⟩ => rfl
    | ⟨2, _⟩ => rfl
    | ⟨3, _⟩ => rfl
    | ⟨4, _⟩ => rfl
    | ⟨5, _⟩ => rfl
    | ⟨6, _⟩ => rfl
  rw [hl, hr, q_at, k_at]

/-- The largest score of one query. -/
theorem max_at (b : Fin 4) (r : Fin 64) (h : Fin 8) (c : Fin 64) :
    val_main_v194 (F := Ideal) x0 x1 x3 (ix4 b r h c) = top (score x0 x1 x3 64 (65536 + b.val * 4096) r.val c.val h.val) := by
  have h192 : val_main_v192 (F := Ideal) x0 x1 x3 (ix4 b r h c)
      = Finset.univ.fold max (Ideal.ofBits .f32 0xFF800000#32) (score x0 x1 x3 64 (65536 + b.val * 4096) r.val c.val h.val) := by
    unfold val_main_v192
    refine (Host.reduce_eq_fold_single (α := EReal) max (val_main_v191 (F := Ideal) x0 x1 x3) _
      reducesTo_S4x64x8x64x128_S4x64x8x64_d4 (by decide) h_S_ (ix4 b r h c)).trans ?_
    refine congrArg (Finset.fold max (Ideal.ofBits .f32 0xFF800000#32) · Finset.univ) (funext fun i => ?_)
    exact (congrArg _ (funext fun a => Fin.ext (by
      match a with
      | ⟨0, _⟩ => rfl
      | ⟨1, _⟩ => rfl
      | ⟨2, _⟩ => rfl
      | ⟨3, _⟩ => rfl
      | ⟨4, _⟩ => rfl))).trans (score_at x0 x1 x3 b r h c i)
  rw [val_main_v194_apply, h192, val_main_v193_apply, val_main_cst_42_apply, Ideal.maximumf_def, Ideal.ofBits_def, negInf]
  exact max_eq_right bot_le

/-- The weights of one query before they are divided. -/
theorem exp_at (b : Fin 4) (r : Fin 64) (h : Fin 8) (c : Fin 64) (i : Fin 128) :
    val_main_v198 (F := Ideal) x0 x1 x3 (ix5 b r h c i)
      = Ideal.exp (score x0 x1 x3 64 (65536 + b.val * 4096) r.val c.val h.val i
          - top (score x0 x1 x3 64 (65536 + b.val * 4096) r.val c.val h.val)) := by
  rw [val_main_v198_apply, val_main_v197_apply, score_at, val_main_v196_apply, val_main_v195_apply]
  have hi : idx_main_v195 (idx_main_v196 (ix5 b r h c i)) = ix4 b r h c := by
    funext a
    match a with
    | ⟨0, _⟩ => rfl
    | ⟨1, _⟩ => rfl
    | ⟨2, _⟩ => rfl
    | ⟨3, _⟩ => rfl
  rw [hi, max_at]
  rfl

/-- The sum of one query's weights. -/
theorem sum_at (b : Fin 4) (r : Fin 64) (h : Fin 8) (c : Fin 64) :
    val_main_v199 (F := Ideal) x0 x1 x3 (ix4 b r h c)
      = ∑ i : Fin 128, Ideal.exp (score x0 x1 x3 64 (65536 + b.val * 4096) r.val c.val h.val i
          - top (score x0 x1 x3 64 (65536 + b.val * 4096) r.val c.val h.val)) := by
  rw [val_main_v199_apply, val_main_cst_43_apply, Ideal.ofBits_def, Ideal.ofBits_zero_f32, zero_add]
  refine Finset.sum_congr rfl fun i _ => ?_
  have hi : idx_main_v199 (ix4 b r h c) i = ix5 b r h c i := by
    funext a
    match a with
    | ⟨0, _⟩ => rfl
    | ⟨1, _⟩ => rfl
    | ⟨2, _⟩ => rfl
    | ⟨3, _⟩ => rfl
    | ⟨4, _⟩ => rfl
  rw [hi, exp_at]

/-- The weights of one query, divided. -/
theorem weight_at (b : Fin 4) (r : Fin 64) (h : Fin 8) (c : Fin 64) (a : Fin 8) (w : Fin 16) :
    val_main_v203 (F := Ideal) x0 x1 x3 (ix6 b r h c a w)
      = Ideal.div (Ideal.exp (score x0 x1 x3 64 (65536 + b.val * 4096) r.val c.val h.val ⟨a.val * 16 + w.val, by omega⟩
          - top (score x0 x1 x3 64 (65536 + b.val * 4096) r.val c.val h.val)))
        (∑ i : Fin 128, Ideal.exp (score x0 x1 x3 64 (65536 + b.val * 4096) r.val c.val h.val i
          - top (score x0 x1 x3 64 (65536 + b.val * 4096) r.val c.val h.val))) := by
  unfold val_main_v203
  rw [shapeCast_apply _ shapeCasts_S4x64x8x64x128_S4x64x8x64x8x16 (ix6 b r h c a w) (ix5 b r h c ⟨a.val * 16 + w.val, by omega⟩)
      (by rw [Shape.rowMajor_val_five, Shape.rowMajor_val_six]
          show (((b.val * 64 + r.val) * 8 + h.val) * 64 + c.val) * 128 + (a.val * 16 + w.val)
            = ((((b.val * 64 + r.val) * 8 + h.val) * 64 + c.val) * 8 + a.val) * 16 + w.val
          omega),
    val_main_v202_apply, exp_at, val_main_v201_apply, val_main_v200_apply]
  have hi : idx_main_v200 (idx_main_v201 (ix5 b r h c ⟨a.val * 16 + w.val, by omega⟩)) = ix4 b r h c := by
    funext a
    match a with
    | ⟨0, _⟩ => rfl
    | ⟨1, _⟩ => rfl
    | ⟨2, _⟩ => rfl
    | ⟨3, _⟩ => rfl
  rw [hi, sum_at]
  rfl

/-- The attention of one query and head. -/
theorem dot_at (b : Fin 4) (r : Fin 64) (c : Fin 64) (h : Fin 8) (d : Fin 64) :
    val_main_v204 (F := Ideal) x0 x1 x2 x3 (ix5 b r c h d)
      = attend x0 x1 x2 x3 64 (65536 + b.val * 4096) r.val c.val h.val d.val := by
  unfold val_main_v204
  pointwise
  unfold attend softmaxSum
  refine (sum_rows_cols (fun i => _) (fun a w => _) fun a w => ?_).symm
  rw [weight_at, v_at]
  unfold value
  have h0 : (a.val * 16 + w.val) / 16 = a.val := by omega
  have h1 : (a.val * 16 + w.val) % 16 = w.val := by omega
  simp only [h0, h1]

/-- The group's result, token by token. -/
theorem group_at (n : Fin 16384) (e : Fin 512) :
    val_main_v206 (F := Ideal) x0 x1 x2 x3 (ix2 n e)
      = attend x0 x1 x2 x3 64 (65536 + n.val / 4096 * 4096) (n.val % 4096 / 64) (n.val % 64) (e.val / 64) (e.val % 64) := by
  rw [val_main_v206_apply, val_main_v205_apply]
  have hi : idx_main_v205 (idx_main_v206 (ix2 n e))
      = ix5 ⟨n.val / 4096, by omega⟩ ⟨n.val % 4096 / 64, by omega⟩ ⟨n.val % 64, by omega⟩ ⟨e.val / 64, by omega⟩ ⟨e.val % 64, by omega⟩ := by
    funext a
    refine Fin.ext ?_
    match a with
    | ⟨0, _⟩ => simp; omega
    | ⟨1, _⟩ => simp; omega
    | ⟨2, _⟩ => simp; omega
    | ⟨3, _⟩ => simp; omega
    | ⟨4, _⟩ => simp; omega
  rw [hi, dot_at]

end Cert.ReferenceIdeal.Read.Short
-- ==== Proof.NaRef.lean ====
/-
The reference's result as one function of a token and a lane: the eight long grids and behind them the four short ones.
-/
module

public import Idealize.ShloMosaic.Lib.IdealHost
public import proofs.«01_k».proof.Proof.NaRefLong
public import proofs.«01_k».proof.Proof.NaRefShort

@[expose] public section

namespace Cert.ReferenceIdeal.Read

set_option maxRecDepth 16384

open Idealize Idealize.ShloMosaic Cert.Na
open Cert.ReferenceIdeal Cert.ReferenceIdeal.Gen Cert.ReferenceIdeal.Read

theorem short_at (x0 x1 x2 : S81920x512.Idx → EReal) (x3 : S8x15x31.Idx → EReal) (n : ℕ) (h : ¬ n < 65536) (hn : n < 81920) (e : Fin 512) :
    val_main_v206 (F := Ideal) x0 x1 x2 x3 (ix2 ⟨n - 65536, by omega⟩ e)
      = attend x0 x1 x2 x3 64 (65536 + (n - 65536) / 4096 * 4096) ((n - 65536) % 4096 / 64) (n % 64) (e.val / 64) (e.val % 64) := by
  have h0 : (n - 65536) % 64 = n % 64 := by omega
  rw [Short.group_at, ← h0]

/-- The reference's result: the neighbourhood attention, token by token and lane by lane. -/
theorem result_at (x0 x1 x2 : S81920x512.Idx → EReal) (x3 : S8x15x31.Idx → EReal) (y : S81920x512.Idx) :
    val_main_v208 (F := Ideal) x0 x1 x2 x3 y = out x0 x1 x2 x3 (y 0).val (y 1).val := by
  rw [val_main_v208_apply]
  unfold val_main_v207 out
  generalize hl : val_main_v104 (F := Ideal) x0 x1 x2 x3 = long
  generalize hs : val_main_v206 (F := Ideal) x0 x1 x2 x3 = short
  pointwise
  split
  · rename_i h
    subst hl
    exact Long.group_at x0 x1 x2 x3 ⟨(y 0).val, h⟩ (y 1)
  · rename_i h
    subst hs
    have hy : (y 0).val < 81920 := (y 0).isLt
    exact short_at x0 x1 x2 x3 (y 0).val h hy (y 1)

end Cert.ReferenceIdeal.Read
-- ==== Proof.KernelRun.lean ====
/- The neighbourhood attention call on the device: its body run at one grid point, the output block at some contents. -/
module

public import proofs.«01_k».proof.Proof.Gen.Kernel.Frame
public import proofs.«01_k».proof.Proof.Gen.Kernel.Skeleton

@[expose] public section

set_option maxRecDepth 16384

noncomputable section

namespace Cert.Kernel.Na

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Gen

variable {F : FTy → Type} [FloatOps F]

local notation "𝕄" => MT nD τ sig Unit (Elt F) ℕ (UR sig nD τ) ℕ

/-- The offsets of a window of eight grid rows: its first row in the three stacked blocks, and column zero. -/
instance (i : grid0.Coords) (r : BitVec 32) : ClosedOff (k0_off1 i r) :=
  ⟨![k0_off1 i r 0, 0], by funext a; match a with | ⟨0, _⟩ => rfl | ⟨1, _⟩ => rfl⟩

set_option maxHeartbeats 0 in
/-- The body at a grid point: from the eight input blocks to the output block at some contents. -/
theorem run (c : Dev nD) (i : grid0.Coords) (arg2 : Memref sig .tc .vmem S512x128 .bf16) (harg2 : arg2.IsWhole) (arg3 : Memref sig .tc .vmem S512x128 .bf16) (harg3 : arg3.IsWhole) (arg4 : Memref sig .tc .vmem S512x128 .bf16) (harg4 : arg4.IsWhole) (arg5 : Memref sig .tc .vmem S512x128 .bf16) (harg5 : arg5.IsWhole) (arg6 : Memref sig .tc .vmem S512x128 .bf16) (harg6 : arg6.IsWhole) (arg7 : Memref sig .tc .vmem S512x128 .bf16) (harg7 : arg7.IsWhole) (arg8 : Memref sig .tc .vmem S512x128 .bf16) (harg8 : arg8.IsWhole) (arg9 : Memref sig .tc .vmem S8x2x64x512 .f32) (harg9 : arg9.IsWhole) (arg10 : Memref sig .tc .vmem S512x128 .bf16) (harg10 : arg10.IsWhole) (arg11 : Memref sig .tc .vmem S1536x128 .bf16) (harg11 : arg11.IsWhole) (arg12 : Memref sig .tc .vmem S1536x128 .bf16) (harg12 : arg12.IsWhole)
    (x0 : Vec F S512x128 .bf16) (x1 : Vec F S512x128 .bf16) (x2 : Vec F S512x128 .bf16) (x3 : Vec F S512x128 .bf16) (x4 : Vec F S512x128 .bf16) (x5 : Vec F S512x128 .bf16) (x6 : Vec F S512x128 .bf16) (x7 : Vec F S8x2x64x512 .f32) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ (∃ d, owns (c : Thread nD τ) arg11 fullShare d) ∗ (∃ d, owns (c : Thread nD τ) arg12 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ (∃ d, owns (c : Thread nD τ) arg11 fullShare d) ∗ (∃ d, owns (c : Thread nD τ) arg12 fullShare d)) -∗ K ⟨⟩))
          ⊢ wp frame (wpE (defs₀ (F := F)) Variants.none c none) E (cc0_natten i arg2 harg2 arg3 harg3 arg4 harg4 arg5 harg5 arg6 harg6 arg7 harg7 arg8 harg8 arg9 harg9 arg10 harg10 arg11 harg11 arg12 harg12) K := by
    intro E K
    simp only [cc0_natten_eq_skeleton]; unfold cc0_natten_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%ds0, %fs0, -, HS0⟩, ⟨%ds1, %fs1, -, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7
    sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _, _; isplitr; swap; · iexact H8
      ipureintro; rfl
    isplitl [HS0]
    · iexists _, _; isplitr; swap; · iexact HS0
      ipureintro; rfl
    iexists _, _; isplitr; swap; · iexact HS1
    ipureintro; rfl

end Cert.Kernel.Na

end
-- ==== Proof.NaClaims.lean ====
/-
The neighbourhood attention's claims: both programs end with the same array, and leave their arguments as they were.
-/
module

public import proofs.«01_k».proof.Defs
public import proofs.«01_k».proof.Proof.NaArray
public import proofs.«01_k».proof.Proof.NaRef
public import proofs.«01_k».proof.Proof.KernelFrame
public import proofs.«01_k».proof.Proof.Gen.Pre_finite_scores
public import Idealize.ShloMosaic.Lib.ReduceAll
public import Idealize.ShloMosaic.Lib.Quiescent

@[expose] public section

open Idealize Idealize.ShloMosaic Idealize.ShloMosaic.TcCoe Idealize.ShloMosaic.Tactic Idealize.SL.Sem Cert.Na
set_option maxRecDepth 16384

namespace Cert.Na
open Cert.KernelIdeal.Na (IsFin)

/-- The comparison of the precondition, at an extended real: neither infinity. -/
theorem isFin_of_abs (x : EReal) (h : Ideal.cmp .olt (max x (-x)) (Ideal.ofBits .f32 0x7F800000#32) = 1#1) : IsFin x := by
  have htop : Ideal.ofBits .f32 0x7F800000#32 = ⊤ := by simp [Ideal.ofBits, Ideal.ieee]
  rw [htop] at h
  induction x with
  | bot => simp [Ideal.cmp] at h
  | top => simp [Ideal.cmp] at h
  | coe r => exact ⟨EReal.coe_ne_bot r, EReal.coe_ne_top r⟩

instance : Subsingleton Pre_finite_scores.S_.Idx := ⟨fun a b => funext fun i => i.elim0⟩

/-- What the precondition says: the queries, the keys and the biases are finite. -/
theorem finite_of_pre [Pre_finite_scores.Facts] (q k v : Tokens.Idx → EReal) (b : Biases.Idx → EReal)
    (h : Pre_finite_scores.fn (F := Ideal) q k v b = fun _ => 1#1) :
    (∀ y, IsFin (q y)) ∧ (∀ y, IsFin (k y)) ∧ ∀ y, IsFin (b y) := by
  have h0 := congrFun h (fun i => i.elim0)
  unfold Pre_finite_scores.fn at h0
  have h1 := IntOp.andi_eq_one.1 h0
  have h2 := IntOp.andi_eq_one.1 h1.1
  exact ⟨fun y => isFin_of_abs _ (Host.reduce_andi_all _ _ _ _ _ h2.1 y), fun y => isFin_of_abs _ (Host.reduce_andi_all _ _ _ _ _ h2.2 y),
    fun y => isFin_of_abs _ (Host.reduce_andi_all _ _ _ _ _ h1.2 y)⟩
end Cert.Na

namespace Cert.ReferenceIdeal
open Cert.ReferenceIdeal.Gen

/-- The reference ends with the attention of every token. -/
theorem attention (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v208) = (fun y => out (m (c.tc.loc main_arg0)) (m (c.tc.loc main_arg1)) (m (c.tc.loc main_arg2)) (m (c.tc.loc main_arg3)) (y 0).val (y 1).val)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨((h c).1.trans (Read.val_main_v208_eq (StableHlo.launchContents m c))).trans
    (funext fun y => Read.result_at _ _ _ _ y), (h c).2⟩) (Value.run m ρ)
end Cert.ReferenceIdeal

namespace Cert.KernelIdeal.Na
open Cert.KernelIdeal.Gen

/-- The call ends with the attention of every token, when the scores are finite. -/
theorem attention (m : (ℓ : Loc nD τ sig) → Buf (Elt Ideal) ℓ) (ρ : Dev nD → PrngReg)
    (hQ : ∀ (c : Dev nD) y, IsFin (m (c.tc.loc main_arg0) y)) (hK : ∀ (c : Dev nD) y, IsFin (m (c.tc.loc main_arg1) y))
    (hB : ∀ (c : Dev nD) y, IsFin (m (c.tc.loc main_arg3) y)) :
    θ_run (defs (F := Ideal)) (onTc (τ := τ) (main (F := Ideal))) ⟨m, fun _ => 0, ρ⟩ fun r => ∀ c : Dev nD,
      r.2.mem ((c.tc : Thread nD τ).loc main_v14) = (fun y => out (m (c.tc.loc main_arg0)) (m (c.tc.loc main_arg1)) (m (c.tc.loc main_arg2)) (m (c.tc.loc main_arg3)) (y 0).val (y 1).val) :=
  (θ_run defs _ _).mono (fun _ h c => (h.out_eq c 8).trans (arr_eq m c (hQ c) (hK c) (hB c))) (run_main m ρ)
end Cert.KernelIdeal.Na

namespace Cert.Na

theorem reference_frame (m : (ℓ : Loc ReferenceIdeal.nD ReferenceIdeal.τ ReferenceIdeal.sig) → Buf (Elt Ideal) ℓ) (g : Dev ReferenceIdeal.nD → PrngReg) :
    θ_run (ReferenceIdeal.defs (F := Ideal)) (onTc (τ := ReferenceIdeal.τ) (ReferenceIdeal.main (F := Ideal))) ⟨m, fun _ => 0, g⟩ (fun r => (∀ c : Dev ReferenceIdeal.nD,
      r.2.mem ((c.tc : Thread ReferenceIdeal.nD ReferenceIdeal.τ).loc ReferenceIdeal.main_arg0) = m ((c.tc : Thread ReferenceIdeal.nD ReferenceIdeal.τ).loc ReferenceIdeal.main_arg0)
      ∧ r.2.mem ((c.tc : Thread ReferenceIdeal.nD ReferenceIdeal.τ).loc ReferenceIdeal.main_arg1) = m ((c.tc : Thread ReferenceIdeal.nD ReferenceIdeal.τ).loc ReferenceIdeal.main_arg1)
      ∧ r.2.mem ((c.tc : Thread ReferenceIdeal.nD ReferenceIdeal.τ).loc ReferenceIdeal.main_arg2) = m ((c.tc : Thread ReferenceIdeal.nD ReferenceIdeal.τ).loc ReferenceIdeal.main_arg2)
      ∧ r.2.mem ((c.tc : Thread ReferenceIdeal.nD ReferenceIdeal.τ).loc ReferenceIdeal.main_arg3) = m ((c.tc : Thread ReferenceIdeal.nD ReferenceIdeal.τ).loc ReferenceIdeal.main_arg3))
      ∧ r.2.sem = fun _ => 0) :=
  (θ_run ReferenceIdeal.defs _ _).mono (fun r h => ⟨fun c => (h c).2, sem_eq_zero_of_no_sems (by decide) r.2⟩) (ReferenceIdeal.attention m g)

/-- The call and the reference leave the same array. -/
theorem algebraic : Cert.algebraic_KernelIdeal_ReferenceIdeal_pre_finite_scores (hKernelIdeal := KernelIdeal.Gen.facts)
    (hReferenceIdeal := ReferenceIdeal.Gen.facts) (hPre_finite_scores := Pre_finite_scores.Gen.facts) := by
  intro m g m' g' hpre hagree
  have hfin := fun c => finite_of_pre _ _ _ _ (hpre c)
  refine ⟨fun c y => out (m (c.tc.loc KernelIdeal.main_arg0)) (m (c.tc.loc KernelIdeal.main_arg1)) (m (c.tc.loc KernelIdeal.main_arg2)) (m (c.tc.loc KernelIdeal.main_arg3)) (y 0).val (y 1).val, ?_, ?_⟩
  · exact (θ_run KernelIdeal.defs _ _).mono (fun _ h c => ⟨h.1 c, h.2.1 c⟩)
      (θ_run_and (KernelIdeal.Na.attention m g (fun c => (hfin c).1) (fun c => (hfin c).2.1) (fun c => (hfin c).2.2)) (KernelIdeal.Na.frame m g))
  · refine (θ_run ReferenceIdeal.defs _ _).mono (fun _ h c => ⟨(h c).1.trans ?_, (h c).2⟩) (ReferenceIdeal.attention m' g')
    rw [(hagree c).1, (hagree c).2.1, (hagree c).2.2.1, (hagree c).2.2.2]
    rfl

end Cert.Na

end
-- ==== Proof.ExRun.lean ====
/- The experts call: its body run at one grid point, with the output block named. -/
module

public import proofs.«01_k».proof.Proof.Gen.Kernel2Ideal.Launch
public import proofs.«01_k».proof.Proof.Gen.Kernel2Ideal.Skeleton
public import Idealize.ShloMosaic.Lib.Pipeline.Kit
public import Idealize.ShloMosaic.Lib.Pipeline.TableIdle
public import Idealize.ShloMosaic.Lib.Pipeline.FrameBody
public import Idealize.ShloMosaic.Lib.Pipeline.Value
public import Idealize.ShloMosaic.Lib.Writes
public import Idealize.ShloMosaic.Lib.WholeRead
public import Idealize.ShloMosaic.Lib.Exec
public import Idealize.ShloMosaic.Lib.Tactic
public import Idealize.ShloMosaic.Lib.Tactic.Stretches
public import Idealize.ShloMosaic.Lib.Pointwise.Index

@[expose] public section

set_option maxRecDepth 16384

noncomputable section

namespace Cert.Kernel2Ideal.Experts

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Gen

variable {F : FTy → Type} [FloatOps F]

local notation "𝕄" => MT nD τ sig Unit (Elt F) ℕ (UR sig nD τ) ℕ

/-- The two tables the call is handed: each block's expert, and the number of blocks in use. -/
abbrev tbM0_0 : Memref sig .tc .smem S672 .i32 := Memref.whole main_arg0
abbrev tbM0_1 : Memref sig .tc .smem S1 .i32 := Memref.whole main_arg1

/-- The number of blocks in use, as the body reads it. -/
abbrev active (T1 : S1.Idx → Elt F .i32) : BitVec 32 :=
  View.readAt (Elt F) (tbM0_1).view (Rect.unit (s := S1) ![0] S1.size inb_S1_S1_0).toLoadRect T1 (Shape.Idx.first (numel1_S1.symm ▸ Nat.one_pos))

theorem lane_inb (s : Fin 8) : ∀ a, S512x128.size a = 0 ∨ (![s.val, 0] : Fin 2 → Nat) a + (![8, 1] : Fin 2 → Nat) a * (S512x128.size a - 1) < S4096x128.size a := by
  revert s; decide +kernel

/-- Lane group `s` of the 512 tokens of a block: every eighth row of the block from row `s`. -/
def laneRect (s : Fin 8) : Rect S4096x128 := ⟨(⟨![s.val, 0], S512x128.size, ![8, 1], lane_inb s⟩ : LoadRect S4096x128), spos_8_1⟩

/-- The lane groups of a block. -/
abbrev lanes (x : Vec F S4096x128 .f32) (s : Fin 8) : Vec F S512x128 .f32 := View.ld x (laneRect s)

/-- The gated hidden layer of a block's tokens. -/
def hidden (x0 : Vec F S4096x128 .f32) (x1 : Vec F S1x1024x2048 .bf16) (x2 : Vec F S1x1x2048 .f32) : FVec F S512x1024 .f32 :=
  k0_pay11 (lanes x0 0) (lanes x0 1) (lanes x0 2) (lanes x0 3) (lanes x0 4) (lanes x0 5) (lanes x0 6) (lanes x0 7) x1 x2

/-- The expert's output for a block's tokens. -/
def tokens (x0 : Vec F S4096x128 .f32) (x1 : Vec F S1x1024x2048 .bf16) (x2 : Vec F S1x1x2048 .f32) (x3 : Vec F S1x1024x1024 .bf16) (x4 : Vec F S1x1x1024 .f32) : FVec F S512x1024 .f32 :=
  k0_pay1 (hidden x0 x1 x2) x3 x4

/-- The same as rows of 128 lanes, eight to a token. -/
def slab (y : FVec F S512x1024 .f32) : Vec F S4096x128 .f32 := fun p =>
  y (ix2 ⟨(p 0).val / 8, Nat.div_lt_of_lt_mul (p 0).isLt⟩
    ⟨(p 0).val % 8 * 128 + (p 1).val, by have h0 := Nat.mod_lt (p 0).val (show 0 < 8 by decide); have h1 : (p 1).val < 128 := (p 1).isLt; omega⟩)

/-- The output block: the expert's output where the block is in use, zeros elsewhere. -/
def outBlk (i : grid0.Coords) (T1 : S1.Idx → Elt F .i32) (x0 : Vec F S4096x128 .f32) (x1 : Vec F S1x1024x2048 .bf16) (x2 : Vec F S1x1x2048 .f32) (x3 : Vec F S1x1024x1024 .bf16) (x4 : Vec F S1x1x1024 .f32) : Vec F S4096x128 .f32 :=
  if k0_cond1 i (active T1) = 1#1 then slab (tokens x0 x1 x2 x3 x4) else k0_pay10

/-- A block is in use or is not. -/
theorem cond_not (i : grid0.Coords) (n : BitVec 32) : k0_cond2 i n = 1#1 ↔ ¬ k0_cond1 i n = 1#1 := by
  unfold k0_cond1 k0_cond2 Scalar.cmpi Scalar.extui
  generalize BitVec.ofNat 32 (i 0).val = a
  simp only [IntOp.cmpi, BitVec.slt, BitVec.sle]
  by_cases h : a.toInt < n.toInt
  · have h' : ¬ n.toInt ≤ a.toInt := by omega
    simp only [h, h', decide_true, decide_false]; decide
  · have h' : n.toInt ≤ a.toInt := by omega
    simp only [h, h', decide_true, decide_false]; decide

/-- A lane group of the expert's output is the output block along the group's rows. -/
theorem slab_lane (y : FVec F S512x1024 .f32) (s : Fin 8) (off : Fin 2 → Nat) (ho : off = ![0, 128 * s.val]) (h : S512x1024.Slices off S512x128) (x : S512x128.Idx) :
    extractStridedSlice S512x128 off y h x = slab y ((laneRect s).emb x) := by
  subst ho
  have e0 : (((laneRect s).emb x) 0).val = s.val + 8 * (x 0).val := rfl
  have e1 : (((laneRect s).emb x) 1).val = (x 1).val := by show 0 + 1 * (x 1).val = _; omega
  have hx : (x 1).val < 128 := (x 1).isLt
  have hs := s.isLt
  unfold slab extractStridedSlice
  refine congrArg y (funext fun a => ?_)
  match a with
  | ⟨0, _⟩ => exact Fin.ext (by show 0 + (x 0).val = _ / 8; rw [e0]; omega)
  | ⟨1, _⟩ => exact Fin.ext (by show 128 * s.val + (x 1).val = _ % 8 * 128 + _; rw [e0, e1]; omega)

/-- The eight lane groups cover a block. -/
theorem lanes_cover (y : S4096x128.Idx) : ∃ s : Fin 8, y ∈ (laneRect s).set := by
  refine ⟨⟨(y 0).val % 8, Nat.mod_lt _ (by decide)⟩, ?_⟩
  have h0 : (y 0).val < 4096 := (y 0).isLt
  have h1 : (y 1).val < 128 := (y 1).isLt
  refine LoadRect.mem_set _ |>.2 fun a => ?_
  match a with
  | ⟨0, _⟩ => exact ⟨(y 0).val / 8, by show _ < 512; omega, by show (y 0).val = (y 0).val % 8 + 8 * ((y 0).val / 8); omega⟩
  | ⟨1, _⟩ => exact ⟨(y 1).val, h1, by show (y 1).val = 0 + 1 * (y 1).val; omega⟩

/-- Eight strided stores, one lane group each, leave the output block. -/
theorem lanes_written {sig : RefSig} {κ : Kind} {sp : Space} (v : View sig κ sp S4096x128 .f32) (f : v.ty.Contents (Elt F)) (y : FVec F S512x1024 .f32)
    (p : Fin 8 → FVec F S512x128 .f32) (hp : ∀ s x, p s x = slab y ((laneRect s).emb x)) :
    v.read (Elt F) (v.writes (Elt F) f [⟨laneRect 7, p 7⟩, ⟨laneRect 6, p 6⟩, ⟨laneRect 5, p 5⟩, ⟨laneRect 4, p 4⟩, ⟨laneRect 3, p 3⟩, ⟨laneRect 2, p 2⟩, ⟨laneRect 1, p 1⟩, ⟨laneRect 0, p 0⟩]) = slab y := by
  have hmem : ∀ q : View.Piece (Elt F) S4096x128 .f32, q ∈ ([⟨laneRect 7, p 7⟩, ⟨laneRect 6, p 6⟩, ⟨laneRect 5, p 5⟩, ⟨laneRect 4, p 4⟩, ⟨laneRect 3, p 3⟩, ⟨laneRect 2, p 2⟩, ⟨laneRect 1, p 1⟩, ⟨laneRect 0, p 0⟩] : List (View.Piece (Elt F) S4096x128 .f32)) ↔ ∃ s : Fin 8, q = ⟨laneRect s, p s⟩ := by
    intro q
    simp only [List.mem_cons, List.not_mem_nil, or_false]
    constructor
    · rintro (h | h | h | h | h | h | h | h)
      · exact ⟨7, h⟩
      · exact ⟨6, h⟩
      · exact ⟨5, h⟩
      · exact ⟨4, h⟩
      · exact ⟨3, h⟩
      · exact ⟨2, h⟩
      · exact ⟨1, h⟩
      · exact ⟨0, h⟩
    · rintro ⟨s, rfl⟩
      match s with
      | 0 | 1 | 2 | 3 | 4 | 5 | 6 | 7 => tauto
  have hc : ∀ z, ∃ q ∈ ([⟨laneRect 7, p 7⟩, ⟨laneRect 6, p 6⟩, ⟨laneRect 5, p 5⟩, ⟨laneRect 4, p 4⟩, ⟨laneRect 3, p 3⟩, ⟨laneRect 2, p 2⟩, ⟨laneRect 1, p 1⟩, ⟨laneRect 0, p 0⟩] : List (View.Piece (Elt F) S4096x128 .f32)), z ∈ q.1.set := fun z => by
    obtain ⟨s, hs⟩ := lanes_cover z
    exact ⟨⟨laneRect s, p s⟩, (hmem _).2 ⟨s, rfl⟩, hs⟩
  rw [View.read_writes_eq_canon v f _ hc]
  refine funext fun z => View.canon_apply_of_pieces (slab y) _ (fun q hq x => ?_) z (hc z)
  obtain ⟨s, rfl⟩ := (hmem q).1 hq
  exact hp s x

/-- The lane groups the body stores. -/
def group (h : FVec F S512x1024 .f32) (x3 : Vec F S1x1024x1024 .bf16) (x4 : Vec F S1x1x1024 .f32) : Fin 8 → FVec F S512x128 .f32
  | 0 => k0_pay2 h x3 x4
  | 1 => k0_pay3 h x3 x4
  | 2 => k0_pay4 h x3 x4
  | 3 => k0_pay5 h x3 x4
  | 4 => k0_pay6 h x3 x4
  | 5 => k0_pay7 h x3 x4
  | 6 => k0_pay8 h x3 x4
  | 7 => k0_pay9 h x3 x4

/-- Each is the output block along its rows. -/
theorem group_eq (h : FVec F S512x1024 .f32) (x3 : Vec F S1x1024x1024 .bf16) (x4 : Vec F S1x1x1024 .f32) (s : Fin 8) (x : S512x128.Idx) :
    group h x3 x4 s x = slab (k0_pay1 h x3 x4) ((laneRect s).emb x) :=
  match s with
  | 0 => slab_lane (k0_pay1 h x3 x4) 0 _ rfl slices_S512x1024_o0_0_S512x128 x
  | 1 => slab_lane (k0_pay1 h x3 x4) 1 _ rfl slices_S512x1024_o0_128_S512x128 x
  | 2 => slab_lane (k0_pay1 h x3 x4) 2 _ rfl slices_S512x1024_o0_256_S512x128 x
  | 3 => slab_lane (k0_pay1 h x3 x4) 3 _ rfl slices_S512x1024_o0_384_S512x128 x
  | 4 => slab_lane (k0_pay1 h x3 x4) 4 _ rfl slices_S512x1024_o0_512_S512x128 x
  | 5 => slab_lane (k0_pay1 h x3 x4) 5 _ rfl slices_S512x1024_o0_640_S512x128 x
  | 6 => slab_lane (k0_pay1 h x3 x4) 6 _ rfl slices_S512x1024_o0_768_S512x128 x
  | 7 => slab_lane (k0_pay1 h x3 x4) 7 _ rfl slices_S512x1024_o0_896_S512x128 x

/-- A load of a whole array is the array. -/
theorem readAt_whole {S : Shape} {dt : EltTy} {sp : Space} {m : Memref sig .tc sp S dt} (hm : m.IsWhole) (off : Fin S.rank → Nat) (ho : off = fun _ => 0)
    (h : ∀ a, off a + S.size a ≤ S.size a) (x : Vec F S dt) :
    View.readAt (Elt F) m.view (Rect.unit (s := S) off S.size h).toLoadRect (hm.unread x) = x := by
  subst ho
  funext y
  rw [hm.readAt_unread]
  exact congrArg x (funext fun a => Fin.ext (by show 0 + 1 * (y a).val = _; omega))

theorem zero3 : (![0, 0, 0] : Fin 3 → Nat) = fun _ => 0 := funext fun a => by fin_cases a <;> rfl

/-- A strided load of a whole array is its lane group. -/
theorem readAt_lanes {m : Memref sig .tc .vmem S4096x128 .f32} (hm : m.IsWhole) (x : Vec F S4096x128 .f32) (s : Fin 8) :
    View.readAt (Elt F) m.view (laneRect s).toLoadRect (hm.unread x) = lanes x s :=
  funext fun y => hm.readAt_unread x _ y

set_option maxHeartbeats 0 in
/-- The body at a grid point: from the tables and the five input blocks to the output block `outBlk`. -/
theorem run (c : Dev nD) (i : grid0.Coords) (arg3 : Memref sig .tc .vmem S4096x128 .f32) (harg3 : arg3.IsWhole) (arg4 : Memref sig .tc .vmem S1x1024x2048 .bf16) (harg4 : arg4.IsWhole) (arg5 : Memref sig .tc .vmem S1x1x2048 .f32) (harg5 : arg5.IsWhole) (arg6 : Memref sig .tc .vmem S1x1024x1024 .bf16) (harg6 : arg6.IsWhole) (arg7 : Memref sig .tc .vmem S1x1x1024 .f32) (harg7 : arg7.IsWhole) (arg8 : Memref sig .tc .vmem S4096x128 .f32) (harg8 : arg8.IsWhole) (T0 : S672.Idx → Elt F .i32) (T1 : S1.Idx → Elt F .i32)
    (x0 : Vec F S4096x128 .f32) (x1 : Vec F S1x1024x2048 .bf16) (x2 : Vec F S1x1x2048 .f32) (x3 : Vec F S1x1024x1024 .bf16) (x4 : Vec F S1x1x1024 .f32) :
      ∀ (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (tbM0_0.view.loc (c : Thread nD τ) ↦{fullShare.right} T0) ∗ (tbM0_1.view.loc (c : Thread nD τ) ↦{fullShare.right} T1) ∗ (∃ d, owns (c : Thread nD τ) arg8 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (tbM0_0.view.loc (c : Thread nD τ) ↦{fullShare.right} T0) ∗ (tbM0_1.view.loc (c : Thread nD τ) ↦{fullShare.right} T1) ∗ owns (c : Thread nD τ) arg8 fullShare (outBlk i T1 x0 x1 x2 x3 x4)) -∗ K ⟨⟩))
          ⊢ wp frame (wpE (defs₀ (F := F)) Variants.none c none) Set.univ (cc0_moe_experts i tbM0_0 (Memref.isWhole_whole _) tbM0_1 (Memref.isWhole_whole _) arg3 harg3 arg4 harg4 arg5 harg5 arg6 harg6 arg7 harg7 arg8 harg8) K := by
    intro K
    rw [cc0_moe_experts_eq_skeleton]; unfold cc0_moe_experts_skel
    unfold owns
    iintro ⟨⟨%f0, %hf0, H0⟩, ⟨%f1, %hf1, H1⟩, ⟨%f2, %hf2, H2⟩, ⟨%f3, %hf3, H3⟩, ⟨%f4, %hf4, H4⟩, HT0, HT1, ⟨%d5, %f5, -, H5⟩, Hk⟩
    obtain rfl := harg3.eq_unread hf0; obtain rfl := harg4.eq_unread hf1; obtain rfl := harg5.eq_unread hf2; obtain rfl := harg6.eq_unread hf3; obtain rfl := harg7.eq_unread hf4
    have hT0 : tbM0_0.IsWhole := Memref.isWhole_whole _
    have hT1 : tbM0_1.IsWhole := Memref.isWhole_whole _
    by_cases k0_h1 : k0_cond1 i (active T1) = 1#1
    · have k0_h2 : ¬ k0_cond2 i (active T1) = 1#1 := fun h => (cond_not i _).1 h k0_h1
      sl_exec! (disch := first | (guard_target = k0_cond1 _ _ = _; exact k0_h1) | (guard_target = ¬(k0_cond2 _ _ = _); exact k0_h2))
      sl_step
      iapply Hk
      isplitl [H0]
      · iexists _; isplitr; · ipureintro; exact harg3.read_unread _
        iexact H0
      isplitl [H1]
      · iexists _; isplitr; · ipureintro; exact harg4.read_unread _
        iexact H1
      isplitl [H2]
      · iexists _; isplitr; · ipureintro; exact harg5.read_unread _
        iexact H2
      isplitl [H3]
      · iexists _; isplitr; · ipureintro; exact harg6.read_unread _
        iexact H3
      isplitl [H4]
      · iexists _; isplitr; · ipureintro; exact harg7.read_unread _
        iexact H4
      isplitl [HT0]; · iexact HT0
      isplitl [HT1]; · iexact HT1
      iexists _; isplitr; swap; · iexact H5
      ipureintro
      unfold outBlk
      rw [if_pos k0_h1]
      sl_open_run
      have e0 : View.readAt (Elt F) arg3.view ⟨![0, 0], S512x128.size, ![8, 1], inb_S4096x128_S512x128_0_0_s_8_1⟩ (harg3.unread x0) = lanes x0 0 := readAt_lanes harg3 x0 0
      have e1 : View.readAt (Elt F) arg3.view ⟨![1, 0], S512x128.size, ![8, 1], inb_S4096x128_S512x128_1_0_s_8_1⟩ (harg3.unread x0) = lanes x0 1 := readAt_lanes harg3 x0 1
      have e2 : View.readAt (Elt F) arg3.view ⟨![2, 0], S512x128.size, ![8, 1], inb_S4096x128_S512x128_2_0_s_8_1⟩ (harg3.unread x0) = lanes x0 2 := readAt_lanes harg3 x0 2
      have e3 : View.readAt (Elt F) arg3.view ⟨![3, 0], S512x128.size, ![8, 1], inb_S4096x128_S512x128_3_0_s_8_1⟩ (harg3.unread x0) = lanes x0 3 := readAt_lanes harg3 x0 3
      have e4 : View.readAt (Elt F) arg3.view ⟨![4, 0], S512x128.size, ![8, 1], inb_S4096x128_S512x128_4_0_s_8_1⟩ (harg3.unread x0) = lanes x0 4 := readAt_lanes harg3 x0 4
      have e5 : View.readAt (Elt F) arg3.view ⟨![5, 0], S512x128.size, ![8, 1], inb_S4096x128_S512x128_5_0_s_8_1⟩ (harg3.unread x0) = lanes x0 5 := readAt_lanes harg3 x0 5
      have e6 : View.readAt (Elt F) arg3.view ⟨![6, 0], S512x128.size, ![8, 1], inb_S4096x128_S512x128_6_0_s_8_1⟩ (harg3.unread x0) = lanes x0 6 := readAt_lanes harg3 x0 6
      have e7 : View.readAt (Elt F) arg3.view ⟨![7, 0], S512x128.size, ![8, 1], inb_S4096x128_S512x128_7_0_s_8_1⟩ (harg3.unread x0) = lanes x0 7 := readAt_lanes harg3 x0 7
      rw [e0, e1, e2, e3, e4, e5, e6, e7, readAt_whole harg4 _ zero3, readAt_whole harg5 _ zero3, readAt_whole harg6 _ zero3, readAt_whole harg7 _ zero3]
      exact lanes_written arg8.view f5 (tokens x0 x1 x2 x3 x4) (group (hidden x0 x1 x2) x3 x4) (group_eq (hidden x0 x1 x2) x3 x4)
    · have k0_h2 : k0_cond2 i (active T1) = 1#1 := (cond_not i _).2 k0_h1
      sl_exec! (disch := first | (guard_target = ¬(k0_cond1 _ _ = _); exact k0_h1) | (guard_target = k0_cond2 _ _ = _; exact k0_h2))
      sl_step
      iapply Hk
      isplitl [H0]
      · iexists _; isplitr; · ipureintro; exact harg3.read_unread _
        iexact H0
      isplitl [H1]
      · iexists _; isplitr; · ipureintro; exact harg4.read_unread _
        iexact H1
      isplitl [H2]
      · iexists _; isplitr; · ipureintro; exact harg5.read_unread _
        iexact H2
      isplitl [H3]
      · iexists _; isplitr; · ipureintro; exact harg6.read_unread _
        iexact H3
      isplitl [H4]
      · iexists _; isplitr; · ipureintro; exact harg7.read_unread _
        iexact H4
      isplitl [HT0]; · iexact HT0
      isplitl [HT1]; · iexact HT1
      iexists _; isplitr; swap; · iexact H5
      ipureintro
      unfold outBlk
      rw [if_neg k0_h1]
      rw [View.read_writes_eq_canon]
      · exact View.canon_unit_zero (S := S4096x128) (funext fun a => by fin_cases a <;> rfl) _ _
      · intro y
        exact ⟨_, List.mem_cons_self .., View.mem_set_unit_zero (S := S4096x128) (funext fun a => by fin_cases a <;> rfl) inb_S4096x128_S4096x128_0_0 y⟩

end Cert.Kernel2Ideal.Experts

end
-- ==== Proof.ExFrame.lean ====
/- The experts call as a whole: what it leaves in every array, from any memory whose table of experts names experts. -/
module

public import proofs.«01_k».proof.Proof.ExRun
public import proofs.«01_k».proof.Proof.Gen.Kernel2Ideal.Launch

@[expose] public section

set_option maxRecDepth 16384

noncomputable section

namespace Cert.Kernel2Ideal.Experts

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Gen

variable {F : FTy → Type} [FloatOps F]

local notation "𝕄" => MT nD τ sig Unit (Elt F) ℕ (UR sig nD τ) ℕ

/-- The proof's resource algebra: the rounds library's, for the pipeline's staging cells, embedded whole. -/
abbrev EP : Emb (UR sig nD τ) 𝕄 := emb₁

variable (T0 : S672.Idx → Elt F .i32) (T1 : S1.Idx → Elt F .i32) (hr : ∀ x, BitVec.toNat (T0 x) < 32)

set_option backward.proofsInPublic true in
/-- The tables as the pipeline takes them. -/
def tables : pre0.Contents (Elt F) := fun | ⟨0, _⟩ => T0 | ⟨1, _⟩ => T1 | ⟨_ + 2, h⟩ => absurd h (by simp)

/-- A window's blocks inside its array, entry by entry. -/
theorem inb_cons {n x lo hi : ℕ} {f g h : Fin n → ℕ} (h0 : (x + 1) * lo ≤ hi) (hr : ∀ a, (f a + 1) * g a ≤ h a) :
    ∀ a : Fin (n + 1), (Matrix.vecCons x f a + 1) * Matrix.vecCons lo g a ≤ Matrix.vecCons hi h a := by
  refine Fin.cases ?_ ?_
  · simpa only [Matrix.cons_val_zero] using h0
  · intro a; simpa only [Matrix.cons_val_succ] using hr a

/-- The expert of a block, as the index maps read it. -/
def expert (i : grid0.Coords) : BitVec 32 := (tables (F := F) T0 T1).at 0 (Rect.unit (s := S672) (k0_off1 i) S1.size (k0_off1_inb i)) numel1_S1

include hr in
theorem expert_lt (i : grid0.Coords) : (expert (F := F) T0 T1 i).toNat < 32 := hr _

theorem transform_1_eq (i : grid0.Coords) : cc0_transform_1 k0_off1_inb numel1_S1 (tables (F := F) T0 T1) i = ![(expert (F := F) T0 T1 i).toNat, 0, 0] := rfl
theorem transform_2_eq (i : grid0.Coords) : cc0_transform_2 k0_off1_inb numel1_S1 (tables (F := F) T0 T1) i = ![(expert (F := F) T0 T1 i).toNat, 0, 0] := rfl
theorem transform_3_eq (i : grid0.Coords) : cc0_transform_3 k0_off1_inb numel1_S1 (tables (F := F) T0 T1) i = ![(expert (F := F) T0 T1 i).toNat, 0, 0] := rfl
theorem transform_4_eq (i : grid0.Coords) : cc0_transform_4 k0_off1_inb numel1_S1 (tables (F := F) T0 T1) i = ![(expert (F := F) T0 T1 i).toNat, 0, 0] := rfl

theorem block_inb {e : ℕ} (he : e < 32) (n k : ℕ) : ∀ a, ((![e, 0, 0] : Fin 3 → ℕ) a + 1) * (![1, n, k] : Fin 3 → ℕ) a ≤ (![32, n, k] : Fin 3 → ℕ) a := by
  intro a
  match a with
  | ⟨0, _⟩ => show (e + 1) * 1 ≤ 32; omega
  | ⟨1, _⟩ => show (0 + 1) * n ≤ n; omega
  | ⟨2, _⟩ => show (0 + 1) * k ≤ k; omega

include hr in
/-- Every block lies inside its array. -/
theorem ok : ok0 (tables (F := F) T0 T1) := by
  refine ⟨fun i => ⟨?_, .inr (Affine.block_words_dvd (s := S32x1024x2048) (p := EltTy.packing .bf16) (by decide) (by decide))⟩,
    fun i => ⟨?_, .inl rfl⟩, fun i => ⟨?_, .inr (Affine.block_words_dvd (s := S32x1024x1024) (p := EltTy.packing .bf16) (by decide) (by decide))⟩, fun i => ⟨?_, .inl rfl⟩⟩
  · rw [transform_1_eq]; exact block_inb (expert_lt (F := F) T0 T1 hr i) 1024 2048
  · rw [transform_2_eq]; exact block_inb (expert_lt (F := F) T0 T1 hr i) 1 2048
  · rw [transform_3_eq]; exact block_inb (expert_lt (F := F) T0 T1 hr i) 1024 1024
  · rw [transform_4_eq]; exact block_inb (expert_lt (F := F) T0 T1 hr i) 1 1024

def adm : (pcfg0 (F := F)).Adm := ⟨tables T0 T1, ok T0 T1 hr⟩
abbrev cfgA : Pipeline.Cfg sig Λ₀ := cfg0 (F := F) (adm T0 T1 hr)
abbrev pcs : Fin 1 → Pipeline.Cfg sig Λ₀ := Pipeline.pin (pcfgs (F := F)) fun _ => adm T0 T1 hr

variable (m : (ℓ : Loc nD τ sig) → Buf (Elt F) ℓ) (ρ : Dev nD → PrngReg)

/-- The launch memory holds the tables. -/
def Holds : Prop :=
  (∀ c : Dev nD, m ((c : Thread nD τ).loc main_arg0) = T0) ∧ (∀ c : Dev nD, m ((c : Thread nD τ).loc main_arg1) = T1)

/-- The memory at launch. -/
abbrev start : MemSt nD τ sig (Elt F) := ⟨m, fun _ => 0, ρ⟩

abbrev crd (t : Fin (cfgA T0 T1 hr).N) : (cfgA T0 T1 hr).grid.Coords := (cfgA T0 T1 hr).grid.coords t

abbrev ms0_0 (t : Fin (cfgA T0 T1 hr).N) : Memref sig .tc .vmem S4096x128 .f32 := spec0_0.stage ((cfgA T0 T1 hr).slots t (0 : Fin 6))
abbrev hs0_0 (t : Fin (cfgA T0 T1 hr).N) : (ms0_0 T0 T1 hr t).IsWhole := hstage0_0 (((cfgA T0 T1 hr).slots t (0 : Fin 6)).cast nbuf0_0)
abbrev ms0_1 (t : Fin (cfgA T0 T1 hr).N) : Memref sig .tc .vmem S1x1024x2048 .bf16 := spec0_1.stage ((cfgA T0 T1 hr).slots t (1 : Fin 6))
abbrev hs0_1 (t : Fin (cfgA T0 T1 hr).N) : (ms0_1 T0 T1 hr t).IsWhole := hstage0_1 (((cfgA T0 T1 hr).slots t (1 : Fin 6)).cast nbuf0_1)
abbrev ms0_2 (t : Fin (cfgA T0 T1 hr).N) : Memref sig .tc .vmem S1x1x2048 .f32 := spec0_2.stage ((cfgA T0 T1 hr).slots t (2 : Fin 6))
abbrev hs0_2 (t : Fin (cfgA T0 T1 hr).N) : (ms0_2 T0 T1 hr t).IsWhole := hstage0_2 (((cfgA T0 T1 hr).slots t (2 : Fin 6)).cast nbuf0_2)
abbrev ms0_3 (t : Fin (cfgA T0 T1 hr).N) : Memref sig .tc .vmem S1x1024x1024 .bf16 := spec0_3.stage ((cfgA T0 T1 hr).slots t (3 : Fin 6))
abbrev hs0_3 (t : Fin (cfgA T0 T1 hr).N) : (ms0_3 T0 T1 hr t).IsWhole := hstage0_3 (((cfgA T0 T1 hr).slots t (3 : Fin 6)).cast nbuf0_3)
abbrev ms0_4 (t : Fin (cfgA T0 T1 hr).N) : Memref sig .tc .vmem S1x1x1024 .f32 := spec0_4.stage ((cfgA T0 T1 hr).slots t (4 : Fin 6))
abbrev hs0_4 (t : Fin (cfgA T0 T1 hr).N) : (ms0_4 T0 T1 hr t).IsWhole := hstage0_4 (((cfgA T0 T1 hr).slots t (4 : Fin 6)).cast nbuf0_4)
abbrev ms0_5 (t : Fin (cfgA T0 T1 hr).N) : Memref sig .tc .vmem S4096x128 .f32 := spec0_5.stage ((cfgA T0 T1 hr).slots t (5 : Fin 6))
abbrev hs0_5 (t : Fin (cfgA T0 T1 hr).N) : (ms0_5 T0 T1 hr t).IsWhole := hstage0_5 (((cfgA T0 T1 hr).slots t (5 : Fin 6)).cast nbuf0_5)

/-- Window `w`'s block at point `t`, read off its array at launch. -/
def iblk (c : Dev nD) (w : Fin (cfgA T0 T1 hr).W) (t : Fin (cfgA T0 T1 hr).N) : (((cfgA T0 T1 hr).win w).xblock (crd T0 T1 hr t)).Idx → Elt F ((cfgA T0 T1 hr).win w).elt :=
  (((cfgA T0 T1 hr).win w).blk t).view.read (Elt F) (m (((cfgA T0 T1 hr).win w).arr.view.loc (c : Thread nD τ)))

theorem never_idle (i : grid0.Coords) (n : BitVec 32) : (!(k0_cond1 i n == 1#1) && !(k0_cond2 i n == 1#1)) = false := by
  by_cases h : k0_cond1 i n = 1#1
  · rw [h]; rfl
  · rw [(cond_not i n).2 h, beq_self_eq_true, Bool.not_true, Bool.and_false]

/-- No point leaves the output alone. -/
theorem idle_5 (t : Fin (cfgA T0 T1 hr).N) : (cfgA T0 T1 hr).idle (5 : Fin 6) ((cfgA T0 T1 hr).grid.coords t) = false := by
  exact never_idle _ _

/-- The body's halves of the tables. -/
def Phi (c : Dev nD) : sProp 𝕄 :=
  iprop((tbM0_0.view.loc (c : Thread nD τ) ↦{fullShare.right} (T0 : S672.Idx → Elt F .i32)) ∗ (tbM0_1.view.loc (c : Thread nD τ) ↦{fullShare.right} (T1 : S1.Idx → Elt F .i32)))

/-- The proof data of the one pipeline on core `c`. -/
def dats (_ : Fin 1) (c : Dev nD) : Dat τ (Elt F) Unit ℕ (UR sig nD τ) ℕ (cfgA T0 T1 hr) c where
  A w := m (((cfgA T0 T1 hr).win w).arr.view.loc (c : Thread nD τ))
  after w t := match w with
    | ⟨0, _⟩ => iblk T0 T1 hr m c (0 : Fin 6) t
    | ⟨1, _⟩ => iblk T0 T1 hr m c (1 : Fin 6) t
    | ⟨2, _⟩ => iblk T0 T1 hr m c (2 : Fin 6) t
    | ⟨3, _⟩ => iblk T0 T1 hr m c (3 : Fin 6) t
    | ⟨4, _⟩ => iblk T0 T1 hr m c (4 : Fin 6) t
    | ⟨5, _⟩ => outBlk (crd T0 T1 hr t) T1 (iblk T0 T1 hr m c (0 : Fin 6) t) (iblk T0 T1 hr m c (1 : Fin 6) t) (iblk T0 T1 hr m c (2 : Fin 6) t) (iblk T0 T1 hr m c (3 : Fin 6) t) (iblk T0 T1 hr m c (4 : Fin 6) t)
  Φ _ := Phi T0 T1 c
  q _ := fullShare
  owed _ := 0

theorem after0_0 (c : Dev nD) (t : Fin (cfgA T0 T1 hr).N) : (dats T0 T1 hr m 0 c).after (0 : Fin 6) t = iblk T0 T1 hr m c (0 : Fin 6) t := rfl
theorem after0_1 (c : Dev nD) (t : Fin (cfgA T0 T1 hr).N) : (dats T0 T1 hr m 0 c).after (1 : Fin 6) t = iblk T0 T1 hr m c (1 : Fin 6) t := rfl
theorem after0_2 (c : Dev nD) (t : Fin (cfgA T0 T1 hr).N) : (dats T0 T1 hr m 0 c).after (2 : Fin 6) t = iblk T0 T1 hr m c (2 : Fin 6) t := rfl
theorem after0_3 (c : Dev nD) (t : Fin (cfgA T0 T1 hr).N) : (dats T0 T1 hr m 0 c).after (3 : Fin 6) t = iblk T0 T1 hr m c (3 : Fin 6) t := rfl
theorem after0_4 (c : Dev nD) (t : Fin (cfgA T0 T1 hr).N) : (dats T0 T1 hr m 0 c).after (4 : Fin 6) t = iblk T0 T1 hr m c (4 : Fin 6) t := rfl
theorem after0_5 (c : Dev nD) (t : Fin (cfgA T0 T1 hr).N) : (dats T0 T1 hr m 0 c).after (5 : Fin 6) t = outBlk (crd T0 T1 hr t) T1 (iblk T0 T1 hr m c (0 : Fin 6) t) (iblk T0 T1 hr m c (1 : Fin 6) t) (iblk T0 T1 hr m c (2 : Fin 6) t) (iblk T0 T1 hr m c (3 : Fin 6) t) (iblk T0 T1 hr m c (4 : Fin 6) t) := rfl

theorem before0_0 (c : Dev nD) (t : Fin (cfgA T0 T1 hr).N) (d) : (dats T0 T1 hr m 0 c).before (0 : Fin 6) t d = iblk T0 T1 hr m c (0 : Fin 6) t :=
  ((dats T0 T1 hr m 0 c).before_in_eq_fetched (0 : Fin 6) rfl (fun _ => rfl) (fun _ _ _ => rfl) (fun t => by rw [after0_0]; unfold Dat.blockOf iblk; rfl) t d).trans
    (by unfold Dat.fetched Dat.blockOf iblk; rfl)
theorem before0_1 (c : Dev nD) (t : Fin (cfgA T0 T1 hr).N) (d) : (dats T0 T1 hr m 0 c).before (1 : Fin 6) t d = iblk T0 T1 hr m c (1 : Fin 6) t :=
  ((dats T0 T1 hr m 0 c).before_in_eq_fetched (1 : Fin 6) rfl (fun _ => rfl) (fun _ _ _ => rfl) (fun t => by rw [after0_1]; unfold Dat.blockOf iblk; rfl) t d).trans
    (by unfold Dat.fetched Dat.blockOf iblk; rfl)
theorem before0_2 (c : Dev nD) (t : Fin (cfgA T0 T1 hr).N) (d) : (dats T0 T1 hr m 0 c).before (2 : Fin 6) t d = iblk T0 T1 hr m c (2 : Fin 6) t :=
  ((dats T0 T1 hr m 0 c).before_in_eq_fetched (2 : Fin 6) rfl (fun _ => rfl) (fun _ _ _ => rfl) (fun t => by rw [after0_2]; unfold Dat.blockOf iblk; rfl) t d).trans
    (by unfold Dat.fetched Dat.blockOf iblk; rfl)
theorem before0_3 (c : Dev nD) (t : Fin (cfgA T0 T1 hr).N) (d) : (dats T0 T1 hr m 0 c).before (3 : Fin 6) t d = iblk T0 T1 hr m c (3 : Fin 6) t :=
  ((dats T0 T1 hr m 0 c).before_in_eq_fetched (3 : Fin 6) rfl (fun _ => rfl) (fun _ _ _ => rfl) (fun t => by rw [after0_3]; unfold Dat.blockOf iblk; rfl) t d).trans
    (by unfold Dat.fetched Dat.blockOf iblk; rfl)
theorem before0_4 (c : Dev nD) (t : Fin (cfgA T0 T1 hr).N) (d) : (dats T0 T1 hr m 0 c).before (4 : Fin 6) t d = iblk T0 T1 hr m c (4 : Fin 6) t :=
  ((dats T0 T1 hr m 0 c).before_in_eq_fetched (4 : Fin 6) rfl (fun _ => rfl) (fun _ _ _ => rfl) (fun t => by rw [after0_4]; unfold Dat.blockOf iblk; rfl) t d).trans
    (by unfold Dat.fetched Dat.blockOf iblk; rfl)

abbrev bodyAt0 (t : Fin (cfgA T0 T1 hr).N) : Prog (TpuEff nD τ sig (Elt F) Λ₀ .tc) PUnit :=
  cc0_moe_experts (crd T0 T1 hr t) (Memref.whole main_arg0) (Memref.isWhole_whole _) (Memref.whole main_arg1) (Memref.isWhole_whole _) (ms0_0 T0 T1 hr t) (hs0_0 T0 T1 hr t) (ms0_1 T0 T1 hr t) (hs0_1 T0 T1 hr t) (ms0_2 T0 T1 hr t) (hs0_2 T0 T1 hr t) (ms0_3 T0 T1 hr t) (hs0_3 T0 T1 hr t) (ms0_4 T0 T1 hr t) (hs0_4 T0 T1 hr t) (ms0_5 T0 T1 hr t) (hs0_5 T0 T1 hr t)

/-- The body at any point. -/
theorem sound_body (c : Dev nD) (t : Fin (cfgA T0 T1 hr).N) :
    iprop((dats T0 T1 hr m 0 c).Φ t.castSucc ∗ (dats T0 T1 hr m 0 c).owesAt () t.castSucc
        ∗ (∃ d, owns (c : Thread nD τ) (ms0_0 T0 T1 hr t) fullShare ((dats T0 T1 hr m 0 c).before (0 : Fin 6) t d))
        ∗ (∃ d, owns (c : Thread nD τ) (ms0_1 T0 T1 hr t) fullShare ((dats T0 T1 hr m 0 c).before (1 : Fin 6) t d))
        ∗ (∃ d, owns (c : Thread nD τ) (ms0_2 T0 T1 hr t) fullShare ((dats T0 T1 hr m 0 c).before (2 : Fin 6) t d))
        ∗ (∃ d, owns (c : Thread nD τ) (ms0_3 T0 T1 hr t) fullShare ((dats T0 T1 hr m 0 c).before (3 : Fin 6) t d))
        ∗ (∃ d, owns (c : Thread nD τ) (ms0_4 T0 T1 hr t) fullShare ((dats T0 T1 hr m 0 c).before (4 : Fin 6) t d))
        ∗ (∃ d, owns (c : Thread nD τ) (ms0_5 T0 T1 hr t) fullShare ((dats T0 T1 hr m 0 c).before (5 : Fin 6) t d)))
      ⊢ wp frame (wpE (defs₀ (F := F)) Variants.none c none) Set.univ (bodyAt0 T0 T1 hr t) fun _ =>
          iprop((dats T0 T1 hr m 0 c).Φ t.succ ∗ (dats T0 T1 hr m 0 c).owesAt () t.succ
            ∗ bigSep Finset.univ fun w : Fin (cfgA T0 T1 hr).W =>
                match (cfgA T0 T1 hr).idle w ((cfgA T0 T1 hr).grid.coords t) with
                | true =>
                  match ((cfgA T0 T1 hr).win w).flush t with
                  | false => iprop(∃ d, owns (c : Thread nD τ) (((cfgA T0 T1 hr).win w).stage ((cfgA T0 T1 hr).slots t w)) fullShare ((dats T0 T1 hr m 0 c).before w t d))
                  | true => owns (c : Thread nD τ) (((cfgA T0 T1 hr).win w).stage ((cfgA T0 T1 hr).slots t w)) fullShare ((dats T0 T1 hr m 0 c).after w t)
                | false => owns (c : Thread nD τ) (((cfgA T0 T1 hr).win w).stage ((cfgA T0 T1 hr).slots t w)) fullShare ((dats T0 T1 hr m 0 c).after w t)) := by
  rw [bigSep_W0]
  have i5 := idle_5 (F := F) T0 T1 hr t
  rewrite [i5]
  simp only [before0_0, before0_1, before0_2, before0_3, before0_4, after0_0, after0_1, after0_2, after0_3, after0_4, after0_5]
  rewrite [show (dats T0 T1 hr m 0 c).Φ t.succ = Phi T0 T1 c from rfl, show (dats T0 T1 hr m 0 c).Φ t.castSucc = Phi T0 T1 c from rfl,
    show (dats T0 T1 hr m 0 c).owesAt () t.succ = (dats T0 T1 hr m 0 c).owesAt () t.castSucc from rfl]
  unfold Phi
  iintro ⟨⟨HT0, HT1⟩, Ho, ⟨%d0, H0⟩, ⟨%d1, H1⟩, ⟨%d2, H2⟩, ⟨%d3, H3⟩, ⟨%d4, H4⟩, ⟨%d5, H5⟩⟩
  iapply ((run c (crd T0 T1 hr t) (ms0_0 T0 T1 hr t) (hs0_0 T0 T1 hr t) (ms0_1 T0 T1 hr t) (hs0_1 T0 T1 hr t) (ms0_2 T0 T1 hr t) (hs0_2 T0 T1 hr t) (ms0_3 T0 T1 hr t) (hs0_3 T0 T1 hr t) (ms0_4 T0 T1 hr t) (hs0_4 T0 T1 hr t) (ms0_5 T0 T1 hr t) (hs0_5 T0 T1 hr t) T0 T1 (iblk T0 T1 hr m c (0 : Fin 6) t) (iblk T0 T1 hr m c (1 : Fin 6) t) (iblk T0 T1 hr m c (2 : Fin 6) t) (iblk T0 T1 hr m c (3 : Fin 6) t) (iblk T0 T1 hr m c (4 : Fin 6) t)) _)
  isplitl [H0]; · iexact H0
  isplitl [H1]; · iexact H1
  isplitl [H2]; · iexact H2
  isplitl [H3]; · iexact H3
  isplitl [H4]; · iexact H4
  isplitl [HT0]; · iexact HT0
  isplitl [HT1]; · iexact HT1
  isplitl [H5]; · iexists _; iexact H5
  iintro ⟨H0, H1, H2, H3, H4, HT0, HT1, H5⟩
  isplitl [HT0 HT1]
  · isplitl [HT0]
    · iexact HT0
    iexact HT1
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation (c : Dev nD) : BodyObligation (dats T0 T1 hr m 0 c) (defs₀ (F := F)) Variants.none () Set.univ := fun t => by
  rw [bigSep_W0]
  exact sound_body T0 T1 hr m c t

/-- The rounds library's launch element. -/
def u₀ : UR sig nD τ :=
  initOf (Pipeline.cells (pcs (F := F) T0 T1 hr) ((launch0 (F := F)).cellOf_inj fun _ => adm T0 T1 hr))
    (Pipeline.launchToks (pcs (F := F) T0 T1 hr) ((launch0 (F := F)).cellOf_inj fun _ => adm T0 T1 hr))

theorem share_eq (c : Dev nD) (w : Fin (cfgA T0 T1 hr).W) : (dats T0 T1 hr m 0 c).share w = fullShare := by unfold Dat.share; split <;> rfl

/-- The tables as the launch hands them to the region, one by one. -/
theorem prefHeld_eq (c : Dev nD) (q : Fin 2 → PosShare TreeShare) (v : pre0.Contents (Elt F)) :
    (Pipeline.prefHeld (Ix := Unit) (Name := ℕ) (U := UR sig nD τ) (Lvl := ℕ) pre0 c q v : sProp 𝕄)
      = iprop((((c : Thread nD τ).loc main_arg0) ↦{q 0} v 0) ∗ (((c : Thread nD τ).loc main_arg1) ↦{q 1} v 1)) := by
  unfold Pipeline.prefHeld
  rw [show (Finset.univ : Finset (Fin 2)) = insert (0 : Fin 2) {(1 : Fin 2)} from by decide,
    bigSep_insert (by decide), bigSep_singleton]
  rfl

/-- The invariant at the first point, from the tables; -/
theorem phi_intro (c : Dev nD) :
    iprop(BI.emp ∗ Pipeline.prefHeld pre0 c (fun _ => fullShare.right) (adm T0 T1 hr).1 ∗ Pipeline.scopedRest spec0 c) ⊢ (dats T0 T1 hr m 0 c).Φ 0 := by
  rw [prefHeld_eq, scopedRest0_eq, show (dats T0 T1 hr m 0 c).Φ 0 = Phi T0 T1 c from rfl]
  unfold Phi
  iintro ⟨-, ⟨HT0, HT1⟩, -⟩
  isplitl [HT0]
  · iexact HT0
  iexact HT1

/-- and at the last point it is let go. -/
theorem phi_exit (c : Dev nD) : (dats T0 T1 hr m 0 c).Φ (Fin.last (cfgA T0 T1 hr).N) ⊢ iprop(BI.emp ∗ Pipeline.scopedRest spec0 c) := by
  rw [scopedRest0_eq, show (dats T0 T1 hr m 0 c).Φ (Fin.last (cfgA T0 T1 hr).N) = Phi T0 T1 c from rfl]
  unfold Phi
  iintro ⟨-, -⟩
  isplitr; · iempintro
  iempintro

/-- Every array at what the grid leaves there, every table as it was. -/
def Final : PUnit × MemSt nD τ sig (Elt F) → Prop := fun r =>
  ∀ c : Dev nD, (∀ w : Fin (cfgA T0 T1 hr).W, r.2.mem (((cfgA T0 T1 hr).win w).arr.view.loc (c : Thread nD τ)) = (dats T0 T1 hr m 0 c).arrAt w (cfgA T0 T1 hr).N)
    ∧ ∀ j, r.2.mem ((c : Thread nD τ).loc (pre0.ref j)) = (adm T0 T1 hr).1 j

theorem tables_held (hp : Holds T0 T1 m) (c : Dev nD) (j : Fin 2) : m ((c : Thread nD τ).loc (pre0.ref j)) = (adm T0 T1 hr).1 j := by
  fin_cases j
  · exact hp.1 c
  · exact hp.2 c

/-- The launch: the arrays after the grid, and every counter at zero. -/
theorem run_main_quiescent (hp : Holds T0 T1 m) : θ_run (defs (F := F)) (onTc (τ := τ) (main (F := F))) (start m ρ) (fun r => Final T0 T1 hr m r ∧ r.2.sem = fun _ => 0) :=
  Pipeline.θ_run_region_noSem_pf_quiescent pcfgs (fun _ => adm T0 T1 hr) (dats T0 T1 hr m) () ((launch0 (F := F)).cellOf_inj fun _ => adm T0 T1 hr) (0 : Fin 1)
    (launch0 (F := F)).win.to₀ (launch0 (F := F)).pre EP defs₀ Variants.none m ρ main
    (hbody := fun c => (body_obligation T0 T1 hr m c).loose) (hne := (launch0 (F := F)).block_pos)
    (harr := (launch0 (F := F)).arr_whole) (hstage := (launch0 (F := F)).stage_whole) (howed := fun _ _ => rfl)
    (u₀ := u₀ (F := F) T0 T1 hr) (hu₀ := .rfl)
    (V := fun c b => m ((c : Thread nD τ).loc b))
    (hmain := fun c Q => by
      delta main; simp only [Prog.bind_lift, Prog.pure_eq_ret]
      iintro ⟨Hk, Hb⟩; iapply Hk; iexact Hb)
    (hsplit := fun c => Pipeline.arrays_split (pcs T0 T1 hr) (dats T0 T1 hr m) 0 (launch0 (F := F)).win.arr_inj c (launch0 (F := F)).arr_whole
      (share_eq T0 T1 hr m c) _ _ fun _ => rfl)
    (hpf := tables_held T0 T1 hr m hp)
    (X := fun _ => iprop(emp)) (Y := fun _ => iprop(emp)) (Z := fun _ => iprop(emp))
    (hX := fun c => by rw [unscopedRestP0_eq]; iintro -; isplitr <;> iempintro)
    (hin := phi_intro T0 T1 hr m)
    (hout := phi_exit T0 T1 hr m)
    (QY := fun _ _ => True)
    (hY := fun c s' => by
      iintro ⟨-, -, HSI⟩; imodintro
      isplitr; · ipureintro; trivial
      iexact HSI)
    (hQ := fun _ h hz => ⟨fun c => ⟨(h c).1, (h c).2.1⟩, hz⟩)

include hr in
/-- The arguments end unchanged, and every counter at zero. -/
theorem frame (hp : Holds T0 T1 m) :
    θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run defs _ _).mono (fun _ h => ⟨fun c => ⟨((h.1 c).2 0).trans (hp.1 c).symm, ((h.1 c).2 1).trans (hp.2 c).symm, ((h.1 c).1 (0 : Fin 6)).trans ((dats T0 T1 hr m 0 c).arrAt_in (0 : Fin 6) rfl _), ((h.1 c).1 (1 : Fin 6)).trans ((dats T0 T1 hr m 0 c).arrAt_in (1 : Fin 6) rfl _), ((h.1 c).1 (2 : Fin 6)).trans ((dats T0 T1 hr m 0 c).arrAt_in (2 : Fin 6) rfl _), ((h.1 c).1 (3 : Fin 6)).trans ((dats T0 T1 hr m 0 c).arrAt_in (3 : Fin 6) rfl _), ((h.1 c).1 (4 : Fin 6)).trans ((dats T0 T1 hr m 0 c).arrAt_in (4 : Fin 6) rfl _)⟩, h.2⟩) (run_main_quiescent T0 T1 hr m ρ hp)

end Cert.Kernel2Ideal.Experts

end
-- ==== Proof.ExSpec.lean ====
/-
A layer of experts over blocks of 512 tokens: each block names its expert, and the expert's two matrices and biases make a
gated feed-forward layer of each token of the block. A token's 1024 features lie in eight rows of 128 lanes.
-/
module

public import Idealize.ShloMosaic.Lib.IdealHost
public import Idealize.ShloMosaic.Lib.Pointwise

@[expose] public section

open Idealize Idealize.ShloMosaic

namespace Cert.Experts

/-- The tokens of all blocks, eight rows to a token. -/
abbrev Rows : Shape := ⟨2, ![2752512, 128]⟩
/-- The experts' first matrices and biases: gates in the first half of the columns, the values they gate in the second. -/
abbrev Up : Shape := ⟨3, ![32, 1024, 2048]⟩
abbrev UpBias : Shape := ⟨3, ![32, 1, 2048]⟩
/-- The experts' second matrices and biases. -/
abbrev Down : Shape := ⟨3, ![32, 1024, 1024]⟩
abbrev DownBias : Shape := ⟨3, ![32, 1, 1024]⟩
/-- Each block's expert, and the number of blocks in use. -/
abbrev Blocks : Shape := ⟨1, ![672]⟩
abbrev InUse : Shape := ⟨1, ![1]⟩

/-- Feature `k` of token `t` of block `b`. -/
def feature (X : Rows.Idx → EReal) (b : Fin 672) (t : Fin 512) (k : Fin 1024) : EReal :=
  X (ix2 ⟨(b.val * 512 + t.val) * 8 + k.val / 128, by omega⟩ ⟨k.val % 128, Nat.mod_lt _ (by decide)⟩)

/-- The gated value: the gate at most 7, times its logistic at slope 1.702, times the value between −7 and 7 plus one. -/
noncomputable def gated (g u : EReal) : EReal :=
  (min (Ideal.ofBits .f32 0x40E00000#32) (max (Ideal.ofBits .f32 0xC0E00000#32) u) + Ideal.ofBits .f32 0x3F800000#32)
    * (min g (Ideal.ofBits .f32 0x40E00000#32) * Ideal.logistic (min g (Ideal.ofBits .f32 0x40E00000#32) * Ideal.ofBits .f32 0x3FD9DB23#32))

/-- The first product, column `n`, of a token's features `x` by the matrix `w`. -/
noncomputable def first (x : Fin 1024 → EReal) (w : Fin 1024 → Fin 2048 → EReal) (b : Fin 2048 → EReal) (n : Fin 2048) : EReal :=
  (∑ k, x k * w k n) + b n

/-- The hidden layer: each gate with the value 1024 columns on. -/
noncomputable def layer (x : Fin 1024 → EReal) (w : Fin 1024 → Fin 2048 → EReal) (b : Fin 2048 → EReal) (f : Fin 1024) : EReal :=
  gated (first x w b ⟨f.val, by omega⟩) (first x w b ⟨1024 + f.val, by omega⟩)

/-- The second product, column `n`. -/
noncomputable def second (h : Fin 1024 → EReal) (w : Fin 1024 → Fin 1024 → EReal) (b : Fin 1024 → EReal) (n : Fin 1024) : EReal :=
  (∑ k, h k * w k n) + b n

/-- The expert of block `b`. -/
def expertOf (T : Blocks.Idx → BitVec 32) (b : Fin 672) : Fin 32 := ⟨min (T (ix1 b)).toInt.toNat 31, by omega⟩

/-- Whether block `b` is in use. -/
def used (A : InUse.Idx → BitVec 32) (b : Fin 672) : Prop := IntOp.cmpi .slt (BitVec.ofNat 32 b.val) (A (ix1 0)) = 1#1

instance (A : InUse.Idx → BitVec 32) (b : Fin 672) : Decidable (used A b) := inferInstanceAs (Decidable (_ = _))

/-- Output feature `n` of token `t` of block `b`: its expert's layer, and zero where the block is not in use. -/
noncomputable def output (T : Blocks.Idx → BitVec 32) (A : InUse.Idx → BitVec 32) (X : Rows.Idx → EReal) (W₁ : Up.Idx → EReal) (B₁ : UpBias.Idx → EReal)
    (W₂ : Down.Idx → EReal) (B₂ : DownBias.Idx → EReal) (b : Fin 672) (t : Fin 512) (n : Fin 1024) : EReal :=
  if used A b then
    second (layer (feature X b t) (fun k n => W₁ (ix3 (expertOf T b) k n)) fun n => B₁ (ix3 (expertOf T b) 0 n))
      (fun k n => W₂ (ix3 (expertOf T b) k n)) (fun n => B₂ (ix3 (expertOf T b) 0 n)) n
  else Ideal.ofBits .f32 0x00000000#32

/-- The output as rows of 128 lanes. -/
noncomputable def result (T : Blocks.Idx → BitVec 32) (A : InUse.Idx → BitVec 32) (X : Rows.Idx → EReal) (W₁ : Up.Idx → EReal) (B₁ : UpBias.Idx → EReal)
    (W₂ : Down.Idx → EReal) (B₂ : DownBias.Idx → EReal) (y : Rows.Idx) : EReal :=
  output T A X W₁ B₁ W₂ B₂ ⟨(y 0).val / 4096, by have h : (y 0).val < 2752512 := (y 0).isLt; omega⟩
    ⟨(y 0).val % 4096 / 8, by omega⟩ ⟨(y 0).val % 8 * 128 + (y 1).val, by have h : (y 1).val < 128 := (y 1).isLt; omega⟩

end Cert.Experts

end
-- ==== Proof.ExBody.lean ====
/- The value of one block of the experts call over the reals. -/
module

public import proofs.«01_k».proof.Proof.ExRun
public import proofs.«01_k».proof.Proof.ExSpec
public import Idealize.ShloMosaic.Lib.Pipeline.ValueKit

@[expose] public section

open Idealize Idealize.ShloMosaic Cert.Experts
namespace Cert.Kernel2Ideal.Experts
open Cert.Kernel2Ideal Cert.Kernel2Ideal.Gen
set_option maxRecDepth 16384

/-- The eight lane groups of a block laid side by side: a token's features in a row. -/
theorem lanes_side (x0 : Vec Ideal S4096x128 .f32) (h) (t : Fin 512) (k : Fin 1024) :
    concatenate S512x1024 1 [⟨S512x128, lanes x0 0⟩, ⟨S512x128, lanes x0 1⟩, ⟨S512x128, lanes x0 2⟩, ⟨S512x128, lanes x0 3⟩, ⟨S512x128, lanes x0 4⟩, ⟨S512x128, lanes x0 5⟩, ⟨S512x128, lanes x0 6⟩, ⟨S512x128, lanes x0 7⟩] h (ix2 t k)
      = x0 (ix2 ⟨t.val * 8 + k.val / 128, by omega⟩ ⟨k.val % 128, Nat.mod_lt _ (by decide)⟩) := by
  refine (concatenate_ofFn_apply (t := S512x1024) (1 : Fin 2) (fun s : Fin 8 => lanes x0 s) h rfl 128 rfl (ix2 t k) ⟨k.val / 128, by omega⟩ rfl
    (ix2 t ⟨k.val % 128, Nat.mod_lt _ (by decide)⟩) rfl (fun b hb => ?_)).trans ?_
  · match b with
    | ⟨0, _⟩ => rfl
    | ⟨1, _⟩ => exact absurd rfl hb
  · refine congrArg x0 (funext fun a => ?_)
    match a with
    | ⟨0, _⟩ => exact Fin.ext (by show k.val / 128 + 8 * t.val = t.val * 8 + k.val / 128; omega)
    | ⟨1, _⟩ => exact Fin.ext (by show 0 + 1 * (k.val % 128) = k.val % 128; omega)

/-- The hidden layer of a block's token. -/
theorem hidden_at (x0 : Vec Ideal S4096x128 .f32) (x1 : Vec Ideal S1x1024x2048 .bf16) (x2 : Vec Ideal S1x1x2048 .f32) (t : Fin 512) (f : Fin 1024) :
    hidden x0 x1 x2 (ix2 t f) = layer (fun k => x0 (ix2 ⟨t.val * 8 + k.val / 128, by omega⟩ ⟨k.val % 128, Nat.mod_lt _ (by decide)⟩))
      (fun k n => x1 (ix3 0 k n)) (fun n => x2 (ix3 0 0 n)) f := by
  have hx := lanes_side x0 concatenates_S512x128_S512x128_S512x128_S512x128_S512x128_S512x128_S512x128_S512x128_S512x1024_d1 t
  unfold hidden k0_pay11 layer first gated
  simp only [← hx]
  generalize concatenate S512x1024 1 [⟨S512x128, lanes x0 0⟩, ⟨S512x128, lanes x0 1⟩, ⟨S512x128, lanes x0 2⟩, ⟨S512x128, lanes x0 3⟩, ⟨S512x128, lanes x0 4⟩, ⟨S512x128, lanes x0 5⟩, ⟨S512x128, lanes x0 6⟩, ⟨S512x128, lanes x0 7⟩] _ = xc
  pointwise

/-- The output layer of a block's token. -/
theorem tokens_at (x0 : Vec Ideal S4096x128 .f32) (x1 : Vec Ideal S1x1024x2048 .bf16) (x2 : Vec Ideal S1x1x2048 .f32) (x3 : Vec Ideal S1x1024x1024 .bf16) (x4 : Vec Ideal S1x1x1024 .f32) (t : Fin 512) (n : Fin 1024) :
    tokens x0 x1 x2 x3 x4 (ix2 t n) = second (layer (fun k => x0 (ix2 ⟨t.val * 8 + k.val / 128, by omega⟩ ⟨k.val % 128, Nat.mod_lt _ (by decide)⟩))
      (fun k n => x1 (ix3 0 k n)) (fun n => x2 (ix3 0 0 n))) (fun k n => x3 (ix3 0 k n)) (fun n => x4 (ix3 0 0 n)) n := by
  have hh := hidden_at x0 x1 x2 t
  unfold tokens k0_pay1 second
  simp only [← hh]
  generalize hidden x0 x1 x2 = hd
  pointwise

end Cert.Kernel2Ideal.Experts

end
-- ==== Proof.ExArray.lean ====
/- The array the experts call leaves: every block's tokens through the block's expert. -/
module

public import proofs.«01_k».proof.Proof.ExFrame
public import proofs.«01_k».proof.Proof.ExBody

@[expose] public section

open Idealize Idealize.ShloMosaic Cert.Experts
namespace Cert.Kernel2Ideal.Experts
open Cert.Kernel2Ideal Cert.Kernel2Ideal.Gen Idealize.ShloMosaic.TcCoe Idealize.ShloMosaic.Tactic
set_option maxRecDepth 16384

variable (T0 : S672.Idx → Elt Ideal .i32) (T1 : S1.Idx → Elt Ideal .i32) (hr : ∀ x, BitVec.toNat (T0 x) < 32)
  (m : (ℓ : Loc nD τ sig) → Buf (Elt Ideal) ℓ) (c : Dev nD)

theorem toNat_eq (x : BitVec 32) (h : x.toNat < 32) : min x.toInt.toNat 31 = x.toNat := by
  have e : x.toInt = x.toNat := by rw [BitVec.toInt_eq_toNat_cond, if_pos (by omega)]
  rw [e, Int.toNat_natCast]
  omega

include hr in
/-- The block of the tables' expert. -/
theorem expert_eq (i : grid0.Coords) : (expert (F := Ideal) T0 T1 i).toNat = (expertOf T0 (i 0)).val := by
  have h : expert (F := Ideal) T0 T1 i = T0 (ix1 (i 0)) := by
    unfold expert
    refine congrArg T0 (funext fun a => ?_)
    match a with
    | ⟨0, _⟩ =>
      refine Fin.ext ?_
      show (BitVec.ofNat 32 (i 0).val).toNat + 1 * 0 = (i 0).val
      have : (i 0).val < 672 := (i 0).isLt
      rw [BitVec.toNat_ofNat]
      omega
  rw [h]
  exact (toNat_eq _ (hr _)).symm

/-- Whether the body finds its block in use. -/
theorem cond_iff (i : grid0.Coords) : k0_cond1 i (active T1) = 1#1 ↔ used T1 (i 0) := by
  have e : active T1 = T1 (ix1 0) := congrArg T1 (funext fun | ⟨0, _⟩ => rfl)
  rw [e]
  unfold used k0_cond1 Scalar.cmpi Scalar.extui
  generalize T1 (ix1 0) = n
  show IntOp.cmpi .ne ((IntOp.cmpi .slt (BitVec.ofNat 32 (i 0).val) n).setWidth 32) 0#32 = 1#1 ↔ IntOp.cmpi .slt (BitVec.ofNat 32 (i 0).val) n = 1#1
  generalize IntOp.cmpi .slt (BitVec.ofNat 32 (i 0).val) n = b
  revert b
  decide

/-! Each input block as a part of the array it is cut from. -/

/-- The block of tokens a point reads and writes is its own. -/
theorem own_eq (i : grid0.Coords) : cc0_transform_0 i = ![(i 0).val, 0] := by
  unfold cc0_transform_0
  have h : (BitVec.ofNat 32 (i 0).val).toNat = (i 0).val := by
    have : (i 0).val < 672 := (i 0).isLt
    rw [BitVec.toNat_ofNat]
    exact Nat.mod_eq_of_lt (by omega)
  simp only [h]
  rfl

theorem index_0 (t : Fin (cfgA T0 T1 hr).N) : ((cfgA T0 T1 hr).win (0 : Fin 6)).index t = ![(crd T0 T1 hr t 0).val, 0] := own_eq _
theorem index_5 (t : Fin (cfgA T0 T1 hr).N) : ((cfgA T0 T1 hr).win (5 : Fin 6)).index t = ![(crd T0 T1 hr t 0).val, 0] := own_eq _

include hr in
/-- A point's blocks of the experts' arrays are its expert's. -/
theorem expert_block (i : grid0.Coords) :
    (![(expert (F := Ideal) T0 T1 i).toNat, 0, 0] : Fin 3 → ℕ) = ![(expertOf T0 (i 0)).val, 0, 0] := by
  rw [expert_eq T0 T1 hr i]

theorem index_1 (t : Fin (cfgA T0 T1 hr).N) : ((cfgA T0 T1 hr).win (1 : Fin 6)).index t = ![(expertOf T0 (crd T0 T1 hr t 0)).val, 0, 0] :=
  (transform_1_eq (F := Ideal) T0 T1 (crd T0 T1 hr t)).trans (expert_block T0 T1 hr (crd T0 T1 hr t))
theorem index_2 (t : Fin (cfgA T0 T1 hr).N) : ((cfgA T0 T1 hr).win (2 : Fin 6)).index t = ![(expertOf T0 (crd T0 T1 hr t 0)).val, 0, 0] :=
  (transform_2_eq (F := Ideal) T0 T1 (crd T0 T1 hr t)).trans (expert_block T0 T1 hr (crd T0 T1 hr t))
theorem index_3 (t : Fin (cfgA T0 T1 hr).N) : ((cfgA T0 T1 hr).win (3 : Fin 6)).index t = ![(expertOf T0 (crd T0 T1 hr t 0)).val, 0, 0] :=
  (transform_3_eq (F := Ideal) T0 T1 (crd T0 T1 hr t)).trans (expert_block T0 T1 hr (crd T0 T1 hr t))
theorem index_4 (t : Fin (cfgA T0 T1 hr).N) : ((cfgA T0 T1 hr).win (4 : Fin 6)).index t = ![(expertOf T0 (crd T0 T1 hr t 0)).val, 0, 0] :=
  (transform_4_eq (F := Ideal) T0 T1 (crd T0 T1 hr t)).trans (expert_block T0 T1 hr (crd T0 T1 hr t))

theorem blk_0 (t : Fin (cfgA T0 T1 hr).N) (y : S4096x128.Idx) : iblk T0 T1 hr m c (0 : Fin 6) t y = m (c.tc.loc main_arg2)
    (ix2 ⟨(crd T0 T1 hr t 0).val * 4096 + (y 0).val, by have h : (crd T0 T1 hr t 0).val < 672 := (crd T0 T1 hr t 0).isLt; have h' : (y 0).val < 4096 := (y 0).isLt; omega⟩ (y 1)) := by
  refine Eq.trans (by blk_simp [iblk]; rfl) (congrArg (m (c.tc.loc main_arg2)) (?_ : (((cfgA T0 T1 hr).win (0 : Fin 6)).blk t).view.emb y = _))
  have e := index_0 T0 T1 hr t
  funext a
  match a with
  | ⟨0, _⟩ => exact Fin.ext (by blk_simp [e] <;> rfl)
  | ⟨1, _⟩ => exact Fin.ext (by blk_simp [e] <;> rfl)
/-- An index of three entries, entry by entry. -/
theorem ix3_of {a b c : ℕ} (z : (⟨3, ![a, b, c]⟩ : Shape).Idx) (e : Fin a) (u : Fin b) (v : Fin c)
    (h0 : (z 0).val = e.val) (h1 : (z 1).val = u.val) (h2 : (z 2).val = v.val) : z = ix3 e u v := by
  funext i
  match i with
  | ⟨0, _⟩ => exact Fin.ext h0
  | ⟨1, _⟩ => exact Fin.ext h1
  | ⟨2, _⟩ => exact Fin.ext h2

theorem blk_1 (t : Fin (cfgA T0 T1 hr).N) (y : S1x1024x2048.Idx) :
    iblk T0 T1 hr m c (1 : Fin 6) t y = m (c.tc.loc main_arg3) (ix3 (expertOf T0 (crd T0 T1 hr t 0)) (y 1) (y 2)) :=
  Eq.trans (by blk_simp [iblk]; rfl) (congrArg (m (c.tc.loc main_arg3)) (ix3_of ((((cfgA T0 T1 hr).win (1 : Fin 6)).blk t).view.emb y) _ _ _
    (by have h : (y 0).val < 1 := (y 0).isLt; blk_simp [index_1 T0 T1 hr t]) (by blk_simp [index_1 T0 T1 hr t] <;> rfl) (by blk_simp [index_1 T0 T1 hr t] <;> rfl)))
theorem blk_2 (t : Fin (cfgA T0 T1 hr).N) (y : S1x1x2048.Idx) :
    iblk T0 T1 hr m c (2 : Fin 6) t y = m (c.tc.loc main_arg4) (ix3 (expertOf T0 (crd T0 T1 hr t 0)) (y 1) (y 2)) :=
  Eq.trans (by blk_simp [iblk]; rfl) (congrArg (m (c.tc.loc main_arg4)) (ix3_of ((((cfgA T0 T1 hr).win (2 : Fin 6)).blk t).view.emb y) _ _ _
    (by have h : (y 0).val < 1 := (y 0).isLt; blk_simp [index_2 T0 T1 hr t]) (by blk_simp [index_2 T0 T1 hr t] <;> rfl) (by blk_simp [index_2 T0 T1 hr t] <;> rfl)))
theorem blk_3 (t : Fin (cfgA T0 T1 hr).N) (y : S1x1024x1024.Idx) :
    iblk T0 T1 hr m c (3 : Fin 6) t y = m (c.tc.loc main_arg5) (ix3 (expertOf T0 (crd T0 T1 hr t 0)) (y 1) (y 2)) :=
  Eq.trans (by blk_simp [iblk]; rfl) (congrArg (m (c.tc.loc main_arg5)) (ix3_of ((((cfgA T0 T1 hr).win (3 : Fin 6)).blk t).view.emb y) _ _ _
    (by have h : (y 0).val < 1 := (y 0).isLt; blk_simp [index_3 T0 T1 hr t]) (by blk_simp [index_3 T0 T1 hr t] <;> rfl) (by blk_simp [index_3 T0 T1 hr t] <;> rfl)))
theorem blk_4 (t : Fin (cfgA T0 T1 hr).N) (y : S1x1x1024.Idx) :
    iblk T0 T1 hr m c (4 : Fin 6) t y = m (c.tc.loc main_arg6) (ix3 (expertOf T0 (crd T0 T1 hr t 0)) (y 1) (y 2)) :=
  Eq.trans (by blk_simp [iblk]; rfl) (congrArg (m (c.tc.loc main_arg6)) (ix3_of ((((cfgA T0 T1 hr).win (4 : Fin 6)).blk t).view.emb y) _ _ _
    (by have h : (y 0).val < 1 := (y 0).isLt; blk_simp [index_4 T0 T1 hr t]) (by blk_simp [index_4 T0 T1 hr t] <;> rfl) (by blk_simp [index_4 T0 T1 hr t] <;> rfl)))

/-- Every point writes its block of the output back. -/
theorem flush_all : ∀ t : Fin grid0.N, Pipeline.Window.flushOf grid0 true cc0_transform_5 t = true := by decide +kernel
/-- The points are the blocks, in order. -/
theorem coords_val : ∀ t : Fin grid0.N, (grid0.coords t 0).val = t.val := by decide +kernel

/-- The points' blocks of the output cover it. -/
theorem covers : ((cfgA T0 T1 hr).win (5 : Fin 6)).Covers := by
  refine ⟨fun a => ?_, fun β => ⟨⟨(β (0 : Fin 2)).val, (β (0 : Fin 2)).isLt.trans_eq (by decide : (2752512 + 4096 - 1) / 4096 = 672)⟩, flush_all _, fun a => ⟨?_, .inl rfl⟩⟩⟩
  · match a with
    | ⟨0, _⟩ => exact (by decide : 0 < 4096)
    | ⟨1, _⟩ => exact (by decide : 0 < 128)
  · rw [index_5]
    match a with
    | ⟨0, _⟩ => exact coords_val _
    | ⟨1, _⟩ =>
      have h : (β (1 : Fin 2)).val < 1 := (β (1 : Fin 2)).isLt.trans_eq (by decide : (128 + 128 - 1) / 128 = 1)
      exact (by omega : 0 = (β (1 : Fin 2)).val)

/-- The output block from its five input blocks, each given as a part of an array: the block's expert of its tokens. -/
theorem outBlk_at (i : grid0.Coords) (X : Rows.Idx → EReal) (W₁ : Up.Idx → EReal) (B₁ : UpBias.Idx → EReal) (W₂ : Down.Idx → EReal) (B₂ : DownBias.Idx → EReal)
    (x0 : Vec Ideal S4096x128 .f32) (x1 : Vec Ideal S1x1024x2048 .bf16) (x2 : Vec Ideal S1x1x2048 .f32) (x3 : Vec Ideal S1x1024x1024 .bf16) (x4 : Vec Ideal S1x1x1024 .f32)
    (h0 : ∀ y, x0 y = X (ix2 ⟨(i 0).val * 4096 + (y 0).val, by have h : (i 0).val < 672 := (i 0).isLt; have h' : (y 0).val < 4096 := (y 0).isLt; omega⟩ (y 1)))
    (h1 : ∀ y, x1 y = W₁ (ix3 (expertOf T0 (i 0)) (y 1) (y 2))) (h2 : ∀ y, x2 y = B₁ (ix3 (expertOf T0 (i 0)) (y 1) (y 2)))
    (h3 : ∀ y, x3 y = W₂ (ix3 (expertOf T0 (i 0)) (y 1) (y 2))) (h4 : ∀ y, x4 y = B₂ (ix3 (expertOf T0 (i 0)) (y 1) (y 2)))
    (p : S4096x128.Idx) :
    outBlk i T1 x0 x1 x2 x3 x4 p = output T0 T1 X W₁ B₁ W₂ B₂ (i 0) ⟨(p 0).val / 8, by have h : (p 0).val < 4096 := (p 0).isLt; omega⟩
      ⟨(p 0).val % 8 * 128 + (p 1).val, by have h : (p 1).val < 128 := (p 1).isLt; omega⟩ := by
  unfold outBlk output
  by_cases hu : used T1 (i 0)
  · rw [if_pos hu, if_pos ((cond_iff T1 i).2 hu)]
    unfold slab
    rw [tokens_at]
    have hx : ∀ t : Fin 512, (fun k : Fin 1024 => x0 (ix2 ⟨t.val * 8 + k.val / 128, by omega⟩ ⟨k.val % 128, Nat.mod_lt _ (by decide)⟩)) = feature X (i 0) t := by
      intro t
      funext k
      refine (h0 _).trans (congrArg X (funext fun a => ?_))
      match a with
      | ⟨0, _⟩ => exact Fin.ext (by show (i 0).val * 4096 + (t.val * 8 + k.val / 128) = ((i 0).val * 512 + t.val) * 8 + k.val / 128; omega)
      | ⟨1, _⟩ => rfl
    rw [hx]
    simp only [h1, h2, h3, h4]
    rfl
  · rw [if_neg hu, if_neg (mt (cond_iff T1 i).1 hu)]
    rfl

/-- A place of a block as a row of the whole output. -/
theorem output_eq_result (X : Rows.Idx → EReal) (W₁ : Up.Idx → EReal) (B₁ : UpBias.Idx → EReal) (W₂ : Down.Idx → EReal) (B₂ : DownBias.Idx → EReal)
    (b : Fin 672) (p : S4096x128.Idx) (z : Rows.Idx) (e0 : (z 0).val = b.val * 4096 + (p 0).val) (e1 : (z 1).val = (p 1).val) :
    output T0 T1 X W₁ B₁ W₂ B₂ b ⟨(p 0).val / 8, by have h : (p 0).val < 4096 := (p 0).isLt; omega⟩
      ⟨(p 0).val % 8 * 128 + (p 1).val, by have h : (p 1).val < 128 := (p 1).isLt; omega⟩ = result T0 T1 X W₁ B₁ W₂ B₂ z := by
  have h0 : (p 0).val < 4096 := (p 0).isLt
  unfold result
  congr 1
  · exact Fin.ext (by show b.val = (z 0).val / 4096; omega)
  · exact Fin.ext (by show (p 0).val / 8 = (z 0).val % 4096 / 8; omega)
  · exact Fin.ext (by show (p 0).val % 8 * 128 + (p 1).val = (z 0).val % 8 * 128 + (z 1).val; omega)

/-- The array the call leaves: every block's tokens through the block's expert. -/
theorem arr_eq : (dats T0 T1 hr m 0 c).arrAt (5 : Fin 6) (cfgA T0 T1 hr).N
    = result T0 T1 (m (c.tc.loc main_arg2)) (m (c.tc.loc main_arg3)) (m (c.tc.loc main_arg4)) (m (c.tc.loc main_arg5)) (m (c.tc.loc main_arg6)) := by
  refine (dats T0 T1 hr m 0 c).arrAt_eq_of_covers (5 : Fin 6) _ (covers T0 T1 hr) fun t hf y => ?_
  refine Eq.trans (b := (dats T0 T1 hr m 0 c).after (5 : Fin 6) t y) (by blk_simp) ?_
  rw [after0_5]
  refine (outBlk_at T0 T1 (crd T0 T1 hr t) _ _ _ _ _ _ _ _ _ _ (blk_0 T0 T1 hr m c t) (blk_1 T0 T1 hr m c t) (blk_2 T0 T1 hr m c t) (blk_3 T0 T1 hr m c t)
    (blk_4 T0 T1 hr m c t) y).trans ?_
  have e := index_5 T0 T1 hr t
  exact output_eq_result T0 T1 _ _ _ _ _ (crd T0 T1 hr t 0) y _ (by blk_simp [e]) (by blk_simp [e])

end Cert.Kernel2Ideal.Experts

end
-- ==== Proof.ExKernel.lean ====
/- The experts call as compiled: the very call of the idealized program, so it runs as that one does. -/
module

public import proofs.«01_k».proof.Proof.ExFrame
public import proofs.«01_k».proof.Proof.Gen.Kernel2

@[expose] public section

set_option maxRecDepth 65536

open Idealize Idealize.ShloMosaic Idealize.ShloMosaic.TcCoe Idealize.SL.Sem

namespace Cert.Kernel2.Experts

open Cert.Kernel2.Gen Cert.Kernel2

variable {F : FTy → Type} [FloatOps F]

/-- The two programs have one body, -/
theorem body_eq : @cc0_moe_experts F _ _ = @Kernel2Ideal.cc0_moe_experts F _ _ := rfl

/-- one table of bodies, -/
theorem bodies_eq : @defs₀ F _ _ = @Kernel2Ideal.defs₀ F _ _ := by
  refine congrArg Defs.onTc (funext fun l => funext fun a => ?_)
  match l, a with
  | ⟨0, _⟩, (t, s) => rfl

/-- and so are one program. -/
theorem defs_eq : @defs F _ _ = @Kernel2Ideal.defs F _ _ := congrArg (Pipeline.defs (Kernel2Ideal.pcfgs (F := F))) bodies_eq

variable (T0 : S672.Idx → Elt F .i32) (T1 : S1.Idx → Elt F .i32) (hr : ∀ x, BitVec.toNat (T0 x) < 32)
  (m : (ℓ : Loc nD τ sig) → Buf (Elt F) ℓ) (ρ : Dev nD → PrngReg)

include hr in
/-- The arguments end unchanged, and every counter at zero. -/
theorem frame (hp : Kernel2Ideal.Experts.Holds (F := F) T0 T1 m) :
    θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) := by
  rw [defs_eq]
  exact Kernel2Ideal.Experts.frame (F := F) T0 T1 hr m ρ hp

end Cert.Kernel2.Experts

end
-- ==== Proof.ExRef.lean ====
/-
The reference of the layer of experts, read at an index: every gather takes the expert that the table names, and the rest is
the layer of each token.
-/
module

public import proofs.«01_k».proof.Proof.ExSpec
public import proofs.«01_k».proof.Proof.Gen.Reference2Ideal.Read

@[expose] public section

set_option maxRecDepth 16384

open Idealize Idealize.ShloMosaic Cert.Experts

namespace Cert.Reference2Ideal.Read

open Cert.Reference2Ideal Cert.Reference2Ideal.Gen

/-- A gather of whole experts out of 32 matrices of `n` rows and `k` columns. -/
abbrev takeDims (n k : ℕ) (wf : GatherDims.WF ⟨3, ![32, n, k]⟩ S672x1 ⟨3, ![672, n, k]⟩ [1, 2] [0] [] [0] [] 1 ![1, n, k]) :
    GatherDims ⟨3, ![32, n, k]⟩ S672x1 ⟨3, ![672, n, k]⟩ where
  offsetDims := [1, 2]
  collapsedSliceDims := [0]
  operandBatchingDims := []
  startIndicesBatchingDims := []
  startIndexMap := [0]
  indexVectorDim := 1
  sliceSizes := ![1, n, k]
  wf := wf

/-- It takes the expert that the table names, clamped into the 32. -/
theorem take_expert {α : Type} (n k : ℕ) (wf) (x : (⟨3, ![32, n, k]⟩ : Shape).Idx → α) (idx : IVec S672x1 32) (j : (⟨3, ![672, n, k]⟩ : Shape).Idx) :
    Host.gather (takeDims n k wf) x idx j = x (ix3 ⟨min (idx (ix2 (j 0) 0)).toInt.toNat 31, by omega⟩ (j 1) (j 2)) := by
  unfold Host.gather
  congr 1
  funext a
  refine Fin.ext ?_
  match a with
  | ⟨0, _⟩ =>
    have hsi : (takeDims n k wf).siIdx j ⟨0, Nat.one_pos⟩ = ix2 (j 0) 0 := by
      funext b
      refine Fin.ext ?_
      match b with
      | ⟨0, _⟩ => rfl
      | ⟨1, _⟩ => rfl
    show min (idx ((takeDims n k wf).siIdx j ⟨0, _⟩)).toInt.toNat 31 + 0 + 0 = _
    rw [hsi]
    rfl
  | ⟨1, _⟩ => exact Nat.zero_add _
  | ⟨2, _⟩ => exact Nat.zero_add _

/-! The reference's four gathers are such. -/

theorem take_up {α : Type} (x : S32x1024x2048.Idx → α) (idx : IVec S672x1 32) (j : S672x1024x2048.Idx) :
    Host.gather gather_S32x1024x2048_S672x1_S672x1024x2048_12_0_n_n_0_1_110242048 x idx j = x (ix3 ⟨min (idx (ix2 (j 0) 0)).toInt.toNat 31, by omega⟩ (j 1) (j 2)) :=
  take_expert 1024 2048 _ x idx j
theorem take_upBias {α : Type} (x : S32x1x2048.Idx → α) (idx : IVec S672x1 32) (j : S672x1x2048.Idx) :
    Host.gather gather_S32x1x2048_S672x1_S672x1x2048_12_0_n_n_0_1_112048 x idx j = x (ix3 ⟨min (idx (ix2 (j 0) 0)).toInt.toNat 31, by omega⟩ (j 1) (j 2)) :=
  take_expert 1 2048 _ x idx j
theorem take_down {α : Type} (x : S32x1024x1024.Idx → α) (idx : IVec S672x1 32) (j : S672x1024x1024.Idx) :
    Host.gather gather_S32x1024x1024_S672x1_S672x1024x1024_12_0_n_n_0_1_110241024 x idx j = x (ix3 ⟨min (idx (ix2 (j 0) 0)).toInt.toNat 31, by omega⟩ (j 1) (j 2)) :=
  take_expert 1024 1024 _ x idx j
theorem take_downBias {α : Type} (x : S32x1x1024.Idx → α) (idx : IVec S672x1 32) (j : S672x1x1024.Idx) :
    Host.gather gather_S32x1x1024_S672x1_S672x1x1024_12_0_n_n_0_1_111024 x idx j = x (ix3 ⟨min (idx (ix2 (j 0) 0)).toInt.toNat 31, by omega⟩ (j 1) (j 2)) :=
  take_expert 1 1024 _ x idx j

/-- A table entry that is not negative is not moved. -/
theorem select_nonneg (x y : BitVec 32) (h : 0 ≤ x.toInt) : Scalar.select (IntOp.cmpi .slt x 0#32) y x = x := by
  have e : IntOp.cmpi .slt x 0#32 = 0#1 := by
    simp only [IntOp.cmpi, BitVec.slt]
    rw [show (0#32 : BitVec 32).toInt = 0 from rfl, decide_eq_false (by omega)]
    rfl
  rw [e]
  rfl

variable (x0 : S672.Idx → BitVec 32) (x1 : S1.Idx → BitVec 32) (x2 : S2752512x128.Idx → EReal) (x3 : S32x1024x2048.Idx → EReal) (x4 : S32x1x2048.Idx → EReal)
  (x5 : S32x1024x1024.Idx → EReal) (x6 : S32x1x1024.Idx → EReal) (h0 : ∀ b, 0 ≤ (x0 b).toInt)

include h0 in
theorem index_up : val_main_v8 (F := Ideal) x0 = fun b => x0 (ix1 (b 0)) := by
  funext b
  rw [val_main_v8_apply, val_main_v7_apply, val_main_v4_apply, val_main_v3_apply, val_main_c_apply]
  exact (select_nonneg _ _ (h0 _)).trans (congrArg x0 (funext fun | ⟨0, _⟩ => rfl))
include h0 in
theorem index_upBias : val_main_v16 (F := Ideal) x0 = fun b => x0 (ix1 (b 0)) := by
  funext b
  rw [val_main_v16_apply, val_main_v15_apply, val_main_v12_apply, val_main_v11_apply, val_main_c_1_apply]
  exact (select_nonneg _ _ (h0 _)).trans (congrArg x0 (funext fun | ⟨0, _⟩ => rfl))
include h0 in
theorem index_down : val_main_v42 (F := Ideal) x0 = fun b => x0 (ix1 (b 0)) := by
  funext b
  rw [val_main_v42_apply, val_main_v41_apply, val_main_v38_apply, val_main_v37_apply, val_main_c_9_apply]
  exact (select_nonneg _ _ (h0 _)).trans (congrArg x0 (funext fun | ⟨0, _⟩ => rfl))
include h0 in
theorem index_downBias : val_main_v50 (F := Ideal) x0 = fun b => x0 (ix1 (b 0)) := by
  funext b
  rw [val_main_v50_apply, val_main_v49_apply, val_main_v46_apply, val_main_v45_apply, val_main_c_11_apply]
  exact (select_nonneg _ _ (h0 _)).trans (congrArg x0 (funext fun | ⟨0, _⟩ => rfl))

include h0 in
/-- The first product of a token, its bias added. -/
theorem first_at (b : Fin 672) (t : Fin 512) (n : Fin 2048) :
    val_main_v19 (F := Ideal) x0 x2 x3 x4 (ix3 b t n)
      = first (feature x2 b t) (fun k n => x3 (ix3 (expertOf x0 b) k n)) (fun n => x4 (ix3 (expertOf x0 b) 0 n)) n := by
  rw [val_main_v19_apply, val_main_v10_apply, val_main_v18_apply]
  unfold first val_main_v17
  rw [index_upBias x0 h0, take_upBias]
  refine congrArg₂ (· + ·) (Finset.sum_congr rfl fun k _ => congrArg₂ (· * ·) ?_ ?_) rfl
  · rw [val_main_v2_apply]
    unfold feature
    refine congrArg x2 (funext fun a => ?_)
    match a with
    | ⟨0, _⟩ => exact Fin.ext (by show ((b.val * 512 + t.val) * 1024 + k.val) / 128 = (b.val * 512 + t.val) * 8 + k.val / 128; omega)
    | ⟨1, _⟩ => exact Fin.ext (by show ((b.val * 512 + t.val) * 1024 + k.val) % 128 = k.val % 128; omega)
  · unfold val_main_v9
    rw [index_up x0 h0, take_up]
    rfl

include h0 in
/-- The hidden layer of a token. -/
theorem layer_at (b : Fin 672) (t : Fin 512) (f : Fin 1024) :
    val_main_v36 (F := Ideal) x0 x2 x3 x4 (ix3 b t f)
      = layer (feature x2 b t) (fun k n => x3 (ix3 (expertOf x0 b) k n)) (fun n => x4 (ix3 (expertOf x0 b) 0 n)) f := by
  have hg : val_main_v20 (F := Ideal) x0 x2 x3 x4 (ix3 b t f) = first (feature x2 b t) (fun k n => x3 (ix3 (expertOf x0 b) k n)) (fun n => x4 (ix3 (expertOf x0 b) 0 n)) ⟨f.val, by omega⟩ := by
    rw [val_main_v20_apply, ← first_at x0 x2 x3 x4 h0]
    exact congrArg _ (funext fun | ⟨0, _⟩ => rfl | ⟨1, _⟩ => rfl | ⟨2, _⟩ => rfl)
  have hu : val_main_v23 (F := Ideal) x0 x2 x3 x4 (ix3 b t f) = first (feature x2 b t) (fun k n => x3 (ix3 (expertOf x0 b) k n)) (fun n => x4 (ix3 (expertOf x0 b) 0 n)) ⟨1024 + f.val, by omega⟩ := by
    rw [val_main_v23_apply, ← first_at x0 x2 x3 x4 h0]
    exact congrArg _ (funext fun | ⟨0, _⟩ => rfl | ⟨1, _⟩ => rfl | ⟨2, _⟩ => rfl)
  unfold layer
  rw [← hg, ← hu]
  simp only [val_main_v36_apply, val_main_v35_apply, val_main_v34_apply, val_main_cst_8_apply, val_main_v33_apply, val_main_v32_apply, val_main_v31_apply, val_main_cst_7_apply,
    val_main_v30_apply, val_main_v29_apply, val_main_cst_6_apply, val_main_v28_apply, val_main_v27_apply, val_main_v26_apply, val_main_v25_apply, val_main_cst_5_apply,
    val_main_v24_apply, val_main_call0_v4_apply, val_main_call0_v3_apply, val_main_cst_4_apply, val_main_call0_v2_apply, val_main_call0_v1_apply, val_main_call0_v0_apply,
    val_main_cst_3_apply, val_main_v22_apply, val_main_v21_apply, val_main_cst_apply]
  generalize val_main_v20 (F := Ideal) x0 x2 x3 x4 (ix3 b t f) = g
  generalize val_main_v23 (F := Ideal) x0 x2 x3 x4 (ix3 b t f) = u
  have one : Ideal.ofBits .f32 0x3F800000#32 = 1 := Ideal.ofBits_one_f32
  unfold gated Ideal.logistic
  show (min (Ideal.ofBits .f32 0x40E00000#32) (max (Ideal.ofBits .f32 0xC0E00000#32) u) + Ideal.ofBits .f32 0x3F800000#32)
    * (min g (Ideal.ofBits .f32 0x40E00000#32) * Ideal.div (Ideal.ofBits .f32 0x3F800000#32) (Ideal.ofBits .f32 0x3F800000#32 + Ideal.exp (-(min g (Ideal.ofBits .f32 0x40E00000#32) * Ideal.ofBits .f32 0x3FD9DB23#32)))) = _
  rw [one]

include h0 in
/-- The output of a token. -/
theorem second_at (b : Fin 672) (t : Fin 512) (n : Fin 1024) :
    val_main_v53 (F := Ideal) x0 x2 x3 x4 x5 x6 (ix3 b t n)
      = second (layer (feature x2 b t) (fun k n => x3 (ix3 (expertOf x0 b) k n)) fun n => x4 (ix3 (expertOf x0 b) 0 n))
        (fun k n => x5 (ix3 (expertOf x0 b) k n)) (fun n => x6 (ix3 (expertOf x0 b) 0 n)) n := by
  rw [val_main_v53_apply, val_main_v44_apply, val_main_v52_apply]
  unfold second val_main_v51
  rw [index_downBias x0 h0, take_downBias]
  refine congrArg₂ (· + ·) (Finset.sum_congr rfl fun k _ => congrArg₂ (· * ·) ?_ ?_) rfl
  · rw [← layer_at x0 x2 x3 x4 h0]
    exact congrArg _ (funext fun | ⟨0, _⟩ => rfl | ⟨1, _⟩ => rfl | ⟨2, _⟩ => rfl)
  · unfold val_main_v43
    rw [index_down x0 h0, take_down]
    rfl

include h0 in
/-- The reference's result. -/
theorem result_at (y : S2752512x128.Idx) :
    val_main_v60 (F := Ideal) x0 x1 x2 x3 x4 x5 x6 y = result x0 x1 x2 x3 x4 x5 x6 y := by
  have hy0 : (y 0).val < 2752512 := (y 0).isLt
  have hy1 : (y 1).val < 128 := (y 1).isLt
  have e : idx_main_v60 y = ix3 ⟨(y 0).val / 4096, by omega⟩ ⟨(y 0).val % 4096 / 8, by omega⟩ ⟨(y 0).val % 8 * 128 + (y 1).val, by omega⟩ := by
    funext a
    match a with
    | ⟨0, _⟩ => exact Fin.ext (by show ((y 0).val * 128 + (y 1).val) / 524288 = (y 0).val / 4096; omega)
    | ⟨1, _⟩ => exact Fin.ext (by show ((y 0).val * 128 + (y 1).val) / 1024 % 512 = (y 0).val % 4096 / 8; omega)
    | ⟨2, _⟩ => exact Fin.ext (by show ((y 0).val * 128 + (y 1).val) % 1024 = (y 0).val % 8 * 128 + (y 1).val; omega)
  rw [val_main_v60_apply, val_main_v59_apply, e]
  unfold result output
  rw [second_at x0 x2 x3 x4 x5 x6 h0]
  rw [val_main_call1_v1_apply, val_main_v58_apply, val_main_v57_apply, val_main_v56_apply, val_main_v54_apply, val_main_call1_v2_apply, val_main_call1_v0_apply, val_main_cst_13_apply]
  have ea : val_main_v55 (F := Ideal) x1 (idx_main_v56 (idx_main_v58 (idx_main_call1_v1 (ix3 ⟨(y 0).val / 4096, by omega⟩ ⟨(y 0).val % 4096 / 8, by omega⟩ ⟨(y 0).val % 8 * 128 + (y 1).val, by omega⟩)))) = x1 (ix1 0) := by
    unfold val_main_v55
    exact shapeCast_apply x1 shapeCasts_S1_S_ _ (ix1 0) rfl
  rw [ea]
  rfl

end Cert.Reference2Ideal.Read

end
-- ==== Proof.ExClaims.lean ====
/-
The experts' claims: both programs end with the same array, and leave their arguments as they were.
-/
module

public import proofs.«01_k».proof.Defs
public import proofs.«01_k».proof.Proof.ExArray
public import proofs.«01_k».proof.Proof.ExKernel
public import proofs.«01_k».proof.Proof.ExRef
public import proofs.«01_k».proof.Proof.Gen.Pre_experts_in_range
public import Idealize.ShloMosaic.Lib.ReduceAll
public import Idealize.ShloMosaic.Lib.Quiescent

@[expose] public section

open Idealize Idealize.ShloMosaic Idealize.ShloMosaic.TcCoe Idealize.ShloMosaic.Tactic Idealize.SL.Sem Cert.Experts
set_option maxRecDepth 16384

namespace Cert.Experts

instance : Subsingleton Pre_experts_in_range.S_.Idx := ⟨fun a b => funext fun i => i.elim0⟩

/-- The two comparisons of the precondition, of one entry of the table. -/
theorem in_range (v : BitVec 32) (h : IntOp.cmpi .sge v 0#32 = 1#1) (h' : IntOp.cmpi .slt v 32#32 = 1#1) : 0 ≤ v.toInt ∧ v.toNat < 32 := by
  have e : (0#32 : BitVec 32).toInt ≤ v.toInt := by
    by_contra hc
    have z : decide ((0#32 : BitVec 32).toInt ≤ v.toInt) = false := decide_eq_false hc
    simp only [IntOp.cmpi, BitVec.sle, z] at h
    exact absurd h (by decide)
  have e' : v.toInt < (32#32 : BitVec 32).toInt := by
    by_contra hc
    have z : decide (v.toInt < (32#32 : BitVec 32).toInt) = false := decide_eq_false hc
    simp only [IntOp.cmpi, BitVec.slt, z] at h'
    exact absurd h' (by decide)
  have z : (0#32 : BitVec 32).toInt = 0 := by decide
  have z' : (32#32 : BitVec 32).toInt = 32 := by decide
  have ev := BitVec.toInt_eq_toNat_cond v
  have hv := v.isLt
  rw [z] at e
  rw [z'] at e'
  refine ⟨e, ?_⟩
  split_ifs at ev <;> omega

/-- What the precondition says: every entry of the table of experts names one of the 32. -/
theorem range_of_pre {F : FTy → Type} [FloatOps F] [Pre_experts_in_range.Facts] (x0 : IVec Pre_experts_in_range.S672 32) (x1 : IVec Pre_experts_in_range.S1 32)
    (x2 : FVec F Pre_experts_in_range.S2752512x128 .f32) (x3 : FVec F Pre_experts_in_range.S32x1024x2048 .bf16) (x4 : FVec F Pre_experts_in_range.S32x1x2048 .f32)
    (x5 : FVec F Pre_experts_in_range.S32x1024x1024 .bf16) (x6 : FVec F Pre_experts_in_range.S32x1x1024 .f32)
    (h : Pre_experts_in_range.fn (F := F) x0 x1 x2 x3 x4 x5 x6 = fun _ => 1#1) (b : Pre_experts_in_range.S672.Idx) : 0 ≤ (x0 b).toInt ∧ (x0 b).toNat < 32 := by
  have h0 := congrFun h (fun i => i.elim0)
  unfold Pre_experts_in_range.fn at h0
  have h1 := IntOp.andi_eq_one.1 (Host.reduce_andi_all _ _ _ _ _ h0 b)
  exact in_range _ h1.1 h1.2

end Cert.Experts

namespace Cert.Reference2Ideal
open Cert.Reference2Ideal.Gen

/-- The arguments end unchanged, and every counter at zero. -/
theorem experts_frame (m : (ℓ : Loc nD τ sig) → Buf (Elt Ideal) ℓ) (ρ : Dev nD → PrngReg) :
    θ_run (defs (F := Ideal)) (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run defs _ _).mono (fun r h => ⟨fun c => (h c).2, sem_eq_zero_of_no_sems (by decide) r.2⟩) (Value.run m ρ)

/-- The reference ends with every block's tokens through the block's expert, when no entry of the table is negative. -/
theorem experts (m : (ℓ : Loc nD τ sig) → Buf (Elt Ideal) ℓ) (ρ : Dev nD → PrngReg) (h0 : ∀ (c : Dev nD) b, 0 ≤ (m (c.tc.loc main_arg0) b).toInt) :
    θ_run (defs (F := Ideal)) (onTc (τ := τ) (main (F := Ideal))) ⟨m, fun _ => 0, ρ⟩ fun r => ∀ c : Dev nD,
      r.2.mem ((c.tc : Thread nD τ).loc main_v60) = result (m (c.tc.loc main_arg0)) (m (c.tc.loc main_arg1)) (m (c.tc.loc main_arg2)) (m (c.tc.loc main_arg3)) (m (c.tc.loc main_arg4)) (m (c.tc.loc main_arg5)) (m (c.tc.loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c => ⟨((h c).1.trans (Read.val_main_v60_eq m c)).trans
    (funext fun y => Read.result_at _ _ _ _ _ _ _ (h0 c) y), (h c).2⟩) (Value.run m ρ)
end Cert.Reference2Ideal

namespace Cert.Kernel2Ideal.Experts
open Cert.Kernel2Ideal Cert.Kernel2Ideal.Gen

/-- There is one device. -/
theorem holds {F : FTy → Type} [FloatOps F] (m : (ℓ : Loc nD τ sig) → Buf (Elt F) ℓ) (d : Dev nD) :
    Holds (F := F) (m ((d : Thread nD τ).loc main_arg0)) (m ((d : Thread nD τ).loc main_arg1)) m := by
  have hs : Subsingleton (Dev nD) := inferInstanceAs (Subsingleton (Fin 1))
  exact ⟨fun c => by rw [hs.elim c d], fun c => by rw [hs.elim c d]⟩

/-- The call ends with every block's tokens through the block's expert, when the table names experts. -/
theorem experts (m : (ℓ : Loc nD τ sig) → Buf (Elt Ideal) ℓ) (ρ : Dev nD → PrngReg) (hr : ∀ (c : Dev nD) b, BitVec.toNat (m (c.tc.loc main_arg0) b) < 32) :
    θ_run (defs (F := Ideal)) (onTc (τ := τ) (main (F := Ideal))) ⟨m, fun _ => 0, ρ⟩ fun r => ∀ c : Dev nD,
      r.2.mem ((c.tc : Thread nD τ).loc main_v0) = result (m (c.tc.loc main_arg0)) (m (c.tc.loc main_arg1)) (m (c.tc.loc main_arg2)) (m (c.tc.loc main_arg3)) (m (c.tc.loc main_arg4)) (m (c.tc.loc main_arg5)) (m (c.tc.loc main_arg6)) := by
  have hp := holds m (0 : Fin 1)
  refine (θ_run defs _ _).mono (fun _ h c => ((h.1 c).1 (5 : Fin 6)).trans ((arr_eq _ _ (hr (0 : Fin 1)) m c).trans ?_)) (run_main_quiescent _ _ (hr (0 : Fin 1)) m ρ hp)
  rw [hp.1 c, hp.2 c]
end Cert.Kernel2Ideal.Experts

namespace Cert.Experts

/-- The call as it runs leaves its arguments as they were. -/
theorem frame_kernel : Cert.quiescent_Kernel2 (hKernel2 := Kernel2.Gen.facts) (hPre_experts_in_range := Pre_experts_in_range.Gen.facts) := by
  intro m g hpre
  exact Kernel2.Experts.frame _ _ (fun b => (range_of_pre _ _ _ _ _ _ _ (hpre (0 : Fin 1)) b).2) m g (Kernel2Ideal.Experts.holds m (0 : Fin 1))

/-- The call over the reals leaves its arguments as they were. -/
theorem frame_ideal : Cert.quiescent_Kernel2Ideal (hKernel2Ideal := Kernel2Ideal.Gen.facts) (hPre_experts_in_range := Pre_experts_in_range.Gen.facts) := by
  intro m g hpre
  exact Kernel2Ideal.Experts.frame _ _ (fun b => (range_of_pre _ _ _ _ _ _ _ (hpre (0 : Fin 1)) b).2) m g (Kernel2Ideal.Experts.holds m (0 : Fin 1))

/-- The call and the reference leave the same array. -/
theorem algebraic : Cert.algebraic_Kernel2Ideal_Reference2Ideal (hKernel2Ideal := Kernel2Ideal.Gen.facts)
    (hReference2Ideal := Reference2Ideal.Gen.facts) (hPre_experts_in_range := Pre_experts_in_range.Gen.facts) := by
  intro m g m' g' hpre hagree
  have hin := fun c => range_of_pre _ _ _ _ _ _ _ (hpre c)
  refine ⟨fun c => result (m (c.tc.loc Kernel2Ideal.main_arg0)) (m (c.tc.loc Kernel2Ideal.main_arg1)) (m (c.tc.loc Kernel2Ideal.main_arg2)) (m (c.tc.loc Kernel2Ideal.main_arg3)) (m (c.tc.loc Kernel2Ideal.main_arg4)) (m (c.tc.loc Kernel2Ideal.main_arg5)) (m (c.tc.loc Kernel2Ideal.main_arg6)), ?_, ?_⟩
  · exact (θ_run Kernel2Ideal.defs _ _).mono (fun _ h c => ⟨h.1 c, h.2.1 c⟩)
      (θ_run_and (Kernel2Ideal.Experts.experts m g fun c b => (hin c b).2) (frame_ideal m g hpre))
  · refine (θ_run Reference2Ideal.defs _ _).mono (fun _ h c => ⟨(h c).1.trans ?_, (h c).2⟩)
      (Reference2Ideal.experts m' g' fun c b => by rw [(hagree c).1]; exact (hin c b).1)
    obtain ⟨e0, e1, e2, e3, e4, e5, e6⟩ := hagree c
    rw [e0, e1, e2, e3, e4, e5, e6]

end Cert.Experts

end
-- ==== Proof.InSpec.lean ====
/-
The input projection of a token: its features by one matrix make the attention's query, key and value with the gate of the
gated linear attention, by another those of the neighbourhood attention, and by a product of two small ones its decays.
-/
module

public import Idealize.ShloMosaic.Lib.IdealHost
public import Idealize.ShloMosaic.Lib.Pointwise

@[expose] public section

open Idealize Idealize.ShloMosaic

namespace Cert.Project

/-- The tokens, and one projection of all of them. -/
abbrev Tokens : Shape := ⟨2, ![81920, 1024]⟩
abbrev Part : Shape := ⟨2, ![81920, 512]⟩
/-- The large matrices, the two small ones and the bias. -/
abbrev Wide : Shape := ⟨2, ![1024, 1536]⟩
abbrev Narrow : Shape := ⟨2, ![1024, 128]⟩
abbrev Widen : Shape := ⟨2, ![128, 512]⟩
abbrev Bias : Shape := ⟨2, ![1, 512]⟩

/-- Column `j` of a token's features `x` by the matrix `w`. -/
noncomputable def column (x : Fin 1024 → EReal) (w : Wide.Idx → EReal) (j : Fin 1536) : EReal := ∑ k, x k * w (ix2 k j)

/-- The columns from `o` on. -/
noncomputable def part (o : ℕ) (ho : o + 512 ≤ 1536) (x : Fin 1024 → EReal) (w : Wide.Idx → EReal) (j : Fin 512) : EReal :=
  column x w ⟨o + j.val, by omega⟩

/-- The first 512 columns, over the square root of the heads' width. -/
noncomputable def scaled (x : Fin 1024 → EReal) (w : Wide.Idx → EReal) (j : Fin 512) : EReal :=
  column x w ⟨j.val, by omega⟩ * Ideal.ofBits .f32 0x3E000000#32

/-- The first 512 columns, the queries' half of them over the square root of the heads' width. -/
noncomputable def queryKey (x : Fin 1024 → EReal) (w : Wide.Idx → EReal) (j : Fin 512) : EReal :=
  if j.val < 256 then column x w ⟨j.val, by omega⟩ * Ideal.ofBits .f32 0x3E000000#32 else column x w ⟨j.val, by omega⟩

/-- The argument of a token's decay. -/
noncomputable def before (x : Fin 1024 → EReal) (a : Narrow.Idx → EReal) (b : Widen.Idx → EReal) (c : Bias.Idx → EReal) (j : Fin 512) : EReal :=
  (∑ r : Fin 128, (∑ k, x k * a (ix2 k r)) * b (ix2 r j)) + c (ix2 0 j)

/-- The logarithm of the logistic function, over sixteen. -/
noncomputable def decay (p : EReal) : EReal :=
  (min p 0 - Ideal.log1p (Ideal.exp (-max p (-p)))) * Ideal.ofBits .f32 0x3D800000#32

/-- A token's decays. -/
noncomputable def decays (x : Fin 1024 → EReal) (a : Narrow.Idx → EReal) (b : Widen.Idx → EReal) (c : Bias.Idx → EReal) (j : Fin 512) : EReal :=
  decay (before x a b c j)

/-- A projection of every token. -/
def all (f : (Fin 1024 → EReal) → Fin 512 → EReal) (X : Tokens.Idx → EReal) (y : Part.Idx) : EReal := f (fun k => X (ix2 (y 0) k)) (y 1)

/-- The f32 pattern of zero. -/
theorem zero : Ideal.ofBits .f32 0x00000000#32 = 0 := by simp [Ideal.ofBits, Ideal.ieee]

/-- The f32 pattern of sixteen. -/
theorem sixteen : Ideal.ofBits .f32 0x41800000#32 = ((16 : ℝ) : EReal) := by
  simp [Ideal.ofBits, Ideal.ieee, -EReal.coe_mul]; norm_num

/-- The f32 pattern of a sixteenth. -/
theorem sixteenth : Ideal.ofBits .f32 0x3D800000#32 = (((1 : ℝ) / 16 : ℝ) : EReal) := by
  simp [Ideal.ofBits, Ideal.ieee, -EReal.coe_mul]; norm_num

/-- A quotient by sixteen. -/
theorem div_sixteen (x : EReal) : Ideal.div x (Ideal.ofBits .f32 0x41800000#32) = x * Ideal.ofBits .f32 0x3D800000#32 := by
  rw [sixteen, sixteenth]
  unfold Ideal.div
  rw [if_neg (by exact_mod_cast (by norm_num : (16 : ℝ) ≠ 0)), ← EReal.coe_inv]
  norm_num

/-- The logarithm of one plus an exponential of what is not positive is a real number. -/
theorem log1p_exp_real (z : EReal) (hz : z ≠ ⊤) : ∃ r : ℝ, Ideal.log1p (Ideal.exp z) = r := by
  induction z with
  | top => exact absurd rfl hz
  | bot =>
    refine ⟨Real.log 1, ?_⟩
    show Ideal.log (1 + 0) = _
    rw [add_zero]
    show (if (1 : ℝ) ≤ 0 then (⊥ : EReal) else (Real.log 1 : EReal)) = _
    rw [if_neg (by norm_num)]
  | coe z =>
    refine ⟨Real.log (1 + Real.exp z), ?_⟩
    show (if 1 + Real.exp z ≤ 0 then (⊥ : EReal) else (Real.log (1 + Real.exp z) : EReal)) = _
    rw [if_neg (by have := Real.exp_pos z; linarith)]

/-- The decay by the logarithm of a sum of exponentials. -/
theorem decay_eq (p : EReal) :
    Ideal.div (-(max (-p) 0 + Ideal.log1p (Ideal.exp (-max (-p) (- -p))))) (Ideal.ofBits .f32 0x41800000#32) = decay p := by
  rw [div_sixteen, neg_neg, max_comm (-p) p]
  unfold decay
  congr 1
  obtain ⟨r, hr⟩ := log1p_exp_real (-max p (-p)) (by
    intro h
    have h' : max p (-p) = ⊥ := by rw [← neg_neg (max p (-p)), h]; rfl
    have h1 : p = ⊥ := le_bot_iff.mp (h' ▸ le_max_left p (-p))
    have h2 : -p = ⊥ := le_bot_iff.mp (h' ▸ le_max_right p (-p))
    rw [h1] at h2
    exact absurd h2 (by simp))
  rw [hr, EReal.neg_add (.inr (EReal.coe_ne_top r)) (.inr (EReal.coe_ne_bot r))]
  congr 1
  rcases le_total p 0 with h | h
  · rw [max_eq_left (EReal.le_neg_of_le_neg (by simpa using h)), neg_neg, min_eq_left h]
  · rw [max_eq_right (EReal.neg_le_of_neg_le (by simpa using h)), neg_zero, min_eq_right h]

end Cert.Project

end
-- ==== Proof.InBody.lean ====
/- The value of one block of the input projection over the reals. -/
module

public import proofs.«01_k».proof.Proof.Gen.Kernel3Ideal.Value
public import proofs.«01_k».proof.Proof.InSpec
public import Idealize.ShloMosaic.Lib.Pipeline.ValueKit

@[expose] public section

open Idealize Idealize.ShloMosaic Cert.Project
namespace Cert.Kernel3Ideal.Project
open Cert.Kernel3Ideal Cert.Kernel3Ideal.Gen
set_option maxRecDepth 16384

theorem corner : (![0, 0] : Fin 2 → ℕ) = fun _ => 0 := funext fun | ⟨0, _⟩ => rfl | ⟨1, _⟩ => rfl

variable (x0 : Vec Ideal S512x1024 .f32) (x1 x2 : Vec Ideal S1x1024 .f32) (x3 : Vec Ideal S1024x1536 .bf16) (x4 : Vec Ideal S1024x128 .bf16)
  (x5 : Vec Ideal S128x512 .bf16) (x6 : Vec Ideal S1x512 .f32) (x7 : Vec Ideal S1024x1536 .bf16)

/-- The products of a block's token by the two large matrices. -/
theorem columns_at (t : Fin 512) (j : Fin 1536) : k0_pay7 x0 x3 (ix2 t j) = column (fun k => x0 (ix2 t k)) x3 j := by
  unfold k0_pay7 k0_pay6 column
  pointwise
theorem columns'_at (t : Fin 512) (j : Fin 1536) : k0_pay2 (k0_pay6 x0) x7 (ix2 t j) = column (fun k => x0 (ix2 t k)) x7 j := by
  unfold k0_pay2 k0_pay6 column
  pointwise

/-! What a block's token leaves in each of the seven outputs. -/

theorem out_8 (t j : Fin 512) : out0_8 x0 x1 x2 x3 x4 x5 x6 x7 (ix2 t j) = queryKey (fun k => x0 (ix2 t k)) x3 j := by
  unfold out0_8
  rw [View.ld_unit_zero corner, View.ld_unit_zero corner]
  refine View.canon_apply_of_pieces (Val := Elt Ideal) (fun y : S512x512.Idx => queryKey (fun k => x0 (ix2 (y 0) k)) x3 (y 1)) _ ?_ (ix2 t j) (cover0_8 _ _ _)
  intro pc hpc
  rcases List.mem_cons.mp hpc with rfl | hpc
  · intro x
    have h : (x 1).val < 256 := (x 1).isLt
    refine Eq.trans ?_ (if_neg (by show ¬256 + 1 * (x 1).val < 256; omega)).symm
    refine Eq.trans ?_ (columns_at x0 x3 _ _)
    exact congrArg (k0_pay7 x0 x3) (funext fun
      | ⟨0, _⟩ => Fin.ext (by show 0 + (x 0).val = 0 + 1 * (x 0).val; omega)
      | ⟨1, _⟩ => Fin.ext (by show 256 + (x 1).val = 256 + 1 * (x 1).val; omega))
  · rcases List.mem_cons.mp hpc with rfl | hpc
    · intro x
      have h : (x 1).val < 256 := (x 1).isLt
      refine Eq.trans ?_ (if_pos (by show 0 + 1 * (x 1).val < 256; omega)).symm
      refine Eq.trans ?_ (congrArg (· * _) (columns_at x0 x3 _ _))
      exact congrArg (fun i => k0_pay7 x0 x3 i * Ideal.ofBits .f32 0x3E000000#32) (funext fun
        | ⟨0, _⟩ => Fin.ext (by show 0 + (x 0).val = 0 + 1 * (x 0).val; omega)
        | ⟨1, _⟩ => Fin.ext (by show 0 + (x 1).val = 0 + 1 * (x 1).val; omega))
    · nomatch hpc

theorem out_9 (t j : Fin 512) : out0_9 x0 x1 x2 x3 x4 x5 x6 x7 (ix2 t j) = part 512 (by decide) (fun k => x0 (ix2 t k)) x3 j := by
  unfold out0_9 part
  rw [View.canon_unit_zero corner, View.ld_unit_zero corner, View.ld_unit_zero corner, ← columns_at]
  exact congrArg (k0_pay7 x0 x3) (funext fun | ⟨0, _⟩ => Fin.ext (Nat.zero_add _) | ⟨1, _⟩ => rfl)
theorem out_10 (t j : Fin 512) : out0_10 x0 x1 x2 x3 x4 x5 x6 x7 (ix2 t j) = part 1024 (by decide) (fun k => x0 (ix2 t k)) x3 j := by
  unfold out0_10 part
  rw [View.canon_unit_zero corner, View.ld_unit_zero corner, View.ld_unit_zero corner, ← columns_at]
  exact congrArg (k0_pay7 x0 x3) (funext fun | ⟨0, _⟩ => Fin.ext (Nat.zero_add _) | ⟨1, _⟩ => rfl)

/-- The argument of a block's token's decay. -/
theorem before_at (t j : Fin 512) : k0_pay12 x0 x4 x5 x6 (ix2 t j) = before (fun k => x0 (ix2 t k)) x4 x5 x6 j := by
  unfold k0_pay12 k0_pay6 before
  pointwise

theorem out_11 (t j : Fin 512) : out0_11 x0 x1 x2 x3 x4 x5 x6 x7 (ix2 t j) = decays (fun k => x0 (ix2 t k)) x4 x5 x6 j := by
  unfold out0_11 decays
  rw [View.canon_unit_zero corner, View.ld_unit_zero corner, View.ld_unit_zero corner, View.ld_unit_zero corner, View.ld_unit_zero corner, ← before_at]
  unfold k0_pay1 k0_pay13 k0_pay14 decay
  generalize k0_pay12 x0 x4 x5 x6 = p
  show (min (p (ix2 t j)) (Ideal.ofBits .f32 0x00000000#32) - Ideal.log1p (Ideal.exp (Ideal.ofBits .f32 0x00000000#32 - max (p (ix2 t j)) (-p (ix2 t j))))) * _ = _
  rw [zero, zero_sub]
  rfl

theorem out_12 (t j : Fin 512) : out0_12 x0 x1 x2 x3 x4 x5 x6 x7 (ix2 t j) = scaled (fun k => x0 (ix2 t k)) x7 j := by
  unfold out0_12 k0_pay15 scaled
  rw [View.canon_unit_zero corner, View.ld_unit_zero corner, View.ld_unit_zero corner, ← columns'_at]
  exact congrArg (fun i => k0_pay2 (k0_pay6 x0) x7 i * Ideal.ofBits .f32 0x3E000000#32) (funext fun | ⟨0, _⟩ => Fin.ext (Nat.zero_add _) | ⟨1, _⟩ => Fin.ext (Nat.zero_add _))
theorem out_13 (t j : Fin 512) : out0_13 x0 x1 x2 x3 x4 x5 x6 x7 (ix2 t j) = part 512 (by decide) (fun k => x0 (ix2 t k)) x7 j := by
  unfold out0_13 k0_pay15 part
  rw [View.canon_unit_zero corner, View.ld_unit_zero corner, View.ld_unit_zero corner, ← columns'_at]
  exact congrArg (k0_pay2 (k0_pay6 x0) x7) (funext fun | ⟨0, _⟩ => Fin.ext (Nat.zero_add _) | ⟨1, _⟩ => rfl)
theorem out_14 (t j : Fin 512) : out0_14 x0 x1 x2 x3 x4 x5 x6 x7 (ix2 t j) = part 1024 (by decide) (fun k => x0 (ix2 t k)) x7 j := by
  unfold out0_14 k0_pay15 part
  rw [View.canon_unit_zero corner, View.ld_unit_zero corner, View.ld_unit_zero corner, ← columns'_at]
  exact congrArg (k0_pay2 (k0_pay6 x0) x7) (funext fun | ⟨0, _⟩ => Fin.ext (Nat.zero_add _) | ⟨1, _⟩ => rfl)

end Cert.Kernel3Ideal.Project

end
-- ==== Proof.InArray.lean ====
/- The seven arrays the input projection leaves: the projections of every token. -/
module

public import proofs.«01_k».proof.Proof.InBody

@[expose] public section

open Idealize Idealize.ShloMosaic Cert.Project
namespace Cert.Kernel3Ideal.Project
open Cert.Kernel3Ideal Cert.Kernel3Ideal.Gen Idealize.ShloMosaic.TcCoe Idealize.ShloMosaic.Tactic
set_option maxRecDepth 16384

variable (m : (ℓ : Loc nD τ sig) → Buf (Elt Ideal) ℓ) (c : Dev nD)

/-- A point's block of tokens is its own. -/
theorem own (t : Fin cfg0.N) : (![(BitVec.ofNat 32 (grid0.coords t 0).val).toNat, (0#32 : BitVec 32).toNat] : Fin 2 → ℕ) = ![t.val, 0] := by
  have e : (grid0.coords t 0).val = t.val := (by decide +kernel : ∀ t : Fin grid0.N, (grid0.coords t 0).val = t.val) t
  have h : t.val < 160 := t.isLt
  rw [e, BitVec.toNat_ofNat, Nat.mod_eq_of_lt (by omega)]
  rfl

/-- A point's block of tokens. -/
theorem tokens_at (t : Fin cfg0.N) (y : S512x1024.Idx) : iblk m c 0 t y = m (c.tc.loc main_arg0)
    (ix2 ⟨t.val * 512 + (y 0).val, by have h : t.val < 160 := t.isLt; have h' : (y 0).val < 512 := (y 0).isLt; omega⟩ (y 1)) := by
  refine Eq.trans (by blk_simp [iblk]) (congrArg (m (c.tc.loc main_arg0)) (?_ : ((cfg0.win 0).blk t).view.emb y = _))
  have e : (cfg0.win 0).index t = ![t.val, 0] := own t
  funext a
  match a with
  | ⟨0, _⟩ => exact Fin.ext (by blk_simp [e] <;> rfl)
  | ⟨1, _⟩ => exact Fin.ext (by blk_simp [e] <;> rfl)

/-- Two indices of two entries, entry by entry. -/
theorem same {a b : ℕ} (z y : (⟨2, ![a, b]⟩ : Shape).Idx) (h0 : (z 0).val = (y 0).val) (h1 : (z 1).val = (y 1).val) : z = y :=
  funext fun | ⟨0, _⟩ => Fin.ext h0 | ⟨1, _⟩ => Fin.ext h1

/-- The matrices and the bias are read whole: their blocks don't move. -/
theorem whole (t : Fin cfg0.N) : iblk m c 3 t = m (c.tc.loc main_arg3) ∧ iblk m c 4 t = m (c.tc.loc main_arg4)
    ∧ iblk m c 5 t = m (c.tc.loc main_arg5) ∧ iblk m c 6 t = m (c.tc.loc main_arg6) ∧ iblk m c 7 t = m (c.tc.loc main_arg7) := by
  have e : (cfg0.win 3).index t = ![0, 0] ∧ (cfg0.win 4).index t = ![0, 0] ∧ (cfg0.win 5).index t = ![0, 0] ∧ (cfg0.win 6).index t = ![0, 0]
    ∧ (cfg0.win 7).index t = ![0, 0] := ⟨rfl, rfl, rfl, rfl, rfl⟩
  refine ⟨?_, ?_, ?_, ?_, ?_⟩ <;> funext y <;> blk_simp [iblk] <;> refine congrArg (V m c _) (same _ y ?_ ?_) <;> blk_simp [e]

/-- Every output is cut into the points' blocks. -/
theorem covers : ∀ w : Fin 15, 8 ≤ w.val → (cfg0.win w).Covers := by decide +kernel

/-- What a block holds of a projection of its tokens is that of all of them. -/
theorem all_of_block (f : (Fin 1024 → EReal) → Fin 512 → EReal) (X : Tokens.Idx → EReal) (b : Fin 160) (x0 : S512x1024.Idx → EReal) (o : S512x512.Idx → EReal)
    (hx : ∀ y, x0 y = X (ix2 ⟨b.val * 512 + (y 0).val, by have h' : (y 0).val < 512 := (y 0).isLt; omega⟩ (y 1)))
    (ho : ∀ t j : Fin 512, o (ix2 t j) = f (fun k => x0 (ix2 t k)) j) (y : S512x512.Idx) (z : Part.Idx)
    (e0 : (z 0).val = b.val * 512 + (y 0).val) (e1 : (z 1).val = (y 1).val) : o y = all f X z := by
  have ey : y = ix2 (y 0) (y 1) := funext fun | ⟨0, _⟩ => rfl | ⟨1, _⟩ => rfl
  rw [ey]
  refine (ho (y 0) (y 1)).trans ?_
  unfold all
  refine congrArg₂ f (funext fun k => (hx _).trans (congrArg X (funext fun | ⟨0, _⟩ => Fin.ext e0.symm | ⟨1, _⟩ => rfl))) (Fin.ext e1.symm)

/-- The seven arrays: of every token, the projection of the block it lies in. -/
theorem arrays :
    (dats m 0 c).arrAt 8 cfg0.N = all (fun x => queryKey x (m (c.tc.loc main_arg3))) (m (c.tc.loc main_arg0))
    ∧ (dats m 0 c).arrAt 9 cfg0.N = all (fun x => part 512 (by decide) x (m (c.tc.loc main_arg3))) (m (c.tc.loc main_arg0))
    ∧ (dats m 0 c).arrAt 10 cfg0.N = all (fun x => part 1024 (by decide) x (m (c.tc.loc main_arg3))) (m (c.tc.loc main_arg0))
    ∧ (dats m 0 c).arrAt 11 cfg0.N = all (fun x => decays x (m (c.tc.loc main_arg4)) (m (c.tc.loc main_arg5)) (m (c.tc.loc main_arg6))) (m (c.tc.loc main_arg0))
    ∧ (dats m 0 c).arrAt 12 cfg0.N = all (fun x => scaled x (m (c.tc.loc main_arg7))) (m (c.tc.loc main_arg0))
    ∧ (dats m 0 c).arrAt 13 cfg0.N = all (fun x => part 512 (by decide) x (m (c.tc.loc main_arg7))) (m (c.tc.loc main_arg0))
    ∧ (dats m 0 c).arrAt 14 cfg0.N = all (fun x => part 1024 (by decide) x (m (c.tc.loc main_arg7))) (m (c.tc.loc main_arg0)) := by
  refine ⟨?_, ?_, ?_, ?_, ?_, ?_, ?_⟩ <;>
    refine (dats m 0 c).arrAt_eq_of_covers _ _ (covers _ (by decide)) fun t hf y => Eq.trans (b := (dats m 0 c).after _ t y) (by blk_simp) ?_ <;>
    obtain ⟨w3, w4, w5, w6, w7⟩ := whole m c t <;>
    have e : (cfg0.win 8).index t = ![t.val, 0] ∧ (cfg0.win 9).index t = ![t.val, 0] ∧ (cfg0.win 10).index t = ![t.val, 0]
      ∧ (cfg0.win 11).index t = ![t.val, 0] ∧ (cfg0.win 12).index t = ![t.val, 0] ∧ (cfg0.win 13).index t = ![t.val, 0]
      ∧ (cfg0.win 14).index t = ![t.val, 0] := ⟨own t, own t, own t, own t, own t, own t, own t⟩ <;>
    simp only [after0_8, after0_9, after0_10, after0_11, after0_12, after0_13, after0_14, w3, w4, w5, w6, w7] <;>
    refine all_of_block _ _ t _ _ (tokens_at m c t) ?_ y _ (by blk_simp [e]) (by blk_simp [e])
  exacts [out_8 _ _ _ _ _ _ _ _, out_9 _ _ _ _ _ _ _ _, out_10 _ _ _ _ _ _ _ _, out_11 _ _ _ _ _ _ _ _, out_12 _ _ _ _ _ _ _ _,
    out_13 _ _ _ _ _ _ _ _, out_14 _ _ _ _ _ _ _ _]

end Cert.Kernel3Ideal.Project

end
-- ==== Proof.InRef.lean ====
/- The reference of the input projection, read at an index. -/
module

public import proofs.«01_k».proof.Proof.InSpec
public import proofs.«01_k».proof.Proof.Gen.Reference3Ideal.Read

@[expose] public section

set_option maxRecDepth 16384

open Idealize Idealize.ShloMosaic Cert.Project

namespace Cert.Reference3Ideal.Read

open Cert.Reference3Ideal Cert.Reference3Ideal.Gen

variable (x0 : S81920x1024.Idx → EReal) (x3 x7 : S1024x1536.Idx → EReal) (x4 : S1024x128.Idx → EReal) (x5 : S128x512.Idx → EReal) (x6 : S1x512.Idx → EReal)

/-- An index of two entries, entry by entry. -/
theorem ix2_of {a b : ℕ} (z : (⟨2, ![a, b]⟩ : Shape).Idx) (u : Fin a) (v : Fin b) (h0 : (z 0).val = u.val) (h1 : (z 1).val = v.val) : z = ix2 u v := by
  funext i
  match i with
  | ⟨0, _⟩ => exact Fin.ext h0
  | ⟨1, _⟩ => exact Fin.ext h1

/-! The products by the two large matrices. -/

theorem columns_at (i : S81920x1536.Idx) (j : Fin 1536) (hj : (i 1).val = j.val) :
    val_main_v4 (F := Ideal) x0 x3 i = column (fun k => x0 (ix2 (i 0) k)) x3 j := by
  rw [val_main_v4_apply]
  exact Finset.sum_congr rfl fun k _ => congrArg₂ (· * ·) (congrArg x0 (ix2_of _ _ _ rfl rfl)) (congrArg x3 (ix2_of _ _ _ rfl hj))
theorem columns'_at (i : S81920x1536.Idx) (j : Fin 1536) (hj : (i 1).val = j.val) :
    val_main_v16 (F := Ideal) x0 x7 i = column (fun k => x0 (ix2 (i 0) k)) x7 j := by
  rw [val_main_v16_apply]
  exact Finset.sum_congr rfl fun k _ => congrArg₂ (· * ·) (congrArg x0 (ix2_of _ _ _ rfl rfl)) (congrArg x7 (ix2_of _ _ _ rfl hj))

/-! The seven results. -/

theorem result_23 : val_main_v23 (F := Ideal) x0 x3 = all (fun x => queryKey x x3) x0 := by
  funext y
  have hy : (y 1).val < 512 := (y 1).isLt
  rw [val_main_v23_apply]
  unfold val_main_v22
  by_cases h : (y 1).val < 256
  · refine Eq.trans ?_ (if_pos h).symm
    refine (concatenate_pair_apply_left (t := S81920x512) (s₁ := S81920x256) (s₂ := S81920x256) (1 : Fin 2) _ _ _ y rfl (ix2 (y 0) ⟨(y 1).val, h⟩) (fun | ⟨0, _⟩ => rfl | ⟨1, _⟩ => rfl)).trans ?_
    rw [val_main_v21_apply, val_main_v5_apply, val_main_v20_apply, val_main_cst_0_apply]
    exact congrArg (· * _) (columns_at x0 x3 _ _ rfl)
  · refine Eq.trans ?_ (if_neg h).symm
    refine (concatenate_pair_apply_right (t := S81920x512) (s₁ := S81920x256) (s₂ := S81920x256) (1 : Fin 2) _ _ _ y rfl rfl (ix2 (y 0) ⟨(y 1).val - 256, by omega⟩) (fun | ⟨0, _⟩ => fun _ => rfl | ⟨1, _⟩ => fun hb => absurd rfl hb)
      (by show (y 1).val - 256 + 256 = (y 1).val; omega)).trans ?_
    rw [val_main_v6_apply]
    exact columns_at x0 x3 _ _ (by show 256 + ((y 1).val - 256) = (y 1).val; omega)
theorem result_24 : val_main_v24 (F := Ideal) x0 x3 = all (fun x => part 512 (by decide) x x3) x0 := by
  funext y
  rw [val_main_v24_apply, val_main_v7_apply]
  exact columns_at x0 x3 _ _ rfl
theorem result_8 : val_main_v8 (F := Ideal) x0 x3 = all (fun x => part 1024 (by decide) x x3) x0 := by
  funext y
  rw [val_main_v8_apply]
  exact columns_at x0 x3 _ _ rfl
theorem result_27 : val_main_v27 (F := Ideal) x0 x7 = all (fun x => scaled x x7) x0 := by
  funext y
  rw [val_main_v27_apply, val_main_v26_apply, val_main_v17_apply, val_main_v25_apply, val_main_cst_1_apply]
  exact congrArg (· * _) (columns'_at x0 x7 _ _ rfl)
theorem result_28 : val_main_v28 (F := Ideal) x0 x7 = all (fun x => part 512 (by decide) x x7) x0 := by
  funext y
  rw [val_main_v28_apply, val_main_v18_apply]
  exact columns'_at x0 x7 _ _ rfl
theorem result_29 : val_main_v29 (F := Ideal) x0 x7 = all (fun x => part 1024 (by decide) x x7) x0 := by
  funext y
  rw [val_main_v29_apply, val_main_v19_apply]
  exact columns'_at x0 x7 _ _ rfl

/-- The argument of the decay. -/
theorem before_at (y : S81920x512.Idx) : val_main_v12 (F := Ideal) x0 x4 x5 x6 y = before (fun k => x0 (ix2 (y 0) k)) x4 x5 x6 (y 1) := by
  rw [val_main_v12_apply, val_main_v10_apply, val_main_v11_apply]
  refine congrArg₂ (· + ·) (Finset.sum_congr rfl fun r _ => congrArg₂ (· * ·) ?_ (congrArg x5 (ix2_of _ _ _ rfl rfl))) (congrArg x6 (ix2_of _ _ _ rfl rfl))
  rw [val_main_v9_apply]
  exact Finset.sum_congr rfl fun k _ => congrArg₂ (· * ·) (congrArg x0 (ix2_of _ _ _ rfl rfl)) (congrArg x4 (ix2_of _ _ _ rfl rfl))

theorem result_15 : val_main_v15 (F := Ideal) x0 x4 x5 x6 = all (fun x => decays x x4 x5 x6) x0 := by
  funext y
  refine Eq.trans ?_ ((decay_eq _).trans (congrArg decay (before_at x0 x4 x5 x6 y)))
  simp only [val_main_v15_apply, val_main_v14_apply, val_main_cst_apply, val_main_v13_apply, val_main_call0_v1_apply, val_main_call0_call0_v11_apply, val_main_call0_call0_v10_apply,
    val_main_call0_call0_v9_apply, val_main_call0_call0_v8_apply, val_main_call0_call0_v7_apply, val_main_call0_call0_v6_apply, val_main_call0_call0_v5_apply, val_main_call0_call0_v4_apply,
    val_main_call0_call0_v3_apply, val_main_call0_call0_v2_apply, val_main_call0_call0_v1_apply, val_main_call0_call0_v0_apply, val_main_call0_call0_cst_apply, val_main_call0_v0_apply]
  generalize val_main_v12 (F := Ideal) x0 x4 x5 x6 y = p
  have hs : (FloatOps.cmpf (F := Ideal) (φ := .f32) .une (-p - Ideal.ofBits .f32 0x00000000#32) (-p - Ideal.ofBits .f32 0x00000000#32)) = 0#1 := by
    show Ideal.cmp .une _ _ = 0#1
    simp [Ideal.cmp]
  refine congrArg₂ Ideal.div (congrArg (fun e : EReal => -e) ?_) rfl
  refine (congrArg (fun b => Scalar.select b _ _) hs).trans ?_
  show max (-p) (Ideal.ofBits .f32 0x00000000#32) + Ideal.log1p (Ideal.exp (-max (-p - Ideal.ofBits .f32 0x00000000#32) (-(-p - Ideal.ofBits .f32 0x00000000#32)))) = _
  rw [zero, sub_zero]

end Cert.Reference3Ideal.Read

end
-- ==== Proof.InClaims.lean ====
/- The input projection's claims: both programs end with the same seven arrays, and leave their arguments as they were. -/
module

public import proofs.«01_k».proof.Defs
public import proofs.«01_k».proof.Proof.InArray
public import proofs.«01_k».proof.Proof.InRef
public import proofs.«01_k».proof.Proof.Gen.Kernel3.Frame
public import Idealize.ShloMosaic.Lib.Quiescent

@[expose] public section

open Idealize Idealize.ShloMosaic Idealize.ShloMosaic.TcCoe Idealize.SL.Sem Cert.Project

namespace Cert.Reference3Ideal
open Cert.Reference3Ideal.Gen

/-- The arguments end unchanged, and every counter at zero. -/
theorem projection_frame (m : (ℓ : Loc nD τ sig) → Buf (Elt Ideal) ℓ) (ρ : Dev nD → PrngReg) :
    θ_run (defs (F := Ideal)) (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  (θ_run defs _ _).mono (fun r h => ⟨fun c => (h c).2.2.2.2.2.2.2, sem_eq_zero_of_no_sems (by decide) r.2⟩) (Value.run m ρ)
end Cert.Reference3Ideal

namespace Cert.Project

/-- The call and the reference leave the same arrays. -/
theorem algebraic : Cert.algebraic_Kernel3Ideal_Reference3Ideal (hKernel3Ideal := Kernel3Ideal.Gen.facts) (hReference3Ideal := Reference3Ideal.Gen.facts) := by
  intro m g m' g' _ hagree
  refine ⟨_, _, _, _, _, _, _, Kernel3Ideal.Value.run_blocks m g, (θ_run Reference3Ideal.defs _ _).mono (fun r h c => ?_) (Reference3Ideal.Value.run m' g')⟩
  obtain ⟨a0, a1, a2, a3, a4, a5, a6⟩ := Kernel3Ideal.Project.arrays m c
  obtain ⟨e0, -, -, e3, e4, e5, e6, e7⟩ := hagree c
  obtain ⟨h0, h1, h2, h3, h4, h5, h6, h7⟩ := h c
  refine ⟨?_, ?_, ?_, ?_, ?_, ?_, ?_, h7⟩
  · rw [a0, ← e0, ← e3]
    exact h0.trans ((Reference3Ideal.Read.val_main_v23_eq _ _).trans (Reference3Ideal.Read.result_23 _ _))
  · rw [a1, ← e0, ← e3]
    exact h1.trans ((Reference3Ideal.Read.val_main_v24_eq _ _).trans (Reference3Ideal.Read.result_24 _ _))
  · rw [a2, ← e0, ← e3]
    exact h2.trans ((Reference3Ideal.Read.val_main_v8_eq _ _).trans (Reference3Ideal.Read.result_8 _ _))
  · rw [a3, ← e0, ← e4, ← e5, ← e6]
    exact h3.trans ((Reference3Ideal.Read.val_main_v15_eq _ _ _ _).trans (Reference3Ideal.Read.result_15 _ _ _ _))
  · rw [a4, ← e0, ← e7]
    exact h4.trans ((Reference3Ideal.Read.val_main_v27_eq _ _).trans (Reference3Ideal.Read.result_27 _ _))
  · rw [a5, ← e0, ← e7]
    exact h5.trans ((Reference3Ideal.Read.val_main_v28_eq _ _).trans (Reference3Ideal.Read.result_28 _ _))
  · rw [a6, ← e0, ← e7]
    exact h6.trans ((Reference3Ideal.Read.val_main_v29_eq _ _).trans (Reference3Ideal.Read.result_29 _ _))

end Cert.Project

end
-- ==== Proof.lean ====
/- The claims of the certificate, from the frames and the value of each program. -/
module

public import proofs.«01_k».proof.Defs
public import proofs.«01_k».proof.Proof.NaClaims
public import proofs.«01_k».proof.Proof.ExClaims
public import proofs.«01_k».proof.Proof.InClaims
public import proofs.«01_k».proof.Proof.Gen.Kernel
public import proofs.«01_k».proof.Proof.Gen.KernelIdeal
public import proofs.«01_k».proof.Proof.Gen.ReferenceIdeal
public import proofs.«01_k».proof.Proof.Gen.Kernel2
public import proofs.«01_k».proof.Proof.Gen.Kernel2Ideal
public import proofs.«01_k».proof.Proof.Gen.Reference2Ideal
public import proofs.«01_k».proof.Proof.Gen.Kernel3
public import proofs.«01_k».proof.Proof.Gen.Kernel3Ideal
public import proofs.«01_k».proof.Proof.Gen.Reference3Ideal
public import proofs.«01_k».proof.Proof.Gen.Pre_finite_scores
public import proofs.«01_k».proof.Proof.Gen.Pre_experts_in_range

@[expose] public section

noncomputable section

namespace Cert.Proof

open Idealize.ShloMosaic Idealize.SL.Sem

theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Pre_finite_scores.Gen.facts, Cert.Pre_experts_in_range.Gen.facts,
    fun m g _ => Cert.Kernel.Na.frame m g, fun m g _ => Cert.KernelIdeal.Na.frame m g, fun m g _ => Cert.KernelIdeal.Na.frame m g,
    fun m g _ => Cert.Na.reference_frame m g, fun m g _ => Cert.Na.reference_frame m g,
    Cert.Experts.frame_kernel, Cert.Experts.frame_ideal,
    fun m g _ => Cert.Reference2Ideal.experts_frame m g, fun m g _ => Cert.Reference2Ideal.experts_frame m g,
    fun m g _ => Cert.Kernel3.Gen.frame m g, fun m g _ => Cert.Kernel3Ideal.Gen.frame m g, fun m g _ => Cert.Reference3Ideal.projection_frame m g,
    trivial, Cert.Na.algebraic, trivial, Cert.Experts.algebraic, trivial, Cert.Project.algebraic⟩

end Cert.Proof

end
